-- ==== Defs.lean ====
def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_DxnKernel (m : (ℓ : Loc Cert.DxnKernel.nD Cert.DxnKernel.τ Cert.DxnKernel.sig) → Buf (Elt Bits) ℓ) : Prop :=
  True

def Pre_DxnKernelIdeal (m : (ℓ : Loc Cert.DxnKernelIdeal.nD Cert.DxnKernelIdeal.τ Cert.DxnKernelIdeal.sig) → Buf (Elt Ideal) ℓ) : Prop :=
  True

def Pre_DxnKernelIdeal_proper_scales [hPre_proper_scales : Cert.Pre_proper_scales.Facts] (m : (ℓ : Loc Cert.DxnKernelIdeal.nD Cert.DxnKernelIdeal.τ Cert.DxnKernelIdeal.sig) → Buf (Elt Ideal) ℓ) : Prop :=
  ∀ c : Dev Cert.DxnKernelIdeal.nD,
    (Cert.Pre_proper_scales.fn (F := Ideal) (m ((c.tc : Thread Cert.DxnKernelIdeal.nD Cert.DxnKernelIdeal.τ).loc Cert.DxnKernelIdeal.main_arg0)) (m ((c.tc : Thread Cert.DxnKernelIdeal.nD Cert.DxnKernelIdeal.τ).loc Cert.DxnKernelIdeal.main_arg1)) (m ((c.tc : Thread Cert.DxnKernelIdeal.nD Cert.DxnKernelIdeal.τ).loc Cert.DxnKernelIdeal.main_arg2)) (m ((c.tc : Thread Cert.DxnKernelIdeal.nD Cert.DxnKernelIdeal.τ).loc Cert.DxnKernelIdeal.main_arg3)) (m ((c.tc : Thread Cert.DxnKernelIdeal.nD Cert.DxnKernelIdeal.τ).loc Cert.DxnKernelIdeal.main_arg4)) (m ((c.tc : Thread Cert.DxnKernelIdeal.nD Cert.DxnKernelIdeal.τ).loc Cert.DxnKernelIdeal.main_arg5)) (m ((c.tc : Thread Cert.DxnKernelIdeal.nD Cert.DxnKernelIdeal.τ).loc Cert.DxnKernelIdeal.main_arg6)) (m ((c.tc : Thread Cert.DxnKernelIdeal.nD Cert.DxnKernelIdeal.τ).loc Cert.DxnKernelIdeal.main_arg7)) (m ((c.tc : Thread Cert.DxnKernelIdeal.nD Cert.DxnKernelIdeal.τ).loc Cert.DxnKernelIdeal.main_arg8)) (m ((c.tc : Thread Cert.DxnKernelIdeal.nD Cert.DxnKernelIdeal.τ).loc Cert.DxnKernelIdeal.main_arg9))) = (fun _ => 1#1)

def Pre_DxnReferenceIdeal (m : (ℓ : Loc Cert.DxnReferenceIdeal.nD Cert.DxnReferenceIdeal.τ Cert.DxnReferenceIdeal.sig) → Buf (Elt Ideal) ℓ) : Prop :=
  True

def Pre_DxnReferenceIdeal_proper_scales [hPre_proper_scales : Cert.Pre_proper_scales.Facts] (m : (ℓ : Loc Cert.DxnReferenceIdeal.nD Cert.DxnReferenceIdeal.τ Cert.DxnReferenceIdeal.sig) → Buf (Elt Ideal) ℓ) : Prop :=
  ∀ c : Dev Cert.DxnReferenceIdeal.nD,
    (Cert.Pre_proper_scales.fn (F := Ideal) (m ((c.tc : Thread Cert.DxnReferenceIdeal.nD Cert.DxnReferenceIdeal.τ).loc Cert.DxnReferenceIdeal.main_arg0)) (m ((c.tc : Thread Cert.DxnReferenceIdeal.nD Cert.DxnReferenceIdeal.τ).loc Cert.DxnReferenceIdeal.main_arg1)) (m ((c.tc : Thread Cert.DxnReferenceIdeal.nD Cert.DxnReferenceIdeal.τ).loc Cert.DxnReferenceIdeal.main_arg2)) (m ((c.tc : Thread Cert.DxnReferenceIdeal.nD Cert.DxnReferenceIdeal.τ).loc Cert.DxnReferenceIdeal.main_arg3)) (m ((c.tc : Thread Cert.DxnReferenceIdeal.nD Cert.DxnReferenceIdeal.τ).loc Cert.DxnReferenceIdeal.main_arg4)) (m ((c.tc : Thread Cert.DxnReferenceIdeal.nD Cert.DxnReferenceIdeal.τ).loc Cert.DxnReferenceIdeal.main_arg5)) (m ((c.tc : Thread Cert.DxnReferenceIdeal.nD Cert.DxnReferenceIdeal.τ).loc Cert.DxnReferenceIdeal.main_arg6)) (m ((c.tc : Thread Cert.DxnReferenceIdeal.nD Cert.DxnReferenceIdeal.τ).loc Cert.DxnReferenceIdeal.main_arg7)) (m ((c.tc : Thread Cert.DxnReferenceIdeal.nD Cert.DxnReferenceIdeal.τ).loc Cert.DxnReferenceIdeal.main_arg8)) (m ((c.tc : Thread Cert.DxnReferenceIdeal.nD Cert.DxnReferenceIdeal.τ).loc Cert.DxnReferenceIdeal.main_arg9))) = (fun _ => 1#1)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3)
      ∧ r.2.mem ((c.tc : Thread Cert.DownKernel.nD Cert.DownKernel.τ).loc Cert.DownKernel.main_arg4) = m ((c.tc : Thread Cert.DownKernel.nD Cert.DownKernel.τ).loc Cert.DownKernel.main_arg4)
      ∧ r.2.mem ((c.tc : Thread Cert.DownKernel.nD Cert.DownKernel.τ).loc Cert.DownKernel.main_arg5) = m ((c.tc : Thread Cert.DownKernel.nD Cert.DownKernel.τ).loc Cert.DownKernel.main_arg5)
      ∧ r.2.mem ((c.tc : Thread Cert.DownKernel.nD Cert.DownKernel.τ).loc Cert.DownKernel.main_arg6) = m ((c.tc : Thread Cert.DownKernel.nD Cert.DownKernel.τ).loc Cert.DownKernel.main_arg6)
      ∧ r.2.mem ((c.tc : Thread Cert.DownKernel.nD Cert.DownKernel.τ).loc Cert.DownKernel.main_arg7) = m ((c.tc : Thread Cert.DownKernel.nD Cert.DownKernel.τ).loc Cert.DownKernel.main_arg7)
      ∧ r.2.mem ((c.tc : Thread Cert.DownKernel.nD Cert.DownKernel.τ).loc Cert.DownKernel.main_arg8) = m ((c.tc : Thread Cert.DownKernel.nD Cert.DownKernel.τ).loc Cert.DownKernel.main_arg8))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
      ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
      ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5)
      ∧ r.2.mem ((c.tc : Thread Cert.DownKernelIdeal.nD Cert.DownKernelIdeal.τ).loc Cert.DownKernelIdeal.main_arg6) = m ((c.tc : Thread Cert.DownKernelIdeal.nD Cert.DownKernelIdeal.τ).loc Cert.DownKernelIdeal.main_arg6)
      ∧ r.2.mem ((c.tc : Thread Cert.DownKernelIdeal.nD Cert.DownKernelIdeal.τ).loc Cert.DownKernelIdeal.main_arg7) = m ((c.tc : Thread Cert.DownKernelIdeal.nD Cert.DownKernelIdeal.τ).loc Cert.DownKernelIdeal.main_arg7)
      ∧ r.2.mem ((c.tc : Thread Cert.DownKernelIdeal.nD Cert.DownKernelIdeal.τ).loc Cert.DownKernelIdeal.main_arg8) = m ((c.tc : Thread Cert.DownKernelIdeal.nD Cert.DownKernelIdeal.τ).loc Cert.DownKernelIdeal.main_arg8))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5)
      ∧ r.2.mem ((c.tc : Thread Cert.DownReferenceIdeal.nD Cert.DownReferenceIdeal.τ).loc Cert.DownReferenceIdeal.main_arg6) = m ((c.tc : Thread Cert.DownReferenceIdeal.nD Cert.DownReferenceIdeal.τ).loc Cert.DownReferenceIdeal.main_arg6)
      ∧ r.2.mem ((c.tc : Thread Cert.DownReferenceIdeal.nD Cert.DownReferenceIdeal.τ).loc Cert.DownReferenceIdeal.main_arg7) = m ((c.tc : Thread Cert.DownReferenceIdeal.nD Cert.DownReferenceIdeal.τ).loc Cert.DownReferenceIdeal.main_arg7)
      ∧ r.2.mem ((c.tc : Thread Cert.DownReferenceIdeal.nD Cert.DownReferenceIdeal.τ).loc Cert.DownReferenceIdeal.main_arg8) = m ((c.tc : Thread Cert.DownReferenceIdeal.nD Cert.DownReferenceIdeal.τ).loc Cert.DownReferenceIdeal.main_arg8))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1)
      ∧ r.2.mem ((c.tc : Thread Cert.DwKernel.nD Cert.DwKernel.τ).loc Cert.DwKernel.main_arg2) = m ((c.tc : Thread Cert.DwKernel.nD Cert.DwKernel.τ).loc Cert.DwKernel.main_arg2)
      ∧ r.2.mem ((c.tc : Thread Cert.DwKernel.nD Cert.DwKernel.τ).loc Cert.DwKernel.main_arg3) = m ((c.tc : Thread Cert.DwKernel.nD Cert.DwKernel.τ).loc Cert.DwKernel.main_arg3)
      ∧ r.2.mem ((c.tc : Thread Cert.DwKernel.nD Cert.DwKernel.τ).loc Cert.DwKernel.main_arg4) = m ((c.tc : Thread Cert.DwKernel.nD Cert.DwKernel.τ).loc Cert.DwKernel.main_arg4)
      ∧ r.2.mem ((c.tc : Thread Cert.DwKernel.nD Cert.DwKernel.τ).loc Cert.DwKernel.main_arg5) = m ((c.tc : Thread Cert.DwKernel.nD Cert.DwKernel.τ).loc Cert.DwKernel.main_arg5)
      ∧ r.2.mem ((c.tc : Thread Cert.DwKernel.nD Cert.DwKernel.τ).loc Cert.DwKernel.main_arg6) = m ((c.tc : Thread Cert.DwKernel.nD Cert.DwKernel.τ).loc Cert.DwKernel.main_arg6)
      ∧ r.2.mem ((c.tc : Thread Cert.DwKernel.nD Cert.DwKernel.τ).loc Cert.DwKernel.main_arg7) = m ((c.tc : Thread Cert.DwKernel.nD Cert.DwKernel.τ).loc Cert.DwKernel.main_arg7)
      ∧ r.2.mem ((c.tc : Thread Cert.DwKernel.nD Cert.DwKernel.τ).loc Cert.DwKernel.main_arg8) = m ((c.tc : Thread Cert.DwKernel.nD Cert.DwKernel.τ).loc Cert.DwKernel.main_arg8)
      ∧ r.2.mem ((c.tc : Thread Cert.DwKernel.nD Cert.DwKernel.τ).loc Cert.DwKernel.main_arg9) = m ((c.tc : Thread Cert.DwKernel.nD Cert.DwKernel.τ).loc Cert.DwKernel.main_arg9)
      ∧ r.2.mem ((c.tc : Thread Cert.DwKernel.nD Cert.DwKernel.τ).loc Cert.DwKernel.main_arg10) = m ((c.tc : Thread Cert.DwKernel.nD Cert.DwKernel.τ).loc Cert.DwKernel.main_arg10))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
      ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2)
      ∧ r.2.mem ((c.tc : Thread Cert.DwKernelIdeal.nD Cert.DwKernelIdeal.τ).loc Cert.DwKernelIdeal.main_arg3) = m ((c.tc : Thread Cert.DwKernelIdeal.nD Cert.DwKernelIdeal.τ).loc Cert.DwKernelIdeal.main_arg3)
      ∧ r.2.mem ((c.tc : Thread Cert.DwKernelIdeal.nD Cert.DwKernelIdeal.τ).loc Cert.DwKernelIdeal.main_arg4) = m ((c.tc : Thread Cert.DwKernelIdeal.nD Cert.DwKernelIdeal.τ).loc Cert.DwKernelIdeal.main_arg4)
      ∧ r.2.mem ((c.tc : Thread Cert.DwKernelIdeal.nD Cert.DwKernelIdeal.τ).loc Cert.DwKernelIdeal.main_arg5) = m ((c.tc : Thread Cert.DwKernelIdeal.nD Cert.DwKernelIdeal.τ).loc Cert.DwKernelIdeal.main_arg5)
      ∧ r.2.mem ((c.tc : Thread Cert.DwKernelIdeal.nD Cert.DwKernelIdeal.τ).loc Cert.DwKernelIdeal.main_arg6) = m ((c.tc : Thread Cert.DwKernelIdeal.nD Cert.DwKernelIdeal.τ).loc Cert.DwKernelIdeal.main_arg6)
      ∧ r.2.mem ((c.tc : Thread Cert.DwKernelIdeal.nD Cert.DwKernelIdeal.τ).loc Cert.DwKernelIdeal.main_arg7) = m ((c.tc : Thread Cert.DwKernelIdeal.nD Cert.DwKernelIdeal.τ).loc Cert.DwKernelIdeal.main_arg7)
      ∧ r.2.mem ((c.tc : Thread Cert.DwKernelIdeal.nD Cert.DwKernelIdeal.τ).loc Cert.DwKernelIdeal.main_arg8) = m ((c.tc : Thread Cert.DwKernelIdeal.nD Cert.DwKernelIdeal.τ).loc Cert.DwKernelIdeal.main_arg8)
      ∧ r.2.mem ((c.tc : Thread Cert.DwKernelIdeal.nD Cert.DwKernelIdeal.τ).loc Cert.DwKernelIdeal.main_arg9) = m ((c.tc : Thread Cert.DwKernelIdeal.nD Cert.DwKernelIdeal.τ).loc Cert.DwKernelIdeal.main_arg9)
      ∧ r.2.mem ((c.tc : Thread Cert.DwKernelIdeal.nD Cert.DwKernelIdeal.τ).loc Cert.DwKernelIdeal.main_arg10) = m ((c.tc : Thread Cert.DwKernelIdeal.nD Cert.DwKernelIdeal.τ).loc Cert.DwKernelIdeal.main_arg10))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1)
      ∧ r.2.mem ((c.tc : Thread Cert.DwReferenceIdeal.nD Cert.DwReferenceIdeal.τ).loc Cert.DwReferenceIdeal.main_arg2) = m ((c.tc : Thread Cert.DwReferenceIdeal.nD Cert.DwReferenceIdeal.τ).loc Cert.DwReferenceIdeal.main_arg2)
      ∧ r.2.mem ((c.tc : Thread Cert.DwReferenceIdeal.nD Cert.DwReferenceIdeal.τ).loc Cert.DwReferenceIdeal.main_arg3) = m ((c.tc : Thread Cert.DwReferenceIdeal.nD Cert.DwReferenceIdeal.τ).loc Cert.DwReferenceIdeal.main_arg3)
      ∧ r.2.mem ((c.tc : Thread Cert.DwReferenceIdeal.nD Cert.DwReferenceIdeal.τ).loc Cert.DwReferenceIdeal.main_arg4) = m ((c.tc : Thread Cert.DwReferenceIdeal.nD Cert.DwReferenceIdeal.τ).loc Cert.DwReferenceIdeal.main_arg4)
      ∧ r.2.mem ((c.tc : Thread Cert.DwReferenceIdeal.nD Cert.DwReferenceIdeal.τ).loc Cert.DwReferenceIdeal.main_arg5) = m ((c.tc : Thread Cert.DwReferenceIdeal.nD Cert.DwReferenceIdeal.τ).loc Cert.DwReferenceIdeal.main_arg5)
      ∧ r.2.mem ((c.tc : Thread Cert.DwReferenceIdeal.nD Cert.DwReferenceIdeal.τ).loc Cert.DwReferenceIdeal.main_arg6) = m ((c.tc : Thread Cert.DwReferenceIdeal.nD Cert.DwReferenceIdeal.τ).loc Cert.DwReferenceIdeal.main_arg6)
      ∧ r.2.mem ((c.tc : Thread Cert.DwReferenceIdeal.nD Cert.DwReferenceIdeal.τ).loc Cert.DwReferenceIdeal.main_arg7) = m ((c.tc : Thread Cert.DwReferenceIdeal.nD Cert.DwReferenceIdeal.τ).loc Cert.DwReferenceIdeal.main_arg7)
      ∧ r.2.mem ((c.tc : Thread Cert.DwReferenceIdeal.nD Cert.DwReferenceIdeal.τ).loc Cert.DwReferenceIdeal.main_arg8) = m ((c.tc : Thread Cert.DwReferenceIdeal.nD Cert.DwReferenceIdeal.τ).loc Cert.DwReferenceIdeal.main_arg8)
      ∧ r.2.mem ((c.tc : Thread Cert.DwReferenceIdeal.nD Cert.DwReferenceIdeal.τ).loc Cert.DwReferenceIdeal.main_arg9) = m ((c.tc : Thread Cert.DwReferenceIdeal.nD Cert.DwReferenceIdeal.τ).loc Cert.DwReferenceIdeal.main_arg9)
      ∧ r.2.mem ((c.tc : Thread Cert.DwReferenceIdeal.nD Cert.DwReferenceIdeal.τ).loc Cert.DwReferenceIdeal.main_arg10) = m ((c.tc : Thread Cert.DwReferenceIdeal.nD Cert.DwReferenceIdeal.τ).loc Cert.DwReferenceIdeal.main_arg10))
      ∧ r.2.sem = fun _ => 0)

def quiescent_DxnKernel [hDxnKernel : Cert.DxnKernel.Facts] : Prop :=
  ∀ (m : (ℓ : Loc Cert.DxnKernel.nD Cert.DxnKernel.τ Cert.DxnKernel.sig) → Buf (Elt Bits) ℓ) (g : Dev Cert.DxnKernel.nD → PrngReg), Pre_DxnKernel m →
    θ_run (Cert.DxnKernel.defs (F := Bits)) (onTc (τ := Cert.DxnKernel.τ) (Cert.DxnKernel.main (F := Bits))) ⟨m, fun _ => 0, g⟩ (fun r => (∀ c : Dev Cert.DxnKernel.nD,
      r.2.mem ((c.tc : Thread Cert.DxnKernel.nD Cert.DxnKernel.τ).loc Cert.DxnKernel.main_arg0) = m ((c.tc : Thread Cert.DxnKernel.nD Cert.DxnKernel.τ).loc Cert.DxnKernel.main_arg0)
      ∧ r.2.mem ((c.tc : Thread Cert.DxnKernel.nD Cert.DxnKernel.τ).loc Cert.DxnKernel.main_arg1) = m ((c.tc : Thread Cert.DxnKernel.nD Cert.DxnKernel.τ).loc Cert.DxnKernel.main_arg1)
      ∧ r.2.mem ((c.tc : Thread Cert.DxnKernel.nD Cert.DxnKernel.τ).loc Cert.DxnKernel.main_arg2) = m ((c.tc : Thread Cert.DxnKernel.nD Cert.DxnKernel.τ).loc Cert.DxnKernel.main_arg2)
      ∧ r.2.mem ((c.tc : Thread Cert.DxnKernel.nD Cert.DxnKernel.τ).loc Cert.DxnKernel.main_arg3) = m ((c.tc : Thread Cert.DxnKernel.nD Cert.DxnKernel.τ).loc Cert.DxnKernel.main_arg3)
      ∧ r.2.mem ((c.tc : Thread Cert.DxnKernel.nD Cert.DxnKernel.τ).loc Cert.DxnKernel.main_arg4) = m ((c.tc : Thread Cert.DxnKernel.nD Cert.DxnKernel.τ).loc Cert.DxnKernel.main_arg4)
      ∧ r.2.mem ((c.tc : Thread Cert.DxnKernel.nD Cert.DxnKernel.τ).loc Cert.DxnKernel.main_arg5) = m ((c.tc : Thread Cert.DxnKernel.nD Cert.DxnKernel.τ).loc Cert.DxnKernel.main_arg5)
      ∧ r.2.mem ((c.tc : Thread Cert.DxnKernel.nD Cert.DxnKernel.τ).loc Cert.DxnKernel.main_arg6) = m ((c.tc : Thread Cert.DxnKernel.nD Cert.DxnKernel.τ).loc Cert.DxnKernel.main_arg6)
      ∧ r.2.mem ((c.tc : Thread Cert.DxnKernel.nD Cert.DxnKernel.τ).loc Cert.DxnKernel.main_arg7) = m ((c.tc : Thread Cert.DxnKernel.nD Cert.DxnKernel.τ).loc Cert.DxnKernel.main_arg7)
      ∧ r.2.mem ((c.tc : Thread Cert.DxnKernel.nD Cert.DxnKernel.τ).loc Cert.DxnKernel.main_arg8) = m ((c.tc : Thread Cert.DxnKernel.nD Cert.DxnKernel.τ).loc Cert.DxnKernel.main_arg8)
      ∧ r.2.mem ((c.tc : Thread Cert.DxnKernel.nD Cert.DxnKernel.τ).loc Cert.DxnKernel.main_arg9) = m ((c.tc : Thread Cert.DxnKernel.nD Cert.DxnKernel.τ).loc Cert.DxnKernel.main_arg9))
      ∧ r.2.sem = fun _ => 0)

def quiescent_DxnKernelIdeal [hDxnKernelIdeal : Cert.DxnKernelIdeal.Facts] : Prop :=
  ∀ (m : (ℓ : Loc Cert.DxnKernelIdeal.nD Cert.DxnKernelIdeal.τ Cert.DxnKernelIdeal.sig) → Buf (Elt Ideal) ℓ) (g : Dev Cert.DxnKernelIdeal.nD → PrngReg), Pre_DxnKernelIdeal m →
    θ_run (Cert.DxnKernelIdeal.defs (F := Ideal)) (onTc (τ := Cert.DxnKernelIdeal.τ) (Cert.DxnKernelIdeal.main (F := Ideal))) ⟨m, fun _ => 0, g⟩ (fun r => (∀ c : Dev Cert.DxnKernelIdeal.nD,
      r.2.mem ((c.tc : Thread Cert.DxnKernelIdeal.nD Cert.DxnKernelIdeal.τ).loc Cert.DxnKernelIdeal.main_arg0) = m ((c.tc : Thread Cert.DxnKernelIdeal.nD Cert.DxnKernelIdeal.τ).loc Cert.DxnKernelIdeal.main_arg0)
      ∧ r.2.mem ((c.tc : Thread Cert.DxnKernelIdeal.nD Cert.DxnKernelIdeal.τ).loc Cert.DxnKernelIdeal.main_arg1) = m ((c.tc : Thread Cert.DxnKernelIdeal.nD Cert.DxnKernelIdeal.τ).loc Cert.DxnKernelIdeal.main_arg1)
      ∧ r.2.mem ((c.tc : Thread Cert.DxnKernelIdeal.nD Cert.DxnKernelIdeal.τ).loc Cert.DxnKernelIdeal.main_arg2) = m ((c.tc : Thread Cert.DxnKernelIdeal.nD Cert.DxnKernelIdeal.τ).loc Cert.DxnKernelIdeal.main_arg2)
      ∧ r.2.mem ((c.tc : Thread Cert.DxnKernelIdeal.nD Cert.DxnKernelIdeal.τ).loc Cert.DxnKernelIdeal.main_arg3) = m ((c.tc : Thread Cert.DxnKernelIdeal.nD Cert.DxnKernelIdeal.τ).loc Cert.DxnKernelIdeal.main_arg3)
      ∧ r.2.mem ((c.tc : Thread Cert.DxnKernelIdeal.nD Cert.DxnKernelIdeal.τ).loc Cert.DxnKernelIdeal.main_arg4) = m ((c.tc : Thread Cert.DxnKernelIdeal.nD Cert.DxnKernelIdeal.τ).loc Cert.DxnKernelIdeal.main_arg4)
      ∧ r.2.mem ((c.tc : Thread Cert.DxnKernelIdeal.nD Cert.DxnKernelIdeal.τ).loc Cert.DxnKernelIdeal.main_arg5) = m ((c.tc : Thread Cert.DxnKernelIdeal.nD Cert.DxnKernelIdeal.τ).loc Cert.DxnKernelIdeal.main_arg5)
      ∧ r.2.mem ((c.tc : Thread Cert.DxnKernelIdeal.nD Cert.DxnKernelIdeal.τ).loc Cert.DxnKernelIdeal.main_arg6) = m ((c.tc : Thread Cert.DxnKernelIdeal.nD Cert.DxnKernelIdeal.τ).loc Cert.DxnKernelIdeal.main_arg6)
      ∧ r.2.mem ((c.tc : Thread Cert.DxnKernelIdeal.nD Cert.DxnKernelIdeal.τ).loc Cert.DxnKernelIdeal.main_arg7) = m ((c.tc : Thread Cert.DxnKernelIdeal.nD Cert.DxnKernelIdeal.τ).loc Cert.DxnKernelIdeal.main_arg7)
      ∧ r.2.mem ((c.tc : Thread Cert.DxnKernelIdeal.nD Cert.DxnKernelIdeal.τ).loc Cert.DxnKernelIdeal.main_arg8) = m ((c.tc : Thread Cert.DxnKernelIdeal.nD Cert.DxnKernelIdeal.τ).loc Cert.DxnKernelIdeal.main_arg8)
      ∧ r.2.mem ((c.tc : Thread Cert.DxnKernelIdeal.nD Cert.DxnKernelIdeal.τ).loc Cert.DxnKernelIdeal.main_arg9) = m ((c.tc : Thread Cert.DxnKernelIdeal.nD Cert.DxnKernelIdeal.τ).loc Cert.DxnKernelIdeal.main_arg9))
      ∧ r.2.sem = fun _ => 0)

def quiescent_DxnKernelIdeal_pre_proper_scales [hDxnKernelIdeal : Cert.DxnKernelIdeal.Facts] [hPre_proper_scales : Cert.Pre_proper_scales.Facts] : Prop :=
  ∀ (m : (ℓ : Loc Cert.DxnKernelIdeal.nD Cert.DxnKernelIdeal.τ Cert.DxnKernelIdeal.sig) → Buf (Elt Ideal) ℓ) (g : Dev Cert.DxnKernelIdeal.nD → PrngReg), Pre_DxnKernelIdeal_proper_scales m →
    θ_run (Cert.DxnKernelIdeal.defs (F := Ideal)) (onTc (τ := Cert.DxnKernelIdeal.τ) (Cert.DxnKernelIdeal.main (F := Ideal))) ⟨m, fun _ => 0, g⟩ (fun r => (∀ c : Dev Cert.DxnKernelIdeal.nD,
      r.2.mem ((c.tc : Thread Cert.DxnKernelIdeal.nD Cert.DxnKernelIdeal.τ).loc Cert.DxnKernelIdeal.main_arg0) = m ((c.tc : Thread Cert.DxnKernelIdeal.nD Cert.DxnKernelIdeal.τ).loc Cert.DxnKernelIdeal.main_arg0)
      ∧ r.2.mem ((c.tc : Thread Cert.DxnKernelIdeal.nD Cert.DxnKernelIdeal.τ).loc Cert.DxnKernelIdeal.main_arg1) = m ((c.tc : Thread Cert.DxnKernelIdeal.nD Cert.DxnKernelIdeal.τ).loc Cert.DxnKernelIdeal.main_arg1)
      ∧ r.2.mem ((c.tc : Thread Cert.DxnKernelIdeal.nD Cert.DxnKernelIdeal.τ).loc Cert.DxnKernelIdeal.main_arg2) = m ((c.tc : Thread Cert.DxnKernelIdeal.nD Cert.DxnKernelIdeal.τ).loc Cert.DxnKernelIdeal.main_arg2)
      ∧ r.2.mem ((c.tc : Thread Cert.DxnKernelIdeal.nD Cert.DxnKernelIdeal.τ).loc Cert.DxnKernelIdeal.main_arg3) = m ((c.tc : Thread Cert.DxnKernelIdeal.nD Cert.DxnKernelIdeal.τ).loc Cert.DxnKernelIdeal.main_arg3)
      ∧ r.2.mem ((c.tc : Thread Cert.DxnKernelIdeal.nD Cert.DxnKernelIdeal.τ).loc Cert.DxnKernelIdeal.main_arg4) = m ((c.tc : Thread Cert.DxnKernelIdeal.nD Cert.DxnKernelIdeal.τ).loc Cert.DxnKernelIdeal.main_arg4)
      ∧ r.2.mem ((c.tc : Thread Cert.DxnKernelIdeal.nD Cert.DxnKernelIdeal.τ).loc Cert.DxnKernelIdeal.main_arg5) = m ((c.tc : Thread Cert.DxnKernelIdeal.nD Cert.DxnKernelIdeal.τ).loc Cert.DxnKernelIdeal.main_arg5)
      ∧ r.2.mem ((c.tc : Thread Cert.DxnKernelIdeal.nD Cert.DxnKernelIdeal.τ).loc Cert.DxnKernelIdeal.main_arg6) = m ((c.tc : Thread Cert.DxnKernelIdeal.nD Cert.DxnKernelIdeal.τ).loc Cert.DxnKernelIdeal.main_arg6)
      ∧ r.2.mem ((c.tc : Thread Cert.DxnKernelIdeal.nD Cert.DxnKernelIdeal.τ).loc Cert.DxnKernelIdeal.main_arg7) = m ((c.tc : Thread Cert.DxnKernelIdeal.nD Cert.DxnKernelIdeal.τ).loc Cert.DxnKernelIdeal.main_arg7)
      ∧ r.2.mem ((c.tc : Thread Cert.DxnKernelIdeal.nD Cert.DxnKernelIdeal.τ).loc Cert.DxnKernelIdeal.main_arg8) = m ((c.tc : Thread Cert.DxnKernelIdeal.nD Cert.DxnKernelIdeal.τ).loc Cert.DxnKernelIdeal.main_arg8)
      ∧ r.2.mem ((c.tc : Thread Cert.DxnKernelIdeal.nD Cert.DxnKernelIdeal.τ).loc Cert.DxnKernelIdeal.main_arg9) = m ((c.tc : Thread Cert.DxnKernelIdeal.nD Cert.DxnKernelIdeal.τ).loc Cert.DxnKernelIdeal.main_arg9))
      ∧ r.2.sem = fun _ => 0)

def quiescent_DxnReferenceIdeal [hDxnReferenceIdeal : Cert.DxnReferenceIdeal.Facts] : Prop :=
  ∀ (m : (ℓ : Loc Cert.DxnReferenceIdeal.nD Cert.DxnReferenceIdeal.τ Cert.DxnReferenceIdeal.sig) → Buf (Elt Ideal) ℓ) (g : Dev Cert.DxnReferenceIdeal.nD → PrngReg), Pre_DxnReferenceIdeal m →
    θ_run (Cert.DxnReferenceIdeal.defs (F := Ideal)) (onTc (τ := Cert.DxnReferenceIdeal.τ) (Cert.DxnReferenceIdeal.main (F := Ideal))) ⟨m, fun _ => 0, g⟩ (fun r => (∀ c : Dev Cert.DxnReferenceIdeal.nD,
      r.2.mem ((c.tc : Thread Cert.DxnReferenceIdeal.nD Cert.DxnReferenceIdeal.τ).loc Cert.DxnReferenceIdeal.main_arg0) = m ((c.tc : Thread Cert.DxnReferenceIdeal.nD Cert.DxnReferenceIdeal.τ).loc Cert.DxnReferenceIdeal.main_arg0)
      ∧ r.2.mem ((c.tc : Thread Cert.DxnReferenceIdeal.nD Cert.DxnReferenceIdeal.τ).loc Cert.DxnReferenceIdeal.main_arg1) = m ((c.tc : Thread Cert.DxnReferenceIdeal.nD Cert.DxnReferenceIdeal.τ).loc Cert.DxnReferenceIdeal.main_arg1)
      ∧ r.2.mem ((c.tc : Thread Cert.DxnReferenceIdeal.nD Cert.DxnReferenceIdeal.τ).loc Cert.DxnReferenceIdeal.main_arg2) = m ((c.tc : Thread Cert.DxnReferenceIdeal.nD Cert.DxnReferenceIdeal.τ).loc Cert.DxnReferenceIdeal.main_arg2)
      ∧ r.2.mem ((c.tc : Thread Cert.DxnReferenceIdeal.nD Cert.DxnReferenceIdeal.τ).loc Cert.DxnReferenceIdeal.main_arg3) = m ((c.tc : Thread Cert.DxnReferenceIdeal.nD Cert.DxnReferenceIdeal.τ).loc Cert.DxnReferenceIdeal.main_arg3)
      ∧ r.2.mem ((c.tc : Thread Cert.DxnReferenceIdeal.nD Cert.DxnReferenceIdeal.τ).loc Cert.DxnReferenceIdeal.main_arg4) = m ((c.tc : Thread Cert.DxnReferenceIdeal.nD Cert.DxnReferenceIdeal.τ).loc Cert.DxnReferenceIdeal.main_arg4)
      ∧ r.2.mem ((c.tc : Thread Cert.DxnReferenceIdeal.nD Cert.DxnReferenceIdeal.τ).loc Cert.DxnReferenceIdeal.main_arg5) = m ((c.tc : Thread Cert.DxnReferenceIdeal.nD Cert.DxnReferenceIdeal.τ).loc Cert.DxnReferenceIdeal.main_arg5)
      ∧ r.2.mem ((c.tc : Thread Cert.DxnReferenceIdeal.nD Cert.DxnReferenceIdeal.τ).loc Cert.DxnReferenceIdeal.main_arg6) = m ((c.tc : Thread Cert.DxnReferenceIdeal.nD Cert.DxnReferenceIdeal.τ).loc Cert.DxnReferenceIdeal.main_arg6)
      ∧ r.2.mem ((c.tc : Thread Cert.DxnReferenceIdeal.nD Cert.DxnReferenceIdeal.τ).loc Cert.DxnReferenceIdeal.main_arg7) = m ((c.tc : Thread Cert.DxnReferenceIdeal.nD Cert.DxnReferenceIdeal.τ).loc Cert.DxnReferenceIdeal.main_arg7)
      ∧ r.2.mem ((c.tc : Thread Cert.DxnReferenceIdeal.nD Cert.DxnReferenceIdeal.τ).loc Cert.DxnReferenceIdeal.main_arg8) = m ((c.tc : Thread Cert.DxnReferenceIdeal.nD Cert.DxnReferenceIdeal.τ).loc Cert.DxnReferenceIdeal.main_arg8)
      ∧ r.2.mem ((c.tc : Thread Cert.DxnReferenceIdeal.nD Cert.DxnReferenceIdeal.τ).loc Cert.DxnReferenceIdeal.main_arg9) = m ((c.tc : Thread Cert.DxnReferenceIdeal.nD Cert.DxnReferenceIdeal.τ).loc Cert.DxnReferenceIdeal.main_arg9))
      ∧ r.2.sem = fun _ => 0)

def quiescent_DxnReferenceIdeal_pre_proper_scales [hDxnReferenceIdeal : Cert.DxnReferenceIdeal.Facts] [hPre_proper_scales : Cert.Pre_proper_scales.Facts] : Prop :=
  ∀ (m : (ℓ : Loc Cert.DxnReferenceIdeal.nD Cert.DxnReferenceIdeal.τ Cert.DxnReferenceIdeal.sig) → Buf (Elt Ideal) ℓ) (g : Dev Cert.DxnReferenceIdeal.nD → PrngReg), Pre_DxnReferenceIdeal_proper_scales m →
    θ_run (Cert.DxnReferenceIdeal.defs (F := Ideal)) (onTc (τ := Cert.DxnReferenceIdeal.τ) (Cert.DxnReferenceIdeal.main (F := Ideal))) ⟨m, fun _ => 0, g⟩ (fun r => (∀ c : Dev Cert.DxnReferenceIdeal.nD,
      r.2.mem ((c.tc : Thread Cert.DxnReferenceIdeal.nD Cert.DxnReferenceIdeal.τ).loc Cert.DxnReferenceIdeal.main_arg0) = m ((c.tc : Thread Cert.DxnReferenceIdeal.nD Cert.DxnReferenceIdeal.τ).loc Cert.DxnReferenceIdeal.main_arg0)
      ∧ r.2.mem ((c.tc : Thread Cert.DxnReferenceIdeal.nD Cert.DxnReferenceIdeal.τ).loc Cert.DxnReferenceIdeal.main_arg1) = m ((c.tc : Thread Cert.DxnReferenceIdeal.nD Cert.DxnReferenceIdeal.τ).loc Cert.DxnReferenceIdeal.main_arg1)
      ∧ r.2.mem ((c.tc : Thread Cert.DxnReferenceIdeal.nD Cert.DxnReferenceIdeal.τ).loc Cert.DxnReferenceIdeal.main_arg2) = m ((c.tc : Thread Cert.DxnReferenceIdeal.nD Cert.DxnReferenceIdeal.τ).loc Cert.DxnReferenceIdeal.main_arg2)
      ∧ r.2.mem ((c.tc : Thread Cert.DxnReferenceIdeal.nD Cert.DxnReferenceIdeal.τ).loc Cert.DxnReferenceIdeal.main_arg3) = m ((c.tc : Thread Cert.DxnReferenceIdeal.nD Cert.DxnReferenceIdeal.τ).loc Cert.DxnReferenceIdeal.main_arg3)
      ∧ r.2.mem ((c.tc : Thread Cert.DxnReferenceIdeal.nD Cert.DxnReferenceIdeal.τ).loc Cert.DxnReferenceIdeal.main_arg4) = m ((c.tc : Thread Cert.DxnReferenceIdeal.nD Cert.DxnReferenceIdeal.τ).loc Cert.DxnReferenceIdeal.main_arg4)
      ∧ r.2.mem ((c.tc : Thread Cert.DxnReferenceIdeal.nD Cert.DxnReferenceIdeal.τ).loc Cert.DxnReferenceIdeal.main_arg5) = m ((c.tc : Thread Cert.DxnReferenceIdeal.nD Cert.DxnReferenceIdeal.τ).loc Cert.DxnReferenceIdeal.main_arg5)
      ∧ r.2.mem ((c.tc : Thread Cert.DxnReferenceIdeal.nD Cert.DxnReferenceIdeal.τ).loc Cert.DxnReferenceIdeal.main_arg6) = m ((c.tc : Thread Cert.DxnReferenceIdeal.nD Cert.DxnReferenceIdeal.τ).loc Cert.DxnReferenceIdeal.main_arg6)
      ∧ r.2.mem ((c.tc : Thread Cert.DxnReferenceIdeal.nD Cert.DxnReferenceIdeal.τ).loc Cert.DxnReferenceIdeal.main_arg7) = m ((c.tc : Thread Cert.DxnReferenceIdeal.nD Cert.DxnReferenceIdeal.τ).loc Cert.DxnReferenceIdeal.main_arg7)
      ∧ r.2.mem ((c.tc : Thread Cert.DxnReferenceIdeal.nD Cert.DxnReferenceIdeal.τ).loc Cert.DxnReferenceIdeal.main_arg8) = m ((c.tc : Thread Cert.DxnReferenceIdeal.nD Cert.DxnReferenceIdeal.τ).loc Cert.DxnReferenceIdeal.main_arg8)
      ∧ r.2.mem ((c.tc : Thread Cert.DxnReferenceIdeal.nD Cert.DxnReferenceIdeal.τ).loc Cert.DxnReferenceIdeal.main_arg9) = m ((c.tc : Thread Cert.DxnReferenceIdeal.nD Cert.DxnReferenceIdeal.τ).loc Cert.DxnReferenceIdeal.main_arg9))
      ∧ r.2.sem = fun _ => 0)

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)
      ∧ m' ((c.tc : Thread Cert.DownReferenceIdeal.nD Cert.DownReferenceIdeal.τ).loc Cert.DownReferenceIdeal.main_arg4) = m ((c.tc : Thread Cert.DownKernelIdeal.nD Cert.DownKernelIdeal.τ).loc Cert.DownKernelIdeal.main_arg4)
      ∧ m' ((c.tc : Thread Cert.DownReferenceIdeal.nD Cert.DownReferenceIdeal.τ).loc Cert.DownReferenceIdeal.main_arg5) = m ((c.tc : Thread Cert.DownKernelIdeal.nD Cert.DownKernelIdeal.τ).loc Cert.DownKernelIdeal.main_arg5)
      ∧ m' ((c.tc : Thread Cert.DownReferenceIdeal.nD Cert.DownReferenceIdeal.τ).loc Cert.DownReferenceIdeal.main_arg6) = m ((c.tc : Thread Cert.DownKernelIdeal.nD Cert.DownKernelIdeal.τ).loc Cert.DownKernelIdeal.main_arg6)
      ∧ m' ((c.tc : Thread Cert.DownReferenceIdeal.nD Cert.DownReferenceIdeal.τ).loc Cert.DownReferenceIdeal.main_arg7) = m ((c.tc : Thread Cert.DownKernelIdeal.nD Cert.DownKernelIdeal.τ).loc Cert.DownKernelIdeal.main_arg7)
      ∧ m' ((c.tc : Thread Cert.DownReferenceIdeal.nD Cert.DownReferenceIdeal.τ).loc Cert.DownReferenceIdeal.main_arg8) = m ((c.tc : Thread Cert.DownKernelIdeal.nD Cert.DownKernelIdeal.τ).loc Cert.DownKernelIdeal.main_arg8)) →
    ∃ (v0 : (c : Dev Cert.DownKernelIdeal.nD) → Buf (Elt Ideal) ((c.tc : Thread Cert.DownKernelIdeal.nD Cert.DownKernelIdeal.τ).loc Cert.DownKernelIdeal.main_v5_0)) (v1 : (c : Dev Cert.DownKernelIdeal.nD) → Buf (Elt Ideal) ((c.tc : Thread Cert.DownKernelIdeal.nD Cert.DownKernelIdeal.τ).loc Cert.DownKernelIdeal.main_v5_1)) (v2 : (c : Dev Cert.DownKernelIdeal.nD) → Buf (Elt Ideal) ((c.tc : Thread Cert.DownKernelIdeal.nD Cert.DownKernelIdeal.τ).loc Cert.DownKernelIdeal.main_v5_2)) (v3 : (c : Dev Cert.DownKernelIdeal.nD) → Buf (Elt Ideal) ((c.tc : Thread Cert.DownKernelIdeal.nD Cert.DownKernelIdeal.τ).loc Cert.DownKernelIdeal.main_v5_3)) (v4 : (c : Dev Cert.DownKernelIdeal.nD) → Buf (Elt Ideal) ((c.tc : Thread Cert.DownKernelIdeal.nD Cert.DownKernelIdeal.τ).loc Cert.DownKernelIdeal.main_v5_4)) (v5 : (c : Dev Cert.DownKernelIdeal.nD) → Buf (Elt Ideal) ((c.tc : Thread Cert.DownKernelIdeal.nD Cert.DownKernelIdeal.τ).loc Cert.DownKernelIdeal.main_v5_5)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v5_0) = v0 c
          ∧ r.2.mem ((c.tc : Thread Cert.DownKernelIdeal.nD Cert.DownKernelIdeal.τ).loc Cert.DownKernelIdeal.main_v5_1) = v1 c
          ∧ r.2.mem ((c.tc : Thread Cert.DownKernelIdeal.nD Cert.DownKernelIdeal.τ).loc Cert.DownKernelIdeal.main_v5_2) = v2 c
          ∧ r.2.mem ((c.tc : Thread Cert.DownKernelIdeal.nD Cert.DownKernelIdeal.τ).loc Cert.DownKernelIdeal.main_v5_3) = v3 c
          ∧ r.2.mem ((c.tc : Thread Cert.DownKernelIdeal.nD Cert.DownKernelIdeal.τ).loc Cert.DownKernelIdeal.main_v5_4) = v4 c
          ∧ r.2.mem ((c.tc : Thread Cert.DownKernelIdeal.nD Cert.DownKernelIdeal.τ).loc Cert.DownKernelIdeal.main_v5_5) = v5 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
          ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
          ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5)
          ∧ r.2.mem ((c.tc : Thread Cert.DownKernelIdeal.nD Cert.DownKernelIdeal.τ).loc Cert.DownKernelIdeal.main_arg6) = m ((c.tc : Thread Cert.DownKernelIdeal.nD Cert.DownKernelIdeal.τ).loc Cert.DownKernelIdeal.main_arg6)
          ∧ r.2.mem ((c.tc : Thread Cert.DownKernelIdeal.nD Cert.DownKernelIdeal.τ).loc Cert.DownKernelIdeal.main_arg7) = m ((c.tc : Thread Cert.DownKernelIdeal.nD Cert.DownKernelIdeal.τ).loc Cert.DownKernelIdeal.main_arg7)
          ∧ r.2.mem ((c.tc : Thread Cert.DownKernelIdeal.nD Cert.DownKernelIdeal.τ).loc Cert.DownKernelIdeal.main_arg8) = m ((c.tc : Thread Cert.DownKernelIdeal.nD Cert.DownKernelIdeal.τ).loc Cert.DownKernelIdeal.main_arg8))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1_0) = v0 c
          ∧ r.2.mem ((c.tc : Thread Cert.DownReferenceIdeal.nD Cert.DownReferenceIdeal.τ).loc Cert.DownReferenceIdeal.main_v1_1) = v1 c
          ∧ r.2.mem ((c.tc : Thread Cert.DownReferenceIdeal.nD Cert.DownReferenceIdeal.τ).loc Cert.DownReferenceIdeal.main_v1_2) = v2 c
          ∧ r.2.mem ((c.tc : Thread Cert.DownReferenceIdeal.nD Cert.DownReferenceIdeal.τ).loc Cert.DownReferenceIdeal.main_v1_3) = v3 c
          ∧ r.2.mem ((c.tc : Thread Cert.DownReferenceIdeal.nD Cert.DownReferenceIdeal.τ).loc Cert.DownReferenceIdeal.main_v1_4) = v4 c
          ∧ r.2.mem ((c.tc : Thread Cert.DownReferenceIdeal.nD Cert.DownReferenceIdeal.τ).loc Cert.DownReferenceIdeal.main_v1_5) = v5 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5)
          ∧ r.2.mem ((c.tc : Thread Cert.DownReferenceIdeal.nD Cert.DownReferenceIdeal.τ).loc Cert.DownReferenceIdeal.main_arg6) = m' ((c.tc : Thread Cert.DownReferenceIdeal.nD Cert.DownReferenceIdeal.τ).loc Cert.DownReferenceIdeal.main_arg6)
          ∧ r.2.mem ((c.tc : Thread Cert.DownReferenceIdeal.nD Cert.DownReferenceIdeal.τ).loc Cert.DownReferenceIdeal.main_arg7) = m' ((c.tc : Thread Cert.DownReferenceIdeal.nD Cert.DownReferenceIdeal.τ).loc Cert.DownReferenceIdeal.main_arg7)
          ∧ r.2.mem ((c.tc : Thread Cert.DownReferenceIdeal.nD Cert.DownReferenceIdeal.τ).loc Cert.DownReferenceIdeal.main_arg8) = m' ((c.tc : Thread Cert.DownReferenceIdeal.nD Cert.DownReferenceIdeal.τ).loc Cert.DownReferenceIdeal.main_arg8))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)
      ∧ m' ((c.tc : Thread Cert.DwReferenceIdeal.nD Cert.DwReferenceIdeal.τ).loc Cert.DwReferenceIdeal.main_arg2) = m ((c.tc : Thread Cert.DwKernelIdeal.nD Cert.DwKernelIdeal.τ).loc Cert.DwKernelIdeal.main_arg2)
      ∧ m' ((c.tc : Thread Cert.DwReferenceIdeal.nD Cert.DwReferenceIdeal.τ).loc Cert.DwReferenceIdeal.main_arg3) = m ((c.tc : Thread Cert.DwKernelIdeal.nD Cert.DwKernelIdeal.τ).loc Cert.DwKernelIdeal.main_arg3)
      ∧ m' ((c.tc : Thread Cert.DwReferenceIdeal.nD Cert.DwReferenceIdeal.τ).loc Cert.DwReferenceIdeal.main_arg4) = m ((c.tc : Thread Cert.DwKernelIdeal.nD Cert.DwKernelIdeal.τ).loc Cert.DwKernelIdeal.main_arg4)
      ∧ m' ((c.tc : Thread Cert.DwReferenceIdeal.nD Cert.DwReferenceIdeal.τ).loc Cert.DwReferenceIdeal.main_arg5) = m ((c.tc : Thread Cert.DwKernelIdeal.nD Cert.DwKernelIdeal.τ).loc Cert.DwKernelIdeal.main_arg5)
      ∧ m' ((c.tc : Thread Cert.DwReferenceIdeal.nD Cert.DwReferenceIdeal.τ).loc Cert.DwReferenceIdeal.main_arg6) = m ((c.tc : Thread Cert.DwKernelIdeal.nD Cert.DwKernelIdeal.τ).loc Cert.DwKernelIdeal.main_arg6)
      ∧ m' ((c.tc : Thread Cert.DwReferenceIdeal.nD Cert.DwReferenceIdeal.τ).loc Cert.DwReferenceIdeal.main_arg7) = m ((c.tc : Thread Cert.DwKernelIdeal.nD Cert.DwKernelIdeal.τ).loc Cert.DwKernelIdeal.main_arg7)
      ∧ m' ((c.tc : Thread Cert.DwReferenceIdeal.nD Cert.DwReferenceIdeal.τ).loc Cert.DwReferenceIdeal.main_arg8) = m ((c.tc : Thread Cert.DwKernelIdeal.nD Cert.DwKernelIdeal.τ).loc Cert.DwKernelIdeal.main_arg8)
      ∧ m' ((c.tc : Thread Cert.DwReferenceIdeal.nD Cert.DwReferenceIdeal.τ).loc Cert.DwReferenceIdeal.main_arg9) = m ((c.tc : Thread Cert.DwKernelIdeal.nD Cert.DwKernelIdeal.τ).loc Cert.DwKernelIdeal.main_arg9)
      ∧ m' ((c.tc : Thread Cert.DwReferenceIdeal.nD Cert.DwReferenceIdeal.τ).loc Cert.DwReferenceIdeal.main_arg10) = m ((c.tc : Thread Cert.DwKernelIdeal.nD Cert.DwKernelIdeal.τ).loc Cert.DwKernelIdeal.main_arg10)) →
    ∃ (v0 : (c : Dev Cert.DwKernelIdeal.nD) → Buf (Elt Ideal) ((c.tc : Thread Cert.DwKernelIdeal.nD Cert.DwKernelIdeal.τ).loc Cert.DwKernelIdeal.main_v1_0)) (v1 : (c : Dev Cert.DwKernelIdeal.nD) → Buf (Elt Ideal) ((c.tc : Thread Cert.DwKernelIdeal.nD Cert.DwKernelIdeal.τ).loc Cert.DwKernelIdeal.main_v1_1)) (v2 : (c : Dev Cert.DwKernelIdeal.nD) → Buf (Elt Ideal) ((c.tc : Thread Cert.DwKernelIdeal.nD Cert.DwKernelIdeal.τ).loc Cert.DwKernelIdeal.main_v1_2)) (v3 : (c : Dev Cert.DwKernelIdeal.nD) → Buf (Elt Ideal) ((c.tc : Thread Cert.DwKernelIdeal.nD Cert.DwKernelIdeal.τ).loc Cert.DwKernelIdeal.main_v1_3)) (v4 : (c : Dev Cert.DwKernelIdeal.nD) → Buf (Elt Ideal) ((c.tc : Thread Cert.DwKernelIdeal.nD Cert.DwKernelIdeal.τ).loc Cert.DwKernelIdeal.main_v1_4)) (v5 : (c : Dev Cert.DwKernelIdeal.nD) → Buf (Elt Ideal) ((c.tc : Thread Cert.DwKernelIdeal.nD Cert.DwKernelIdeal.τ).loc Cert.DwKernelIdeal.main_v1_5)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v1_0) = v0 c
          ∧ r.2.mem ((c.tc : Thread Cert.DwKernelIdeal.nD Cert.DwKernelIdeal.τ).loc Cert.DwKernelIdeal.main_v1_1) = v1 c
          ∧ r.2.mem ((c.tc : Thread Cert.DwKernelIdeal.nD Cert.DwKernelIdeal.τ).loc Cert.DwKernelIdeal.main_v1_2) = v2 c
          ∧ r.2.mem ((c.tc : Thread Cert.DwKernelIdeal.nD Cert.DwKernelIdeal.τ).loc Cert.DwKernelIdeal.main_v1_3) = v3 c
          ∧ r.2.mem ((c.tc : Thread Cert.DwKernelIdeal.nD Cert.DwKernelIdeal.τ).loc Cert.DwKernelIdeal.main_v1_4) = v4 c
          ∧ r.2.mem ((c.tc : Thread Cert.DwKernelIdeal.nD Cert.DwKernelIdeal.τ).loc Cert.DwKernelIdeal.main_v1_5) = v5 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
          ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2)
          ∧ r.2.mem ((c.tc : Thread Cert.DwKernelIdeal.nD Cert.DwKernelIdeal.τ).loc Cert.DwKernelIdeal.main_arg3) = m ((c.tc : Thread Cert.DwKernelIdeal.nD Cert.DwKernelIdeal.τ).loc Cert.DwKernelIdeal.main_arg3)
          ∧ r.2.mem ((c.tc : Thread Cert.DwKernelIdeal.nD Cert.DwKernelIdeal.τ).loc Cert.DwKernelIdeal.main_arg4) = m ((c.tc : Thread Cert.DwKernelIdeal.nD Cert.DwKernelIdeal.τ).loc Cert.DwKernelIdeal.main_arg4)
          ∧ r.2.mem ((c.tc : Thread Cert.DwKernelIdeal.nD Cert.DwKernelIdeal.τ).loc Cert.DwKernelIdeal.main_arg5) = m ((c.tc : Thread Cert.DwKernelIdeal.nD Cert.DwKernelIdeal.τ).loc Cert.DwKernelIdeal.main_arg5)
          ∧ r.2.mem ((c.tc : Thread Cert.DwKernelIdeal.nD Cert.DwKernelIdeal.τ).loc Cert.DwKernelIdeal.main_arg6) = m ((c.tc : Thread Cert.DwKernelIdeal.nD Cert.DwKernelIdeal.τ).loc Cert.DwKernelIdeal.main_arg6)
          ∧ r.2.mem ((c.tc : Thread Cert.DwKernelIdeal.nD Cert.DwKernelIdeal.τ).loc Cert.DwKernelIdeal.main_arg7) = m ((c.tc : Thread Cert.DwKernelIdeal.nD Cert.DwKernelIdeal.τ).loc Cert.DwKernelIdeal.main_arg7)
          ∧ r.2.mem ((c.tc : Thread Cert.DwKernelIdeal.nD Cert.DwKernelIdeal.τ).loc Cert.DwKernelIdeal.main_arg8) = m ((c.tc : Thread Cert.DwKernelIdeal.nD Cert.DwKernelIdeal.τ).loc Cert.DwKernelIdeal.main_arg8)
          ∧ r.2.mem ((c.tc : Thread Cert.DwKernelIdeal.nD Cert.DwKernelIdeal.τ).loc Cert.DwKernelIdeal.main_arg9) = m ((c.tc : Thread Cert.DwKernelIdeal.nD Cert.DwKernelIdeal.τ).loc Cert.DwKernelIdeal.main_arg9)
          ∧ r.2.mem ((c.tc : Thread Cert.DwKernelIdeal.nD Cert.DwKernelIdeal.τ).loc Cert.DwKernelIdeal.main_arg10) = m ((c.tc : Thread Cert.DwKernelIdeal.nD Cert.DwKernelIdeal.τ).loc Cert.DwKernelIdeal.main_arg10))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v5) = v0 c
          ∧ r.2.mem ((c.tc : Thread Cert.DwReferenceIdeal.nD Cert.DwReferenceIdeal.τ).loc Cert.DwReferenceIdeal.main_v8) = v1 c
          ∧ r.2.mem ((c.tc : Thread Cert.DwReferenceIdeal.nD Cert.DwReferenceIdeal.τ).loc Cert.DwReferenceIdeal.main_v15) = v2 c
          ∧ r.2.mem ((c.tc : Thread Cert.DwReferenceIdeal.nD Cert.DwReferenceIdeal.τ).loc Cert.DwReferenceIdeal.main_v35) = v3 c
          ∧ r.2.mem ((c.tc : Thread Cert.DwReferenceIdeal.nD Cert.DwReferenceIdeal.τ).loc Cert.DwReferenceIdeal.main_v37) = v4 c
          ∧ r.2.mem ((c.tc : Thread Cert.DwReferenceIdeal.nD Cert.DwReferenceIdeal.τ).loc Cert.DwReferenceIdeal.main_v38) = v5 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1)
          ∧ r.2.mem ((c.tc : Thread Cert.DwReferenceIdeal.nD Cert.DwReferenceIdeal.τ).loc Cert.DwReferenceIdeal.main_arg2) = m' ((c.tc : Thread Cert.DwReferenceIdeal.nD Cert.DwReferenceIdeal.τ).loc Cert.DwReferenceIdeal.main_arg2)
          ∧ r.2.mem ((c.tc : Thread Cert.DwReferenceIdeal.nD Cert.DwReferenceIdeal.τ).loc Cert.DwReferenceIdeal.main_arg3) = m' ((c.tc : Thread Cert.DwReferenceIdeal.nD Cert.DwReferenceIdeal.τ).loc Cert.DwReferenceIdeal.main_arg3)
          ∧ r.2.mem ((c.tc : Thread Cert.DwReferenceIdeal.nD Cert.DwReferenceIdeal.τ).loc Cert.DwReferenceIdeal.main_arg4) = m' ((c.tc : Thread Cert.DwReferenceIdeal.nD Cert.DwReferenceIdeal.τ).loc Cert.DwReferenceIdeal.main_arg4)
          ∧ r.2.mem ((c.tc : Thread Cert.DwReferenceIdeal.nD Cert.DwReferenceIdeal.τ).loc Cert.DwReferenceIdeal.main_arg5) = m' ((c.tc : Thread Cert.DwReferenceIdeal.nD Cert.DwReferenceIdeal.τ).loc Cert.DwReferenceIdeal.main_arg5)
          ∧ r.2.mem ((c.tc : Thread Cert.DwReferenceIdeal.nD Cert.DwReferenceIdeal.τ).loc Cert.DwReferenceIdeal.main_arg6) = m' ((c.tc : Thread Cert.DwReferenceIdeal.nD Cert.DwReferenceIdeal.τ).loc Cert.DwReferenceIdeal.main_arg6)
          ∧ r.2.mem ((c.tc : Thread Cert.DwReferenceIdeal.nD Cert.DwReferenceIdeal.τ).loc Cert.DwReferenceIdeal.main_arg7) = m' ((c.tc : Thread Cert.DwReferenceIdeal.nD Cert.DwReferenceIdeal.τ).loc Cert.DwReferenceIdeal.main_arg7)
          ∧ r.2.mem ((c.tc : Thread Cert.DwReferenceIdeal.nD Cert.DwReferenceIdeal.τ).loc Cert.DwReferenceIdeal.main_arg8) = m' ((c.tc : Thread Cert.DwReferenceIdeal.nD Cert.DwReferenceIdeal.τ).loc Cert.DwReferenceIdeal.main_arg8)
          ∧ r.2.mem ((c.tc : Thread Cert.DwReferenceIdeal.nD Cert.DwReferenceIdeal.τ).loc Cert.DwReferenceIdeal.main_arg9) = m' ((c.tc : Thread Cert.DwReferenceIdeal.nD Cert.DwReferenceIdeal.τ).loc Cert.DwReferenceIdeal.main_arg9)
          ∧ r.2.mem ((c.tc : Thread Cert.DwReferenceIdeal.nD Cert.DwReferenceIdeal.τ).loc Cert.DwReferenceIdeal.main_arg10) = m' ((c.tc : Thread Cert.DwReferenceIdeal.nD Cert.DwReferenceIdeal.τ).loc Cert.DwReferenceIdeal.main_arg10))

def preserves_DxnKernel_DxnKernelIdeal : Prop :=
  True

def algebraic_DxnKernelIdeal_DxnReferenceIdeal_pre_proper_scales [hDxnKernelIdeal : Cert.DxnKernelIdeal.Facts] [hDxnReferenceIdeal : Cert.DxnReferenceIdeal.Facts] [hPre_proper_scales : Cert.Pre_proper_scales.Facts] : Prop :=
  ∀ (m : (ℓ : Loc Cert.DxnKernelIdeal.nD Cert.DxnKernelIdeal.τ Cert.DxnKernelIdeal.sig) → Buf (Elt Ideal) ℓ) (g : Dev Cert.DxnKernelIdeal.nD → PrngReg)
    (m' : (ℓ : Loc Cert.DxnReferenceIdeal.nD Cert.DxnReferenceIdeal.τ Cert.DxnReferenceIdeal.sig) → Buf (Elt Ideal) ℓ) (g' : Dev Cert.DxnReferenceIdeal.nD → PrngReg), Pre_DxnKernelIdeal_proper_scales m →
    (∀ c : Dev Cert.DxnKernelIdeal.nD,
      m' ((c.tc : Thread Cert.DxnReferenceIdeal.nD Cert.DxnReferenceIdeal.τ).loc Cert.DxnReferenceIdeal.main_arg0) = m ((c.tc : Thread Cert.DxnKernelIdeal.nD Cert.DxnKernelIdeal.τ).loc Cert.DxnKernelIdeal.main_arg0)
      ∧ m' ((c.tc : Thread Cert.DxnReferenceIdeal.nD Cert.DxnReferenceIdeal.τ).loc Cert.DxnReferenceIdeal.main_arg1) = m ((c.tc : Thread Cert.DxnKernelIdeal.nD Cert.DxnKernelIdeal.τ).loc Cert.DxnKernelIdeal.main_arg1)
      ∧ m' ((c.tc : Thread Cert.DxnReferenceIdeal.nD Cert.DxnReferenceIdeal.τ).loc Cert.DxnReferenceIdeal.main_arg2) = m ((c.tc : Thread Cert.DxnKernelIdeal.nD Cert.DxnKernelIdeal.τ).loc Cert.DxnKernelIdeal.main_arg2)
      ∧ m' ((c.tc : Thread Cert.DxnReferenceIdeal.nD Cert.DxnReferenceIdeal.τ).loc Cert.DxnReferenceIdeal.main_arg3) = m ((c.tc : Thread Cert.DxnKernelIdeal.nD Cert.DxnKernelIdeal.τ).loc Cert.DxnKernelIdeal.main_arg3)
      ∧ m' ((c.tc : Thread Cert.DxnReferenceIdeal.nD Cert.DxnReferenceIdeal.τ).loc Cert.DxnReferenceIdeal.main_arg4) = m ((c.tc : Thread Cert.DxnKernelIdeal.nD Cert.DxnKernelIdeal.τ).loc Cert.DxnKernelIdeal.main_arg4)
      ∧ m' ((c.tc : Thread Cert.DxnReferenceIdeal.nD Cert.DxnReferenceIdeal.τ).loc Cert.DxnReferenceIdeal.main_arg5) = m ((c.tc : Thread Cert.DxnKernelIdeal.nD Cert.DxnKernelIdeal.τ).loc Cert.DxnKernelIdeal.main_arg5)
      ∧ m' ((c.tc : Thread Cert.DxnReferenceIdeal.nD Cert.DxnReferenceIdeal.τ).loc Cert.DxnReferenceIdeal.main_arg6) = m ((c.tc : Thread Cert.DxnKernelIdeal.nD Cert.DxnKernelIdeal.τ).loc Cert.DxnKernelIdeal.main_arg6)
      ∧ m' ((c.tc : Thread Cert.DxnReferenceIdeal.nD Cert.DxnReferenceIdeal.τ).loc Cert.DxnReferenceIdeal.main_arg7) = m ((c.tc : Thread Cert.DxnKernelIdeal.nD Cert.DxnKernelIdeal.τ).loc Cert.DxnKernelIdeal.main_arg7)
      ∧ m' ((c.tc : Thread Cert.DxnReferenceIdeal.nD Cert.DxnReferenceIdeal.τ).loc Cert.DxnReferenceIdeal.main_arg8) = m ((c.tc : Thread Cert.DxnKernelIdeal.nD Cert.DxnKernelIdeal.τ).loc Cert.DxnKernelIdeal.main_arg8)
      ∧ m' ((c.tc : Thread Cert.DxnReferenceIdeal.nD Cert.DxnReferenceIdeal.τ).loc Cert.DxnReferenceIdeal.main_arg9) = m ((c.tc : Thread Cert.DxnKernelIdeal.nD Cert.DxnKernelIdeal.τ).loc Cert.DxnKernelIdeal.main_arg9)) →
    ∃ (v0 : (c : Dev Cert.DxnKernelIdeal.nD) → Buf (Elt Ideal) ((c.tc : Thread Cert.DxnKernelIdeal.nD Cert.DxnKernelIdeal.τ).loc Cert.DxnKernelIdeal.main_v9_0)) (v1 : (c : Dev Cert.DxnKernelIdeal.nD) → Buf (Elt Ideal) ((c.tc : Thread Cert.DxnKernelIdeal.nD Cert.DxnKernelIdeal.τ).loc Cert.DxnKernelIdeal.main_v9_1)) (v2 : (c : Dev Cert.DxnKernelIdeal.nD) → Buf (Elt Ideal) ((c.tc : Thread Cert.DxnKernelIdeal.nD Cert.DxnKernelIdeal.τ).loc Cert.DxnKernelIdeal.main_v9_2)),
      θ_run (Cert.DxnKernelIdeal.defs (F := Ideal)) (onTc (τ := Cert.DxnKernelIdeal.τ) (Cert.DxnKernelIdeal.main (F := Ideal))) ⟨m, fun _ => 0, g⟩ (fun r => ∀ c : Dev Cert.DxnKernelIdeal.nD,
          r.2.mem ((c.tc : Thread Cert.DxnKernelIdeal.nD Cert.DxnKernelIdeal.τ).loc Cert.DxnKernelIdeal.main_v9_0) = v0 c
          ∧ r.2.mem ((c.tc : Thread Cert.DxnKernelIdeal.nD Cert.DxnKernelIdeal.τ).loc Cert.DxnKernelIdeal.main_v9_1) = v1 c
          ∧ r.2.mem ((c.tc : Thread Cert.DxnKernelIdeal.nD Cert.DxnKernelIdeal.τ).loc Cert.DxnKernelIdeal.main_v9_2) = v2 c
          ∧ r.2.mem ((c.tc : Thread Cert.DxnKernelIdeal.nD Cert.DxnKernelIdeal.τ).loc Cert.DxnKernelIdeal.main_arg0) = m ((c.tc : Thread Cert.DxnKernelIdeal.nD Cert.DxnKernelIdeal.τ).loc Cert.DxnKernelIdeal.main_arg0)
          ∧ r.2.mem ((c.tc : Thread Cert.DxnKernelIdeal.nD Cert.DxnKernelIdeal.τ).loc Cert.DxnKernelIdeal.main_arg1) = m ((c.tc : Thread Cert.DxnKernelIdeal.nD Cert.DxnKernelIdeal.τ).loc Cert.DxnKernelIdeal.main_arg1)
          ∧ r.2.mem ((c.tc : Thread Cert.DxnKernelIdeal.nD Cert.DxnKernelIdeal.τ).loc Cert.DxnKernelIdeal.main_arg2) = m ((c.tc : Thread Cert.DxnKernelIdeal.nD Cert.DxnKernelIdeal.τ).loc Cert.DxnKernelIdeal.main_arg2)
          ∧ r.2.mem ((c.tc : Thread Cert.DxnKernelIdeal.nD Cert.DxnKernelIdeal.τ).loc Cert.DxnKernelIdeal.main_arg3) = m ((c.tc : Thread Cert.DxnKernelIdeal.nD Cert.DxnKernelIdeal.τ).loc Cert.DxnKernelIdeal.main_arg3)
          ∧ r.2.mem ((c.tc : Thread Cert.DxnKernelIdeal.nD Cert.DxnKernelIdeal.τ).loc Cert.DxnKernelIdeal.main_arg4) = m ((c.tc : Thread Cert.DxnKernelIdeal.nD Cert.DxnKernelIdeal.τ).loc Cert.DxnKernelIdeal.main_arg4)
          ∧ r.2.mem ((c.tc : Thread Cert.DxnKernelIdeal.nD Cert.DxnKernelIdeal.τ).loc Cert.DxnKernelIdeal.main_arg5) = m ((c.tc : Thread Cert.DxnKernelIdeal.nD Cert.DxnKernelIdeal.τ).loc Cert.DxnKernelIdeal.main_arg5)
          ∧ r.2.mem ((c.tc : Thread Cert.DxnKernelIdeal.nD Cert.DxnKernelIdeal.τ).loc Cert.DxnKernelIdeal.main_arg6) = m ((c.tc : Thread Cert.DxnKernelIdeal.nD Cert.DxnKernelIdeal.τ).loc Cert.DxnKernelIdeal.main_arg6)
          ∧ r.2.mem ((c.tc : Thread Cert.DxnKernelIdeal.nD Cert.DxnKernelIdeal.τ).loc Cert.DxnKernelIdeal.main_arg7) = m ((c.tc : Thread Cert.DxnKernelIdeal.nD Cert.DxnKernelIdeal.τ).loc Cert.DxnKernelIdeal.main_arg7)
          ∧ r.2.mem ((c.tc : Thread Cert.DxnKernelIdeal.nD Cert.DxnKernelIdeal.τ).loc Cert.DxnKernelIdeal.main_arg8) = m ((c.tc : Thread Cert.DxnKernelIdeal.nD Cert.DxnKernelIdeal.τ).loc Cert.DxnKernelIdeal.main_arg8)
          ∧ r.2.mem ((c.tc : Thread Cert.DxnKernelIdeal.nD Cert.DxnKernelIdeal.τ).loc Cert.DxnKernelIdeal.main_arg9) = m ((c.tc : Thread Cert.DxnKernelIdeal.nD Cert.DxnKernelIdeal.τ).loc Cert.DxnKernelIdeal.main_arg9))
      ∧ θ_run (Cert.DxnReferenceIdeal.defs (F := Ideal)) (onTc (τ := Cert.DxnReferenceIdeal.τ) (Cert.DxnReferenceIdeal.main (F := Ideal))) ⟨m', fun _ => 0, g'⟩ (fun r => ∀ c : Dev Cert.DxnReferenceIdeal.nD,
          r.2.mem ((c.tc : Thread Cert.DxnReferenceIdeal.nD Cert.DxnReferenceIdeal.τ).loc Cert.DxnReferenceIdeal.main_v2_0) = v0 c
          ∧ r.2.mem ((c.tc : Thread Cert.DxnReferenceIdeal.nD Cert.DxnReferenceIdeal.τ).loc Cert.DxnReferenceIdeal.main_v2_1) = v1 c
          ∧ r.2.mem ((c.tc : Thread Cert.DxnReferenceIdeal.nD Cert.DxnReferenceIdeal.τ).loc Cert.DxnReferenceIdeal.main_v2_2) = v2 c
          ∧ r.2.mem ((c.tc : Thread Cert.DxnReferenceIdeal.nD Cert.DxnReferenceIdeal.τ).loc Cert.DxnReferenceIdeal.main_arg0) = m' ((c.tc : Thread Cert.DxnReferenceIdeal.nD Cert.DxnReferenceIdeal.τ).loc Cert.DxnReferenceIdeal.main_arg0)
          ∧ r.2.mem ((c.tc : Thread Cert.DxnReferenceIdeal.nD Cert.DxnReferenceIdeal.τ).loc Cert.DxnReferenceIdeal.main_arg1) = m' ((c.tc : Thread Cert.DxnReferenceIdeal.nD Cert.DxnReferenceIdeal.τ).loc Cert.DxnReferenceIdeal.main_arg1)
          ∧ r.2.mem ((c.tc : Thread Cert.DxnReferenceIdeal.nD Cert.DxnReferenceIdeal.τ).loc Cert.DxnReferenceIdeal.main_arg2) = m' ((c.tc : Thread Cert.DxnReferenceIdeal.nD Cert.DxnReferenceIdeal.τ).loc Cert.DxnReferenceIdeal.main_arg2)
          ∧ r.2.mem ((c.tc : Thread Cert.DxnReferenceIdeal.nD Cert.DxnReferenceIdeal.τ).loc Cert.DxnReferenceIdeal.main_arg3) = m' ((c.tc : Thread Cert.DxnReferenceIdeal.nD Cert.DxnReferenceIdeal.τ).loc Cert.DxnReferenceIdeal.main_arg3)
          ∧ r.2.mem ((c.tc : Thread Cert.DxnReferenceIdeal.nD Cert.DxnReferenceIdeal.τ).loc Cert.DxnReferenceIdeal.main_arg4) = m' ((c.tc : Thread Cert.DxnReferenceIdeal.nD Cert.DxnReferenceIdeal.τ).loc Cert.DxnReferenceIdeal.main_arg4)
          ∧ r.2.mem ((c.tc : Thread Cert.DxnReferenceIdeal.nD Cert.DxnReferenceIdeal.τ).loc Cert.DxnReferenceIdeal.main_arg5) = m' ((c.tc : Thread Cert.DxnReferenceIdeal.nD Cert.DxnReferenceIdeal.τ).loc Cert.DxnReferenceIdeal.main_arg5)
          ∧ r.2.mem ((c.tc : Thread Cert.DxnReferenceIdeal.nD Cert.DxnReferenceIdeal.τ).loc Cert.DxnReferenceIdeal.main_arg6) = m' ((c.tc : Thread Cert.DxnReferenceIdeal.nD Cert.DxnReferenceIdeal.τ).loc Cert.DxnReferenceIdeal.main_arg6)
          ∧ r.2.mem ((c.tc : Thread Cert.DxnReferenceIdeal.nD Cert.DxnReferenceIdeal.τ).loc Cert.DxnReferenceIdeal.main_arg7) = m' ((c.tc : Thread Cert.DxnReferenceIdeal.nD Cert.DxnReferenceIdeal.τ).loc Cert.DxnReferenceIdeal.main_arg7)
          ∧ r.2.mem ((c.tc : Thread Cert.DxnReferenceIdeal.nD Cert.DxnReferenceIdeal.τ).loc Cert.DxnReferenceIdeal.main_arg8) = m' ((c.tc : Thread Cert.DxnReferenceIdeal.nD Cert.DxnReferenceIdeal.τ).loc Cert.DxnReferenceIdeal.main_arg8)
          ∧ r.2.mem ((c.tc : Thread Cert.DxnReferenceIdeal.nD Cert.DxnReferenceIdeal.τ).loc Cert.DxnReferenceIdeal.main_arg9) = m' ((c.tc : Thread Cert.DxnReferenceIdeal.nD Cert.DxnReferenceIdeal.τ).loc Cert.DxnReferenceIdeal.main_arg9))

def Claim : Prop :=
  ∃ (hDownKernel : Cert.DownKernel.Facts) (hDownKernelIdeal : Cert.DownKernelIdeal.Facts) (hDownReferenceIdeal : Cert.DownReferenceIdeal.Facts) (hDwKernel : Cert.DwKernel.Facts) (hDwKernelIdeal : Cert.DwKernelIdeal.Facts) (hDwReferenceIdeal : Cert.DwReferenceIdeal.Facts) (hDxnKernel : Cert.DxnKernel.Facts) (hDxnKernelIdeal : Cert.DxnKernelIdeal.Facts) (hDxnReferenceIdeal : Cert.DxnReferenceIdeal.Facts) (hPre_proper_scales : Cert.Pre_proper_scales.Facts),
    quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ quiescent_DxnKernel (hDxnKernel := hDxnKernel)
    ∧ quiescent_DxnKernelIdeal (hDxnKernelIdeal := hDxnKernelIdeal)
    ∧ quiescent_DxnKernelIdeal_pre_proper_scales (hDxnKernelIdeal := hDxnKernelIdeal) (hPre_proper_scales := hPre_proper_scales)
    ∧ quiescent_DxnReferenceIdeal (hDxnReferenceIdeal := hDxnReferenceIdeal)
    ∧ quiescent_DxnReferenceIdeal_pre_proper_scales (hDxnReferenceIdeal := hDxnReferenceIdeal) (hPre_proper_scales := hPre_proper_scales)
    ∧ preserves_DownKernel_DownKernelIdeal
    ∧ algebraic_DownKernelIdeal_DownReferenceIdeal (hDownKernelIdeal := hDownKernelIdeal) (hDownReferenceIdeal := hDownReferenceIdeal)
    ∧ preserves_DwKernel_DwKernelIdeal
    ∧ algebraic_DwKernelIdeal_DwReferenceIdeal (hDwKernelIdeal := hDwKernelIdeal) (hDwReferenceIdeal := hDwReferenceIdeal)
    ∧ preserves_DxnKernel_DxnKernelIdeal
    ∧ algebraic_DxnKernelIdeal_DxnReferenceIdeal_pre_proper_scales (hDxnKernelIdeal := hDxnKernelIdeal) (hDxnReferenceIdeal := hDxnReferenceIdeal) (hPre_proper_scales := hPre_proper_scales)
-- ==== Pre_proper_scales.lean ====
abbrev S1x1 : Shape := ⟨2, ![1, 1]⟩
abbrev S2048x8640 : Shape := ⟨2, ![2048, 8640]⟩
abbrev S3200x8640 : Shape := ⟨2, ![3200, 8640]⟩
abbrev S2048x128 : Shape := ⟨2, ![2048, 128]⟩
abbrev S2048 : Shape := ⟨1, ![2048]⟩
abbrev S8640 : Shape := ⟨1, ![8640]⟩
abbrev S_ : Shape := ⟨0, ![]⟩

class Facts : Prop where
  bcast_S_S1x1 : S_.BroadcastsInDim S1x1 (![] : Fin 0 → Fin S1x1.rank)

variable [Facts]

def fn {F : FTy → Type} [FloatOps F] (main_arg0 : FVec F S1x1 .f32) (main_arg1 : FVec F S1x1 .f32) (main_arg2 : FVec F S2048x8640 .f32) (main_arg3 : IVec S2048x8640 16) (main_arg4 : IVec S2048x8640 16) (main_arg5 : IVec S3200x8640 8) (main_arg6 : IVec S3200x8640 8) (main_arg7 : FVec F S2048x128 .f32) (main_arg8 : FVec F S2048 .f32) (main_arg9 : FVec F S8640 .f32) : IVec S1x1 1 :=
  let main_cst : FVec F S_ .f32 := constant S_ .f32 0x00000000#32
  let main_v0 : FVec F S1x1 .f32 := broadcastInDim S1x1 ![] bcast_S_S1x1 main_cst
  let main_v1 : IVec S1x1 1 := cmpf .oge main_arg0 main_v0
  let main_cst_0 : FVec F S_ .f32 := constant S_ .f32 0x00000000#32
  let main_v2 : FVec F S1x1 .f32 := broadcastInDim S1x1 ![] bcast_S_S1x1 main_cst_0
  let main_v3 : IVec S1x1 1 := cmpf .oge main_arg1 main_v2
  let main_v4 : IVec S1x1 1 := andi main_v1 main_v3
  let main_cst_1 : FVec F S_ .f32 := constant S_ .f32 0x7F800000#32
  let main_v5 : FVec F S1x1 .f32 := broadcastInDim S1x1 ![] bcast_S_S1x1 main_cst_1
  let main_v6 : IVec S1x1 1 := cmpf .olt main_arg1 main_v5
  let main_v7 : IVec S1x1 1 := andi main_v4 main_v6
  main_v7
-- ==== DownKernel.lean ====
abbrev S1x1 : Shape := ⟨2, ![1, 1]⟩
abbrev S2048x3200 : Shape := ⟨2, ![2048, 3200]⟩
abbrev S8640x3200 : Shape := ⟨2, ![8640, 3200]⟩
abbrev S2048x8640 : Shape := ⟨2, ![2048, 8640]⟩
abbrev S2048x128 : Shape := ⟨2, ![2048, 128]⟩
abbrev S8640 : Shape := ⟨1, ![8640]⟩
abbrev S_ : Shape := ⟨0, ![]⟩
abbrev S8704 : Shape := ⟨1, ![8704]⟩
abbrev S1x8704 : Shape := ⟨2, ![1, 8704]⟩
abbrev S8704x3200 : Shape := ⟨2, ![8704, 3200]⟩
abbrev S2048x8704 : Shape := ⟨2, ![2048, 8704]⟩
abbrev S1x8640 : Shape := ⟨2, ![1, 8640]⟩
abbrev S256x3200 : Shape := ⟨2, ![256, 3200]⟩
abbrev S2048x256 : Shape := ⟨2, ![2048, 256]⟩
abbrev S1x256 : Shape := ⟨2, ![1, 256]⟩
abbrev S256x256 : Shape := ⟨2, ![256, 256]⟩
abbrev S256x1 : Shape := ⟨2, ![256, 1]⟩
abbrev S256x128 : Shape := ⟨2, ![256, 128]⟩
abbrev S1x128 : Shape := ⟨2, ![1, 128]⟩
abbrev S128 : Shape := ⟨1, ![128]⟩
abbrev S2048 : Shape := ⟨1, ![2048]⟩
abbrev S2048x1 : Shape := ⟨2, ![2048, 1]⟩

abbrev nBuf : Space → Nat
  | .hbm => 28
  | .vmem => 23
  | .smem => 3
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S2048x3200, .bf16⟩
  | .hbm, ⟨4, _⟩ => ⟨S8640x3200, .i8⟩
  | .hbm, ⟨5, _⟩ => ⟨S2048x8640, .i16⟩
  | .hbm, ⟨6, _⟩ => ⟨S2048x8640, .i16⟩
  | .hbm, ⟨7, _⟩ => ⟨S2048x128, .f32⟩
  | .hbm, ⟨8, _⟩ => ⟨S8640, .f32⟩
  | .hbm, ⟨9, _⟩ => ⟨S_, .i32⟩
  | .hbm, ⟨10, _⟩ => ⟨S_, .f32⟩
  | .hbm, ⟨11, _⟩ => ⟨S8704, .f32⟩
  | .hbm, ⟨12, _⟩ => ⟨S1x8704, .f32⟩
  | .hbm, ⟨13, _⟩ => ⟨S_, .i32⟩
  | .hbm, ⟨14, _⟩ => ⟨S_, .i8⟩
  | .hbm, ⟨15, _⟩ => ⟨S8704x3200, .i8⟩
  | .hbm, ⟨16, _⟩ => ⟨S_, .i32⟩
  | .hbm, ⟨17, _⟩ => ⟨S_, .i16⟩
  | .hbm, ⟨18, _⟩ => ⟨S2048x8704, .i16⟩
  | .hbm, ⟨19, _⟩ => ⟨S_, .i32⟩
  | .hbm, ⟨20, _⟩ => ⟨S_, .i16⟩
  | .hbm, ⟨21, _⟩ => ⟨S2048x8704, .i16⟩
  | .hbm, ⟨22, _⟩ => ⟨S2048x8704, .f32⟩
  | .hbm, ⟨23, _⟩ => ⟨S2048x8640, .i8⟩
  | .hbm, ⟨24, _⟩ => ⟨S8640x3200, .bf16⟩
  | .hbm, ⟨25, _⟩ => ⟨S1x8640, .f32⟩
  | .hbm, ⟨26, _⟩ => ⟨S2048x3200, .f32⟩
  | .hbm, ⟨27, _⟩ => ⟨S2048x128, .f32⟩
  | .local _ .vmem, ⟨0, _⟩ => ⟨S2048x3200, .bf16⟩
  | .local _ .vmem, ⟨1, _⟩ => ⟨S256x3200, .i8⟩
  | .local _ .vmem, ⟨2, _⟩ => ⟨S256x3200, .i8⟩
  | .local _ .vmem, ⟨3, _⟩ => ⟨S2048x256, .i16⟩
  | .local _ .vmem, ⟨4, _⟩ => ⟨S2048x256, .i16⟩
  | .local _ .vmem, ⟨5, _⟩ => ⟨S2048x256, .i16⟩
  | .local _ .vmem, ⟨6, _⟩ => ⟨S2048x256, .i16⟩
  | .local _ .vmem, ⟨7, _⟩ => ⟨S2048x128, .f32⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S2048x256, .i8⟩
  | .local _ .vmem, ⟨13, _⟩ => ⟨S2048x256, .i8⟩
  | .local _ .vmem, ⟨14, _⟩ => ⟨S256x3200, .bf16⟩
  | .local _ .vmem, ⟨15, _⟩ => ⟨S256x3200, .bf16⟩
  | .local _ .vmem, ⟨16, _⟩ => ⟨S1x256, .f32⟩
  | .local _ .vmem, ⟨17, _⟩ => ⟨S1x256, .f32⟩
  | .local _ .vmem, ⟨18, _⟩ => ⟨S2048x3200, .f32⟩
  | .local _ .vmem, ⟨19, _⟩ => ⟨S2048x128, .f32⟩
  | .local _ .vmem, ⟨20, _⟩ => ⟨S256x3200, .bf16⟩
  | .local _ .vmem, ⟨21, _⟩ => ⟨S2048x256, .bf16⟩
  | .local _ .vmem, ⟨22, _⟩ => ⟨S2048x256, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_c_1 : Ref sig .tc := ⟨.hbm, 16, rfl⟩
abbrev main_call2_v0 : Ref sig .tc := ⟨.hbm, 17, rfl⟩
abbrev main_v3 : Ref sig .tc := ⟨.hbm, 18, rfl⟩
abbrev main_c_2 : Ref sig .tc := ⟨.hbm, 19, rfl⟩
abbrev main_call3_v0 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v5_3 : Ref sig .tc := ⟨.hbm, 25, rfl⟩
abbrev main_v5_4 : Ref sig .tc := ⟨.hbm, 26, rfl⟩
abbrev main_v5_5 : Ref sig .tc := ⟨.hbm, 27, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3200 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .i16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .i16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3200 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2048x3200 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== DownReferenceIdeal.lean ====
abbrev S1x1 : Shape := ⟨2, ![1, 1]⟩
abbrev S2048x3200 : Shape := ⟨2, ![2048, 3200]⟩
abbrev S8640x3200 : Shape := ⟨2, ![8640, 3200]⟩
abbrev S2048x8640 : Shape := ⟨2, ![2048, 8640]⟩
abbrev S2048x128 : Shape := ⟨2, ![2048, 128]⟩
abbrev S8640 : Shape := ⟨1, ![8640]⟩
abbrev S1x8640 : Shape := ⟨2, ![1, 8640]⟩
abbrev S2048x8704 : Shape := ⟨2, ![2048, 8704]⟩
abbrev S2048x1 : Shape := ⟨2, ![2048, 1]⟩
abbrev S2048 : Shape := ⟨1, ![2048]⟩
abbrev S2048x64 : Shape := ⟨2, ![2048, 64]⟩

abbrev nBuf : Space → Nat
  | .hbm => 16
  | .vmem => 12
  | .smem => 3
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S2048x3200, .bf16⟩
  | .hbm, ⟨4, _⟩ => ⟨S8640x3200, .i8⟩
  | .hbm, ⟨5, _⟩ => ⟨S2048x8640, .i16⟩
  | .hbm, ⟨6, _⟩ => ⟨S2048x8640, .i16⟩
  | .hbm, ⟨7, _⟩ => ⟨S2048x128, .f32⟩
  | .hbm, ⟨8, _⟩ => ⟨S8640, .f32⟩
  | .hbm, ⟨9, _⟩ => ⟨S1x8640, .f32⟩
  | .hbm, ⟨10, _⟩ => ⟨S2048x8704, .f32⟩
  | .hbm, ⟨11, _⟩ => ⟨S2048x8640, .i8⟩
  | .hbm, ⟨12, _⟩ => ⟨S8640x3200, .bf16⟩
  | .hbm, ⟨13, _⟩ => ⟨S1x8640, .f32⟩
  | .hbm, ⟨14, _⟩ => ⟨S2048x3200, .f32⟩
  | .hbm, ⟨15, _⟩ => ⟨S2048x128, .f32⟩
  | .local _ .vmem, ⟨0, _⟩ => ⟨S2048x3200, .bf16⟩
  | .local _ .vmem, ⟨1, _⟩ => ⟨S8640x3200, .i8⟩
  | .local _ .vmem, ⟨2, _⟩ => ⟨S2048x8640, .i16⟩
  | .local _ .vmem, ⟨3, _⟩ => ⟨S2048x8640, .i16⟩
  | .local _ .vmem, ⟨4, _⟩ => ⟨S2048x128, .f32⟩
  | .local _ .vmem, ⟨5, _⟩ => ⟨S1x8640, .f32⟩
  | .local _ .vmem, ⟨6, _⟩ => ⟨S2048x8704, .f32⟩
  | .local _ .vmem, ⟨7, _⟩ => ⟨S2048x8640, .i8⟩
  | .local _ .vmem, ⟨8, _⟩ => ⟨S8640x3200, .bf16⟩
  | .local _ .vmem, ⟨9, _⟩ => ⟨S1x8640, .f32⟩
  | .local _ .vmem, ⟨10, _⟩ => ⟨S2048x3200, .f32⟩
  | .local _ .vmem, ⟨11, _⟩ => ⟨S2048x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg13_0 : Ref sig .tc := ⟨.vmem, 10, rfl⟩
abbrev cc0_stg14_0 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8640x3200 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x8640 .i16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x8640 .i16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x8704 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x8640 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8640x3200 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8640 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x3200 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== DwKernel.lean ====
abbrev S1x1 : Shape := ⟨2, ![1, 1]⟩
abbrev S3200x2048 : Shape := ⟨2, ![3200, 2048]⟩
abbrev S2048x8704 : Shape := ⟨2, ![2048, 8704]⟩
abbrev S2048x3200 : Shape := ⟨2, ![2048, 3200]⟩
abbrev S3200 : Shape := ⟨1, ![3200]⟩
abbrev S2048x128 : Shape := ⟨2, ![2048, 128]⟩
abbrev S1x3200 : Shape := ⟨2, ![1, 3200]⟩
abbrev S3200x8640 : Shape := ⟨2, ![3200, 8640]⟩
abbrev S2048x512 : Shape := ⟨2, ![2048, 512]⟩
abbrev S128x3200 : Shape := ⟨2, ![128, 3200]⟩
abbrev S128x128 : Shape := ⟨2, ![128, 128]⟩
abbrev S3200x512 : Shape := ⟨2, ![3200, 512]⟩
abbrev S640x2048 : Shape := ⟨2, ![640, 2048]⟩
abbrev S640x512 : Shape := ⟨2, ![640, 512]⟩
abbrev S16x3200 : Shape := ⟨2, ![16, 3200]⟩
abbrev S16x1 : Shape := ⟨2, ![16, 1]⟩
abbrev S16 : Shape := ⟨1, ![16]⟩
abbrev S16x128 : Shape := ⟨2, ![16, 128]⟩

abbrev nBuf : Space → Nat
  | .hbm => 18
  | .vmem => 29
  | .smem => 1
  | _ => 0

abbrev bufTy : (tb : Table) → Fin (tcTables nBuf tb) → BufTy
  | .hbm, ⟨0, _⟩ => ⟨S1x1, .f32⟩
  | .hbm, ⟨1, _⟩ => ⟨S3200x2048, .bf16⟩
  | .hbm, ⟨2, _⟩ => ⟨S2048x8704, .bf16⟩
  | .hbm, ⟨3, _⟩ => ⟨S2048x8704, .bf16⟩
  | .hbm, ⟨4, _⟩ => ⟨S2048x3200, .bf16⟩
  | .hbm, ⟨5, _⟩ => ⟨S2048x3200, .bf16⟩
  | .hbm, ⟨6, _⟩ => ⟨S3200, .f32⟩
  | .hbm, ⟨7, _⟩ => ⟨S2048x128, .f32⟩
  | .hbm, ⟨8, _⟩ => ⟨S2048x128, .f32⟩
  | .hbm, ⟨9, _⟩ => ⟨S2048x3200, .f32⟩
  | .hbm, ⟨10, _⟩ => ⟨S2048x3200, .f32⟩
  | .hbm, ⟨11, _⟩ => ⟨S1x3200, .f32⟩
  | .hbm, ⟨12, _⟩ => ⟨S3200x8640, .bf16⟩
  | .hbm, ⟨13, _⟩ => ⟨S3200x8640, .bf16⟩
  | .hbm, ⟨14, _⟩ => ⟨S2048x3200, .bf16⟩
  | .hbm, ⟨15, _⟩ => ⟨S2048x3200, .bf16⟩
  | .hbm, ⟨16, _⟩ => ⟨S2048x128, .f32⟩
  | .hbm, ⟨17, _⟩ => ⟨S1x3200, .f32⟩
  | .local _ .vmem, ⟨0, _⟩ => ⟨S3200x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S128x3200, .bf16⟩
  | .local _ .vmem, ⟨6, _⟩ => ⟨S128x3200, .bf16⟩
  | .local _ .vmem, ⟨7, _⟩ => ⟨S128x3200, .bf16⟩
  | .local _ .vmem, ⟨8, _⟩ => ⟨S128x3200, .bf16⟩
  | .local _ .vmem, ⟨9, _⟩ => ⟨S1x3200, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x3200, .f32⟩
  | .local _ .vmem, ⟨15, _⟩ => ⟨S128x3200, .f32⟩
  | .local _ .vmem, ⟨16, _⟩ => ⟨S128x3200, .f32⟩
  | .local _ .vmem, ⟨17, _⟩ => ⟨S128x3200, .f32⟩
  | .local _ .vmem, ⟨18, _⟩ => ⟨S3200x512, .bf16⟩
  | .local _ .vmem, ⟨19, _⟩ => ⟨S3200x512, .bf16⟩
  | .local _ .vmem, ⟨20, _⟩ => ⟨S3200x512, .bf16⟩
  | .local _ .vmem, ⟨21, _⟩ => ⟨S3200x512, .bf16⟩
  | .local _ .vmem, ⟨22, _⟩ => ⟨S128x3200, .bf16⟩
  | .local _ .vmem, ⟨23, _⟩ => ⟨S128x3200, .bf16⟩
  | .local _ .vmem, ⟨24, _⟩ => ⟨S128x3200, .bf16⟩
  | .local _ .vmem, ⟨25, _⟩ => ⟨S128x3200, .bf16⟩
  | .local _ .vmem, ⟨26, _⟩ => ⟨S128x128, .f32⟩
  | .local _ .vmem, ⟨27, _⟩ => ⟨S128x128, .f32⟩
  | .local _ .vmem, ⟨28, _⟩ => ⟨S1x3200, .f32⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29

abbrev nD : Nat := 1
abbrev τ : Topo := Topo.v7x

variable {F : FTy → Type} [FloatOps F]

abbrev grid0 : Pipeline.Grid := ⟨1, ![17], ![false]⟩

@[reducible] def k0_t1_loop : Scf.Loop 32 :=
  let c0_i32_2 : BitVec 32 := 0#32
  let c5_i32 : BitVec 32 := 5#32
  let v4 : BitVec 32 := Scalar.addi c0_i32_2 c5_i32
  let c1_i32 : BitVec 32 := 1#32
  ⟨c0_i32_2, v4, c1_i32⟩
def k0_mult1 (k0_t1 : Fin k0_t1_loop.trips) : BitVec 32 :=
  let c0_i32_2 : BitVec 32 := 0#32
  let c1_i32 : BitVec 32 := 1#32
  let arg18 : BitVec 32 := Scf.iv c0_i32_2 c1_i32 k0_t1
  let c640_i32 : BitVec 32 := 640#32
  let v8 : BitVec 32 := Scalar.muli arg18 c640_i32
  v8
def k0_off1 (k0_t1 : Fin k0_t1_loop.trips) : Fin 2 → Nat :=
  let c0_i32_2 : BitVec 32 := 0#32
  let c1_i32 : BitVec 32 := 1#32
  let arg18 : BitVec 32 := Scf.iv c0_i32_2 c1_i32 k0_t1
  let c640_i32 : BitVec 32 := 640#32
  let v8 : BitVec 32 := Scalar.muli arg18 c640_i32
  let v9 : BitVec 32 := v8
  let v10 : Index := Scalar.indexCast v9
  let c0_5 : Index := 0#32
  ![v10.toNat, 0]
def k0_off2 (k0_t1 : Fin k0_t1_loop.trips) : Fin 2 → Nat :=
  let c0_i32_2 : BitVec 32 := 0#32
  let c1_i32 : BitVec 32 := 1#32
  let arg18 : BitVec 32 := Scf.iv c0_i32_2 c1_i32 k0_t1
  let c640_i32 : BitVec 32 := 640#32
  let v8 : BitVec 32 := Scalar.muli arg18 c640_i32
  let v9 : BitVec 32 := v8
  let v15 : Index := Scalar.indexCast v9
  let c0_8 : Index := 0#32
  ![v15.toNat, 0]
def k0_cond2 (i : grid0.Coords) : BitVec 1 :=
  let arg0 : BitVec 32 := BitVec.ofNat 32 (i 0).val
  let c16_i32 : BitVec 32 := 16#32
  let v5 : BitVec 1 := Scalar.cmpi .slt arg0 c16_i32
  let v6 : BitVec 32 := Scalar.extui v5
  let c0_i32_4 : BitVec 32 := 0#32
  let v7 : BitVec 1 := Scalar.cmpi .ne v6 c0_i32_4
  v7

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3200x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3200 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3200 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x3200 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x3200 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3200x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3200x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x3200 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x3200 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x3200 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== DwReferenceIdeal.lean ====
abbrev S1x1 : Shape := ⟨2, ![1, 1]⟩
abbrev S3200x2048 : Shape := ⟨2, ![3200, 2048]⟩
abbrev S2048x8704 : Shape := ⟨2, ![2048, 8704]⟩
abbrev S2048x3200 : Shape := ⟨2, ![2048, 3200]⟩
abbrev S3200 : Shape := ⟨1, ![3200]⟩
abbrev S2048x128 : Shape := ⟨2, ![2048, 128]⟩
abbrev S2048x1 : Shape := ⟨2, ![2048, 1]⟩
abbrev S2048x8640 : Shape := ⟨2, ![2048, 8640]⟩
abbrev S3200x8640 : Shape := ⟨2, ![3200, 8640]⟩
abbrev S_ : Shape := ⟨0, ![]⟩
abbrev S1x3200 : Shape := ⟨2, ![1, 3200]⟩
abbrev S2048 : Shape := ⟨1, ![2048]⟩

abbrev nBuf : Space → Nat
  | .hbm => 53
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S3200x2048, .bf16⟩
  | .hbm, ⟨2, _⟩ => ⟨S2048x8704, .bf16⟩
  | .hbm, ⟨3, _⟩ => ⟨S2048x8704, .bf16⟩
  | .hbm, ⟨4, _⟩ => ⟨S2048x3200, .bf16⟩
  | .hbm, ⟨5, _⟩ => ⟨S2048x3200, .bf16⟩
  | .hbm, ⟨6, _⟩ => ⟨S3200, .f32⟩
  | .hbm, ⟨7, _⟩ => ⟨S2048x128, .f32⟩
  | .hbm, ⟨8, _⟩ => ⟨S2048x128, .f32⟩
  | .hbm, ⟨9, _⟩ => ⟨S2048x3200, .f32⟩
  | .hbm, ⟨10, _⟩ => ⟨S2048x3200, .f32⟩
  | .hbm, ⟨11, _⟩ => ⟨S2048x3200, .f32⟩
  | .hbm, ⟨12, _⟩ => ⟨S2048x1, .f32⟩
  | .hbm, ⟨13, _⟩ => ⟨S2048x1, .f32⟩
  | .hbm, ⟨14, _⟩ => ⟨S2048x8640, .bf16⟩
  | .hbm, ⟨15, _⟩ => ⟨S3200x8640, .f32⟩
  | .hbm, ⟨16, _⟩ => ⟨S3200x8640, .bf16⟩
  | .hbm, ⟨17, _⟩ => ⟨S2048x8640, .bf16⟩
  | .hbm, ⟨18, _⟩ => ⟨S3200x8640, .f32⟩
  | .hbm, ⟨19, _⟩ => ⟨S3200x8640, .bf16⟩
  | .hbm, ⟨20, _⟩ => ⟨S2048x3200, .f32⟩
  | .hbm, ⟨21, _⟩ => ⟨S2048x3200, .f32⟩
  | .hbm, ⟨22, _⟩ => ⟨S_, .f32⟩
  | .hbm, ⟨23, _⟩ => ⟨S2048x3200, .f32⟩
  | .hbm, ⟨24, _⟩ => ⟨S2048x3200, .f32⟩
  | .hbm, ⟨25, _⟩ => ⟨S2048x3200, .f32⟩
  | .hbm, ⟨26, _⟩ => ⟨S2048x3200, .bf16⟩
  | .hbm, ⟨27, _⟩ => ⟨S2048x3200, .f32⟩
  | .hbm, ⟨28, _⟩ => ⟨S2048x3200, .f32⟩
  | .hbm, ⟨29, _⟩ => ⟨S2048x3200, .f32⟩
  | .hbm, ⟨30, _⟩ => ⟨S_, .f32⟩
  | .hbm, ⟨31, _⟩ => ⟨S3200, .f32⟩
  | .hbm, ⟨32, _⟩ => ⟨S1x3200, .f32⟩
  | .hbm, ⟨33, _⟩ => ⟨S2048x3200, .f32⟩
  | .hbm, ⟨34, _⟩ => ⟨S2048x3200, .f32⟩
  | .hbm, ⟨35, _⟩ => ⟨S2048x3200, .f32⟩
  | .hbm, ⟨36, _⟩ => ⟨S_, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S2048x3200, .f32⟩
  | .hbm, ⟨42, _⟩ => ⟨S2048x1, .f32⟩
  | .hbm, ⟨43, _⟩ => ⟨S2048x3200, .f32⟩
  | .hbm, ⟨44, _⟩ => ⟨S2048x3200, .f32⟩
  | .hbm, ⟨45, _⟩ => ⟨S2048x3200, .f32⟩
  | .hbm, ⟨46, _⟩ => ⟨S2048x3200, .f32⟩
  | .hbm, ⟨47, _⟩ => ⟨S2048x3200, .f32⟩
  | .hbm, ⟨48, _⟩ => ⟨S2048x3200, .f32⟩
  | .hbm, ⟨49, _⟩ => ⟨S2048x3200, .bf16⟩
  | .hbm, ⟨50, _⟩ => ⟨S2048x1, .f32⟩
  | .hbm, ⟨51, _⟩ => ⟨S2048x128, .f32⟩
  | .hbm, ⟨52, _⟩ => ⟨S1x3200, .f32⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== DxnKernel.lean ====
abbrev S1x1 : Shape := ⟨2, ![1, 1]⟩
abbrev S2048x8640 : Shape := ⟨2, ![2048, 8640]⟩
abbrev S3200x8640 : Shape := ⟨2, ![3200, 8640]⟩
abbrev S2048x128 : Shape := ⟨2, ![2048, 128]⟩
abbrev S2048 : Shape := ⟨1, ![2048]⟩
abbrev S8640 : Shape := ⟨1, ![8640]⟩
abbrev S_ : Shape := ⟨0, ![]⟩
abbrev S8704 : Shape := ⟨1, ![8704]⟩
abbrev S1x8704 : Shape := ⟨2, ![1, 8704]⟩
abbrev S2048x1 : Shape := ⟨2, ![2048, 1]⟩
abbrev S2048x8704 : Shape := ⟨2, ![2048, 8704]⟩
abbrev S3200x8704 : Shape := ⟨2, ![3200, 8704]⟩
abbrev S2048x3200 : Shape := ⟨2, ![2048, 3200]⟩
abbrev S2048x256 : Shape := ⟨2, ![2048, 256]⟩
abbrev S3200x256 : Shape := ⟨2, ![3200, 256]⟩
abbrev S1x256 : Shape := ⟨2, ![1, 256]⟩
abbrev S256x1 : Shape := ⟨2, ![256, 1]⟩
abbrev S256x128 : Shape := ⟨2, ![256, 128]⟩
abbrev S1x128 : Shape := ⟨2, ![1, 128]⟩
abbrev S256x256 : Shape := ⟨2, ![256, 256]⟩
abbrev S256x3200 : Shape := ⟨2, ![256, 3200]⟩

abbrev nBuf : Space → Nat
  | .hbm => 34
  | .vmem => 21
  | .smem => 2
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S2048x8640, .f32⟩
  | .hbm, ⟨3, _⟩ => ⟨S2048x8640, .i16⟩
  | .hbm, ⟨4, _⟩ => ⟨S2048x8640, .i16⟩
  | .hbm, ⟨5, _⟩ => ⟨S3200x8640, .i8⟩
  | .hbm, ⟨6, _⟩ => ⟨S3200x8640, .i8⟩
  | .hbm, ⟨7, _⟩ => ⟨S2048x128, .f32⟩
  | .hbm, ⟨8, _⟩ => ⟨S2048, .f32⟩
  | .hbm, ⟨9, _⟩ => ⟨S8640, .f32⟩
  | .hbm, ⟨10, _⟩ => ⟨S_, .i32⟩
  | .hbm, ⟨11, _⟩ => ⟨S_, .f32⟩
  | .hbm, ⟨12, _⟩ => ⟨S8704, .f32⟩
  | .hbm, ⟨13, _⟩ => ⟨S1x8704, .f32⟩
  | .hbm, ⟨14, _⟩ => ⟨S2048x1, .f32⟩
  | .hbm, ⟨15, _⟩ => ⟨S2048x128, .f32⟩
  | .hbm, ⟨16, _⟩ => ⟨S_, .i32⟩
  | .hbm, ⟨17, _⟩ => ⟨S_, .f32⟩
  | .hbm, ⟨18, _⟩ => ⟨S2048x8704, .f32⟩
  | .hbm, ⟨19, _⟩ => ⟨S_, .i32⟩
  | .hbm, ⟨20, _⟩ => ⟨S_, .i16⟩
  | .hbm, ⟨21, _⟩ => ⟨S2048x8704, .i16⟩
  | .hbm, ⟨22, _⟩ => ⟨S_, .i32⟩
  | .hbm, ⟨23, _⟩ => ⟨S_, .i16⟩
  | .hbm, ⟨24, _⟩ => ⟨S2048x8704, .i16⟩
  | .hbm, ⟨25, _⟩ => ⟨S_, .i32⟩
  | .hbm, ⟨26, _⟩ => ⟨S_, .i8⟩
  | .hbm, ⟨27, _⟩ => ⟨S3200x8704, .i8⟩
  | .hbm, ⟨28, _⟩ => ⟨S_, .i32⟩
  | .hbm, ⟨29, _⟩ => ⟨S_, .i8⟩
  | .hbm, ⟨30, _⟩ => ⟨S3200x8704, .i8⟩
  | .hbm, ⟨31, _⟩ => ⟨S2048x3200, .f32⟩
  | .hbm, ⟨32, _⟩ => ⟨S2048x8704, .bf16⟩
  | .hbm, ⟨33, _⟩ => ⟨S2048x8704, .bf16⟩
  | .local _ .vmem, ⟨0, _⟩ => ⟨S2048x256, .f32⟩
  | .local _ .vmem, ⟨1, _⟩ => ⟨S2048x256, .f32⟩
  | .local _ .vmem, ⟨2, _⟩ => ⟨S2048x256, .i16⟩
  | .local _ .vmem, ⟨3, _⟩ => ⟨S2048x256, .i16⟩
  | .local _ .vmem, ⟨4, _⟩ => ⟨S2048x256, .i16⟩
  | .local _ .vmem, ⟨5, _⟩ => ⟨S2048x256, .i16⟩
  | .local _ .vmem, ⟨6, _⟩ => ⟨S3200x256, .i8⟩
  | .local _ .vmem, ⟨7, _⟩ => ⟨S3200x256, .i8⟩
  | .local _ .vmem, ⟨8, _⟩ => ⟨S3200x256, .i8⟩
  | .local _ .vmem, ⟨9, _⟩ => ⟨S3200x256, .i8⟩
  | .local _ .vmem, ⟨10, _⟩ => ⟨S2048x128, .f32⟩
  | .local _ .vmem, ⟨11, _⟩ => ⟨S2048x128, .f32⟩
  | .local _ .vmem, ⟨12, _⟩ => ⟨S1x256, .f32⟩
  | .local _ .vmem, ⟨13, _⟩ => ⟨S1x256, .f32⟩
  | .local _ .vmem, ⟨14, _⟩ => ⟨S2048x3200, .f32⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S3200x256, .bf16⟩
  | .local _ .vmem, ⟨20, _⟩ => ⟨S3200x256, .bf16⟩
  | .local _ .smem, ⟨0, _⟩ => ⟨S1x1, .f32⟩
  | .local _ .smem, ⟨1, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_c_1 : Ref sig .tc := ⟨.hbm, 19, rfl⟩
abbrev main_call2_v0 : Ref sig .tc := ⟨.hbm, 20, rfl⟩
abbrev main_v5 : Ref sig .tc := ⟨.hbm, 21, rfl⟩
abbrev main_c_2 : Ref sig .tc := ⟨.hbm, 22, rfl⟩
abbrev main_call3_v0 : Ref sig .tc := ⟨.hbm, 23, rfl⟩
abbrev main_v6 : Ref sig .tc := ⟨.hbm, 24, rfl⟩
abbrev main_c_3 : Ref sig .tc := ⟨.hbm, 25, rfl⟩
abbrev main_call4_v0 : Ref sig .tc := ⟨.hbm, 26, rfl⟩
abbrev main_v7 : Ref sig .tc := ⟨.hbm, 27, rfl⟩
abbrev main_c_4 : Ref sig .tc := ⟨.hbm, 28, rfl⟩
abbrev main_call5_v0 : Ref sig .tc := ⟨.hbm, 29, rfl⟩
abbrev main_v8 : Ref sig .tc := ⟨.hbm, 30, rfl⟩
abbrev main_v9_0 : Ref sig .tc := ⟨.hbm, 31, rfl⟩
abbrev main_v9_1 : Ref sig .tc := ⟨.hbm, 32, rfl⟩
abbrev main_v9_2 : Ref sig .tc := ⟨.hbm, 33, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3200x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3200x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x3200 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== DxnReferenceIdeal.lean ====
abbrev S1x1 : Shape := ⟨2, ![1, 1]⟩
abbrev S2048x8640 : Shape := ⟨2, ![2048, 8640]⟩
abbrev S3200x8640 : Shape := ⟨2, ![3200, 8640]⟩
abbrev S2048x128 : Shape := ⟨2, ![2048, 128]⟩
abbrev S2048 : Shape := ⟨1, ![2048]⟩
abbrev S8640 : Shape := ⟨1, ![8640]⟩
abbrev S2048x1 : Shape := ⟨2, ![2048, 1]⟩
abbrev S1x8640 : Shape := ⟨2, ![1, 8640]⟩
abbrev S2048x3200 : Shape := ⟨2, ![2048, 3200]⟩
abbrev S2048x8704 : Shape := ⟨2, ![2048, 8704]⟩
abbrev S2048x64 : Shape := ⟨2, ![2048, 64]⟩

abbrev nBuf : Space → Nat
  | .hbm => 15
  | .vmem => 11
  | .smem => 2
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S2048x8640, .f32⟩
  | .hbm, ⟨3, _⟩ => ⟨S2048x8640, .i16⟩
  | .hbm, ⟨4, _⟩ => ⟨S2048x8640, .i16⟩
  | .hbm, ⟨5, _⟩ => ⟨S3200x8640, .i8⟩
  | .hbm, ⟨6, _⟩ => ⟨S3200x8640, .i8⟩
  | .hbm, ⟨7, _⟩ => ⟨S2048x128, .f32⟩
  | .hbm, ⟨8, _⟩ => ⟨S2048, .f32⟩
  | .hbm, ⟨9, _⟩ => ⟨S8640, .f32⟩
  | .hbm, ⟨10, _⟩ => ⟨S2048x1, .f32⟩
  | .hbm, ⟨11, _⟩ => ⟨S1x8640, .f32⟩
  | .hbm, ⟨12, _⟩ => ⟨S2048x3200, .f32⟩
  | .hbm, ⟨13, _⟩ => ⟨S2048x8704, .bf16⟩
  | .hbm, ⟨14, _⟩ => ⟨S2048x8704, .bf16⟩
  | .local _ .vmem, ⟨0, _⟩ => ⟨S2048x8640, .f32⟩
  | .local _ .vmem, ⟨1, _⟩ => ⟨S2048x8640, .i16⟩
  | .local _ .vmem, ⟨2, _⟩ => ⟨S2048x8640, .i16⟩
  | .local _ .vmem, ⟨3, _⟩ => ⟨S3200x8640, .i8⟩
  | .local _ .vmem, ⟨4, _⟩ => ⟨S3200x8640, .i8⟩
  | .local _ .vmem, ⟨5, _⟩ => ⟨S2048x128, .f32⟩
  | .local _ .vmem, ⟨6, _⟩ => ⟨S2048x1, .f32⟩
  | .local _ .vmem, ⟨7, _⟩ => ⟨S1x8640, .f32⟩
  | .local _ .vmem, ⟨8, _⟩ => ⟨S2048x3200, .f32⟩
  | .local _ .vmem, ⟨9, _⟩ => ⟨S2048x8704, .bf16⟩
  | .local _ .vmem, ⟨10, _⟩ => ⟨S2048x8704, .bf16⟩
  | .local _ .smem, ⟨0, _⟩ => ⟨S1x1, .f32⟩
  | .local _ .smem, ⟨1, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8640 .i16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8640 .i16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3200x8640 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3200x8640 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x3200 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x8704 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x8704 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.ClipInt.lean ====
/- The 8-bit code of a rounded value clipped to [-127, 127], read back as a number, is that value. -/
module

public import Idealize.ShloMosaic.Lib.Pointwise

@[expose] public section

noncomputable section

namespace Cert.ClipInt

open Idealize.ShloMosaic

/-- The rounded value clipped to [-127, 127], as both programs spell it. -/
def clip127 (x : EReal) : EReal :=
  min (FloatOps.sitofp (F := Ideal) .f32 127#32)
    (max (FloatOps.sitofp (F := Ideal) .f32 4294967169#32) (Ideal.liftRound Ideal.roundHalfEven x))

theorem lo_eq : (FloatOps.sitofp (F := Ideal) .f32 4294967169#32 : EReal) = ((-127 : ℝ) : EReal) := by
  show (((4294967169#32 : BitVec 32).toInt : ℝ) : EReal) = _
  rw [show (4294967169#32 : BitVec 32).toInt = -127 from by decide]
  norm_num

theorem hi_eq : (FloatOps.sitofp (F := Ideal) .f32 127#32 : EReal) = ((127 : ℝ) : EReal) := by
  show (((127#32 : BitVec 32).toInt : ℝ) : EReal) = _
  rw [show (127#32 : BitVec 32).toInt = 127 from by decide]
  norm_num

/-- A clipped rounded value is an integer between -127 and 127. -/
theorem clip127_int (x : EReal) : ∃ n : ℤ, -127 ≤ n ∧ n ≤ 127 ∧ clip127 x = ((n : ℝ) : EReal) := by
  unfold clip127
  rw [lo_eq, hi_eq]
  induction x using EReal.rec with
  | bot => exact ⟨-127, by norm_num, by norm_num, by
      rw [Ideal.liftRound_bot, max_eq_left bot_le, min_eq_right (by exact_mod_cast (by norm_num : (-127 : ℝ) ≤ 127))]
      norm_num⟩
  | top => exact ⟨127, by norm_num, by norm_num, by
      rw [Ideal.liftRound_top, max_eq_right le_top, min_eq_left le_top]
      norm_num⟩
  | coe r =>
    rw [Ideal.liftRound_coe]
    refine ⟨min 127 (max (-127) (Ideal.roundHalfEven r)), by omega, by omega, ?_⟩
    push_cast
    rfl

/-- Casting a clipped rounded value to 8 bits and back changes nothing. -/
theorem sitofp_fptosi_clip (φ ψ : FTy) (x : EReal) :
    (FloatOps.sitofp (F := Ideal) φ (FloatOps.fptosi (F := Ideal) (φ := ψ) 8 (clip127 x)) : EReal) = clip127 x := by
  obtain ⟨n, h1, h2, h⟩ := clip127_int x
  rw [h]
  have : (FloatOps.fptosi (F := Ideal) (φ := ψ) 8 (((n : ℝ) : EReal)) : BitVec 8) = BitVec.ofInt 8 n := by
    show Ideal.fptosi 8 _ = _
    rw [Ideal.fptosi, Ideal.toIntClamped_coe]
    congr 1
    simp only [Int.floor_intCast, Int.ceil_intCast, ite_self]
    norm_num
    omega
  rw [this]
  show ((((BitVec.ofInt 8 n).toInt : ℝ)) : EReal) = _
  have h3 : (BitVec.ofInt 8 n).toInt = n := by
    rw [BitVec.toInt_ofInt]
    simp only [Int.bmod]
    omega
  rw [h3]

/-- The same fact as the reader of a vector operation meets it: the code's integer value. -/
theorem toInt_fptosi_clip (ψ : FTy) (x : EReal) :
    ((((FloatOps.fptosi (F := Ideal) (φ := ψ) 8 (clip127 x) : BitVec 8).toInt : ℝ)) : EReal) = clip127 x :=
  sitofp_fptosi_clip .f32 ψ x

/-- An integer read as a number. -/
theorem sitofp_eq (φ : FTy) {w : ℕ} (b : BitVec w) : (FloatOps.sitofp (F := Ideal) φ b : EReal) = ((b.toInt : ℝ) : EReal) := rfl

/-- `clip127` as the reader of a vector operation meets it. -/
theorem clip127_eq (x : EReal) : min ((((127#32 : BitVec 32).toInt : ℝ)) : EReal)
      (max ((((4294967169#32 : BitVec 32).toInt : ℝ)) : EReal) (Ideal.liftRound Ideal.roundHalfEven x)) = clip127 x := rfl

end Cert.ClipInt

end
-- ==== Proof.DownSpec.lean ====
/- The mathematics of the down call, at coordinates: what one entry of each of its six results is, as a function of
   the nine arguments. Both programs are shown to compute these functions. -/
module

public import proofs.«01_k».proof.Proof.ClipInt

@[expose] public section

set_option maxRecDepth 16384

noncomputable section

namespace Cert.DownSpec

open Idealize.ShloMosaic Idealize.ShloMosaic.TcCoe Cert.ClipInt

/-- The normalised hidden value `relu(g)² · u · r2` from the two integer products `ig`, `iu`, the row scales `sx`, `r2`
    and the two weight scales. -/
def n2 (gg gu sx r2 : EReal) (ig iu : BitVec 16) : EReal :=
  max ((ig.toInt : ℝ) * sx * gg) 0 * max ((ig.toInt : ℝ) * sx * gg) 0 * ((iu.toInt : ℝ) * sx * gu) * r2

/-- The clipped rounded quotient `round(n2 · gamma / sa)`, as a number. -/
def q (gg gu sx r2 sa gam : EReal) (ig iu : BitVec 16) : EReal :=
  clip127 (Ideal.div (n2 gg gu sx r2 ig iu * gam) sa)

abbrev S1 : Shape := ⟨2, ![1, 1]⟩
abbrev STD : Shape := ⟨2, ![2048, 3200]⟩
abbrev SFD : Shape := ⟨2, ![8640, 3200]⟩
abbrev STF : Shape := ⟨2, ![2048, 8640]⟩
abbrev STP : Shape := ⟨2, ![2048, 8704]⟩
abbrev STL : Shape := ⟨2, ![2048, 128]⟩
abbrev SF : Shape := ⟨1, ![8640]⟩
abbrev S1F : Shape := ⟨2, ![1, 8640]⟩

section
variable (gg gu gd : Vec Ideal S1 .f32) (dy : Vec Ideal STD .bf16) (cd : Vec Ideal SFD .i8) (ig iu : Vec Ideal STF .i16)
  (row : Vec Ideal STL .f32) (gs : Vec Ideal SF .f32)

/-- `n2` at row `r`, column `f`. -/
def N2 (r : Fin 2048) (f : Fin 8640) : EReal :=
  n2 (gg (ix2 0 0)) (gu (ix2 0 0)) (row (ix2 r 0)) (row (ix2 r 1)) (ig (ix2 r f)) (iu (ix2 r f))

/-- The code of the hidden activation at row `r`, column `f`, as a number. -/
def Q (r : Fin 2048) (f : Fin 8640) : EReal :=
  q (gg (ix2 0 0)) (gu (ix2 0 0)) (row (ix2 r 0)) (row (ix2 r 1)) (row (ix2 r 2)) (gs (ix1 f)) (ig (ix2 r f)) (iu (ix2 r f))

/-- The gradient at the input of the down projection: `(dy · cdᵀ) · gam_d`. -/
def DN (r : Fin 2048) (f : Fin 8640) : EReal :=
  (∑ k : Fin 3200, (dy (ix2 r k) : EReal) * (((cd (ix2 f k) : BitVec 8).toInt : ℝ) : EReal)) * (gd (ix2 0 0) : EReal)

/-- Result 1: the gradient, zero in the padding columns. -/
def dan : Vec Ideal STP .f32 := fun j => if h : (j 1 : ℕ) < 8640 then DN gd dy cd (j 0) ⟨j 1, h⟩ else (0 : EReal)

/-- Result 2: the 8-bit codes. -/
def qa : Vec Ideal STF .i8 := fun j => FloatOps.fptosi (F := Ideal) (φ := .f32) 8 (Q gg gu ig iu row gs (j 0) (j 1))

/-- Result 3: the weight gradient `(q · sa)ᵀ · dy`. -/
def dwd : Vec Ideal SFD .bf16 := fun j =>
  (∑ r : Fin 2048, Q gg gu ig iu row gs r (j 0) * (row (ix2 r 2) : EReal) * (dy (ix2 r (j 1)) : EReal) : EReal)

/-- Result 4: the gradient of the inner norm's gain. -/
def dgs : Vec Ideal S1F .f32 := fun j => (∑ r : Fin 2048, DN gd dy cd r (j 1) * N2 gg gu ig iu row r (j 1) : EReal)

/-- Result 5: the down projection `q · cd`. -/
def acc : Vec Ideal STD .f32 := fun j =>
  (∑ f : Fin 8640, Q gg gu ig iu row gs (j 0) f * (((cd (ix2 f (j 1)) : BitVec 8).toInt : ℝ) : EReal) : EReal)

/-- Result 6: the mean of `gradient · gamma · n2` over a row, in every lane. -/
def cs : Vec Ideal STL .f32 := fun j =>
  Ideal.div (∑ f : Fin 8640, DN gd dy cd (j 0) f * (gs (ix1 f) : EReal) * N2 gg gu ig iu row (j 0) f) (Ideal.ofBits .f32 0x46070000#32)

end

end Cert.DownSpec

end
-- ==== Proof.DownRef.lean ====
/- The reference of the down call: each of its six result arrays after the run is the function of DownSpec. -/
module

public import proofs.«01_k».proof.Proof.DownSpec
public import proofs.«01_k».proof.Proof.Gen.DownReferenceIdeal.Frame
public import Idealize.ShloMosaic.Lib.Pipeline.ValueKit
public import Idealize.ShloMosaic.Lib.Pipeline.ReadBack

@[expose] public section

set_option maxRecDepth 16384

noncomputable section

namespace Cert.DownReferenceIdeal.Val

open Cert.DownReferenceIdeal Cert.DownReferenceIdeal.Gen
open Idealize.ShloMosaic Idealize.ShloMosaic.TcCoe Idealize.SL.Sem
open Idealize.ShloMosaic.Pipeline (Dat)

variable (m : (ℓ : Loc nD τ sig) → Buf (Elt Ideal) ℓ)

/-- Every block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

theorem final9 (c : Dev nD) : (dats m 0 c).arrAt 9 (cfgs 0).N
    = DownSpec.dan (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]; unfold Gen.outsAt0; frame_out
  simp only [read_unread_whole]
  generalize hj : (((cfg0.win 9).blk t).view.emb y) = j
  obtain rfl : j = y := by rw [← hj]; blk_ext [idx t]
  clear hj
  idx_vars j
  pointwise [k0_pay1, k0_pay2, k0_pay3, k0_pay4, k0_pay5, k0_pay6, k0_pay7, k0_pay8, k0_pay9, k0_pay10, k0_pay11, k0_pay12, k0_pay13, DownSpec.dan, DownSpec.DN, ClipInt.sitofp_eq, ClipInt.toInt_fptosi_clip, ClipInt.clip127_eq]
  blk_point [iblk, V, idx t]

theorem final10 (c : Dev nD) : (dats m 0 c).arrAt 10 (cfgs 0).N
    = DownSpec.qa (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10]; unfold Gen.outsAt0; frame_out
  simp only [read_unread_whole]
  generalize hj : (((cfg0.win 10).blk t).view.emb y) = j
  obtain rfl : j = y := by rw [← hj]; blk_ext [idx t]
  clear hj
  idx_vars j
  pointwise [k0_pay1, k0_pay2, k0_pay3, k0_pay4, k0_pay5, k0_pay6, k0_pay7, k0_pay8, k0_pay9, k0_pay10, k0_pay11, k0_pay12, k0_pay13, DownSpec.qa, DownSpec.Q, DownSpec.q, DownSpec.n2, ClipInt.sitofp_eq, ClipInt.toInt_fptosi_clip, ClipInt.clip127_eq]
  blk_point [iblk, V, idx t]

theorem final11 (c : Dev nD) : (dats m 0 c).arrAt 11 (cfgs 0).N
    = DownSpec.dwd (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  blk_simp
  rw [after0_11]; unfold Gen.outsAt0; frame_out
  simp only [read_unread_whole]
  generalize hj : (((cfg0.win 11).blk t).view.emb y) = j
  obtain rfl : j = y := by rw [← hj]; blk_ext [idx t]
  clear hj
  idx_vars j
  pointwise [k0_pay1, k0_pay2, k0_pay3, k0_pay4, k0_pay5, k0_pay6, k0_pay7, k0_pay8, k0_pay9, k0_pay10, k0_pay11, k0_pay12, k0_pay13, DownSpec.dwd, DownSpec.Q, DownSpec.q, DownSpec.n2, ClipInt.sitofp_eq, ClipInt.toInt_fptosi_clip, ClipInt.clip127_eq]
  blk_point [iblk, V, idx t]

theorem final12 (c : Dev nD) : (dats m 0 c).arrAt 12 (cfgs 0).N
    = DownSpec.dgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12]; unfold Gen.outsAt0; frame_out
  simp only [read_unread_whole]
  generalize hj : (((cfg0.win 12).blk t).view.emb y) = j
  obtain rfl : j = y := by rw [← hj]; blk_ext [idx t]
  clear hj
  idx_vars j
  pointwise [k0_pay1, k0_pay2, k0_pay3, k0_pay4, k0_pay5, k0_pay6, k0_pay7, k0_pay8, k0_pay9, k0_pay10, k0_pay11, k0_pay12, k0_pay13, DownSpec.dgs, DownSpec.DN, DownSpec.N2, DownSpec.n2, ClipInt.sitofp_eq, ClipInt.toInt_fptosi_clip, ClipInt.clip127_eq]
  blk_point [iblk, V, idx t]

theorem final13 (c : Dev nD) : (dats m 0 c).arrAt 13 (cfgs 0).N
    = DownSpec.acc (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp
  rw [after0_13]; unfold Gen.outsAt0; frame_out
  simp only [read_unread_whole]
  generalize hj : (((cfg0.win 13).blk t).view.emb y) = j
  obtain rfl : j = y := by rw [← hj]; blk_ext [idx t]
  clear hj
  idx_vars j
  pointwise [k0_pay1, k0_pay2, k0_pay3, k0_pay4, k0_pay5, k0_pay6, k0_pay7, k0_pay8, k0_pay9, k0_pay10, k0_pay11, k0_pay12, k0_pay13, DownSpec.acc, DownSpec.Q, DownSpec.q, DownSpec.n2, ClipInt.sitofp_eq, ClipInt.toInt_fptosi_clip, ClipInt.clip127_eq]
  blk_point [iblk, V, idx t]

theorem final14 (c : Dev nD) : (dats m 0 c).arrAt 14 (cfgs 0).N
    = DownSpec.cs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  blk_simp
  rw [after0_14]; unfold Gen.outsAt0; frame_out
  simp only [read_unread_whole]
  generalize hj : (((cfg0.win 14).blk t).view.emb y) = j
  obtain rfl : j = y := by rw [← hj]; blk_ext [idx t]
  clear hj
  idx_vars j
  pointwise [k0_pay1, k0_pay2, k0_pay3, k0_pay4, k0_pay5, k0_pay6, k0_pay7, k0_pay8, k0_pay9, k0_pay10, k0_pay11, k0_pay12, k0_pay13, DownSpec.cs, DownSpec.DN, DownSpec.N2, DownSpec.n2, ClipInt.sitofp_eq, ClipInt.toInt_fptosi_clip, ClipInt.clip127_eq]
  blk_point [iblk, V, idx t]

end Cert.DownReferenceIdeal.Val

end
-- ==== Proof.Rows.lean ====
/- Facts about arrays of 2048 rows that are stored and loaded in chunks of 256 rows, and about sums over such chunks and over 34 blocks of
   256 columns. They speak of no kernel. -/
module

public import Idealize.ShloMosaic.PureOps.Ideal
public import Idealize.ShloMosaic.Lib.Pipeline.ValueKit
public import Idealize.ShloMosaic.Lib.Pipeline.ReadBack

@[expose] public section

set_option maxRecDepth 16384

noncomputable section

namespace Cert.Rows

open Idealize.ShloMosaic Idealize.ShloMosaic.TcCoe Idealize.SL.Sem

abbrev S2048x256 : Shape := ⟨2, ![2048, 256]⟩
abbrev S256x128 : Shape := ⟨2, ![256, 128]⟩
abbrev S256x256 : Shape := ⟨2, ![256, 256]⟩

/-- Two stores of one function `G`, over any earlier stores, leave `G` at every index they cover. -/
theorem canon_two {s : Shape} {e : EltTy} (G : s.Idx → Elt Ideal e) (p q : View.Piece (Elt Ideal) s e) (L : List (View.Piece (Elt Ideal) s e))
    (hp : ∀ x : p.1.shape.Idx, p.2 x = G (p.1.emb x)) (hq : ∀ x : q.1.shape.Idx, q.2 x = G (q.1.emb x)) (y : s.Idx)
    (hy : y ∈ p.1.set ∨ y ∈ q.1.set) : View.canon (p :: q :: L) y = G y := by
  refine View.canon_append_of_piecesOf G L [p, q] ⟨hp, hq, trivial⟩ y ?_
  rcases hy with h | h
  · exact ⟨p, by simp, h⟩
  · exact ⟨q, by simp, h⟩

/-- A load of one chunk's 256 rows after the two stores of that chunk reads those stores. -/
theorem readCov_chunk {sig : RefSig} {κ : Kind} {sp : Space} (v : View sig κ sp S2048x256 .bf16) (o : ℕ)
    (h1 : ∀ a : Fin 2, (![o, 128] : Fin 2 → ℕ) a + (![256, 128] : Fin 2 → ℕ) a ≤ S2048x256.size a)
    (h0 : ∀ a : Fin 2, (![o, 0] : Fin 2 → ℕ) a + (![256, 128] : Fin 2 → ℕ) a ≤ S2048x256.size a)
    (hh : ∀ a : Fin 2, (![o, 0] : Fin 2 → ℕ) a + (![256, 256] : Fin 2 → ℕ) a ≤ S2048x256.size a)
    (p q : Vec Ideal S256x128 .bf16) (L : List (View.Piece (Elt Ideal) S2048x256 .bf16)) (G : Fin 2048 → Fin 256 → EReal)
    (hp : ∀ (x : S256x128.Idx) (r : Fin 2048) (j : Fin 256), (r : ℕ) = o + x 0 → (j : ℕ) = 128 + x 1 → p x = G r j)
    (hq : ∀ (x : S256x128.Idx) (r : Fin 2048) (j : Fin 256), (r : ℕ) = o + x 0 → (j : ℕ) = 0 + x 1 → q x = G r j)
    (a : Fin 256) (j : Fin 256) (r : Fin 2048) (hr : (r : ℕ) = o + a) :
    v.readCov (⟨Rect.unit ![o, 128] ![256, 128] h1, p⟩ :: ⟨Rect.unit ![o, 0] ![256, 128] h0, q⟩ :: L)
      (Rect.unit (s := S2048x256) ![o, 0] ![256, 256] hh).toLoadRect (ix2 a j : S256x256.Idx) = G r j := by
  rw [View.readCov_eq_canon']
  show View.canon _ (LoadRect.idx _ _) = _
  generalize hw : LoadRect.idx _ _ = w
  have w0 : (w 0 : ℕ) = r := by subst hw; show o + 1 * (a : ℕ) = r; omega
  have w1 : (w 1 : ℕ) = j := by subst hw; show 0 + 1 * (j : ℕ) = j; omega
  clear hw
  refine (canon_two (fun w : S2048x256.Idx => G (w 0) (w 1)) _ _ _ (fun x => hp x _ _ ?_ ?_) (fun x => hq x _ _ ?_ ?_) w ?_).trans
    (congrArg₂ G (Fin.ext w0) (Fin.ext w1))
  · show o + 1 * (x 0 : ℕ) = o + (x 0 : ℕ); omega
  · show 128 + 1 * (x 1 : ℕ) = 128 + (x 1 : ℕ); omega
  · show o + 1 * (x 0 : ℕ) = o + (x 0 : ℕ); omega
  · show 0 + 1 * (x 1 : ℕ) = 0 + (x 1 : ℕ); omega
  · by_cases hj : (j : ℕ) < 128
    · right
      refine (Rect.mem_set_unit (s := S2048x256) (inb := h0)).mpr fun b => ?_
      fin_cases b
      · show o ≤ (w 0 : ℕ) ∧ (w 0 : ℕ) < o + 256; omega
      · show 0 ≤ (w 1 : ℕ) ∧ (w 1 : ℕ) < 0 + 128; omega
    · left
      refine (Rect.mem_set_unit (s := S2048x256) (inb := h1)).mpr fun b => ?_
      fin_cases b
      · show o ≤ (w 0 : ℕ) ∧ (w 0 : ℕ) < o + 256; omega
      · show 128 ≤ (w 1 : ℕ) ∧ (w 1 : ℕ) < 128 + 128; omega

/-- A sum over 2048 rows, chunk by chunk. -/
theorem sum_chunks (F : Fin 2048 → EReal) :
    (0 + ∑ r : Fin 256, F ⟨0 + r, by omega⟩ + ∑ r : Fin 256, F ⟨256 + r, by omega⟩ + ∑ r : Fin 256, F ⟨512 + r, by omega⟩
      + ∑ r : Fin 256, F ⟨768 + r, by omega⟩ + ∑ r : Fin 256, F ⟨1024 + r, by omega⟩ + ∑ r : Fin 256, F ⟨1280 + r, by omega⟩
      + ∑ r : Fin 256, F ⟨1536 + r, by omega⟩ + ∑ r : Fin 256, F ⟨1792 + r, by omega⟩) = ∑ r : Fin 2048, F r := by
  rw [← show ∑ s : Fin 8, ∑ r : Fin 256, F ⟨s * 256 + r, by omega⟩ = ∑ r : Fin 2048, F r from
    Fin.sum_mul_add_congr fun s k hl => rfl, Fin.sum_univ_eight, zero_add]
  rfl

/-- A load of a rectangle, read at an index. -/
theorem ld2 {n0 n1 a b o l : ℕ} {e : EltTy} (A : Vec Ideal ⟨2, ![n0, n1]⟩ e)
    (h : ∀ k : Fin 2, (![o, l] : Fin 2 → ℕ) k + (![a, b] : Fin 2 → ℕ) k ≤ (⟨2, ![n0, n1]⟩ : Shape).size k)
    (x : (⟨2, ![a, b]⟩ : Shape).Idx) (y : (⟨2, ![n0, n1]⟩ : Shape).Idx) (h0 : (y 0 : ℕ) = o + x 0) (h1 : (y 1 : ℕ) = l + x 1) :
    View.ld A (Rect.unit (s := ⟨2, ![n0, n1]⟩) ![o, l] ![a, b] h) x = A y := by
  refine congrArg A (funext fun k => Fin.ext ?_)
  fin_cases k
  · show o + 1 * (x 0 : ℕ) = y 0; omega
  · show l + 1 * (x 1 : ℕ) = y 1; omega

/-- Eight stores of 256 rows each, over any earlier stores, leave the function they are blocks of. -/
theorem canon_rows {n : ℕ} {e : EltTy} (G : (⟨2, ![2048, n]⟩ : Shape).Idx → Elt Ideal e)
    (h0 : ∀ a : Fin 2, (![1792, 0] : Fin 2 → ℕ) a + (![256, n] : Fin 2 → ℕ) a ≤ (⟨2, ![2048, n]⟩ : Shape).size a)
    (h1 : ∀ a : Fin 2, (![1536, 0] : Fin 2 → ℕ) a + (![256, n] : Fin 2 → ℕ) a ≤ (⟨2, ![2048, n]⟩ : Shape).size a)
    (h2 : ∀ a : Fin 2, (![1280, 0] : Fin 2 → ℕ) a + (![256, n] : Fin 2 → ℕ) a ≤ (⟨2, ![2048, n]⟩ : Shape).size a)
    (h3 : ∀ a : Fin 2, (![1024, 0] : Fin 2 → ℕ) a + (![256, n] : Fin 2 → ℕ) a ≤ (⟨2, ![2048, n]⟩ : Shape).size a)
    (h4 : ∀ a : Fin 2, (![768, 0] : Fin 2 → ℕ) a + (![256, n] : Fin 2 → ℕ) a ≤ (⟨2, ![2048, n]⟩ : Shape).size a)
    (h5 : ∀ a : Fin 2, (![512, 0] : Fin 2 → ℕ) a + (![256, n] : Fin 2 → ℕ) a ≤ (⟨2, ![2048, n]⟩ : Shape).size a)
    (h6 : ∀ a : Fin 2, (![256, 0] : Fin 2 → ℕ) a + (![256, n] : Fin 2 → ℕ) a ≤ (⟨2, ![2048, n]⟩ : Shape).size a)
    (h7 : ∀ a : Fin 2, (![0, 0] : Fin 2 → ℕ) a + (![256, n] : Fin 2 → ℕ) a ≤ (⟨2, ![2048, n]⟩ : Shape).size a)
    (p0 p1 p2 p3 p4 p5 p6 p7 : Vec Ideal ⟨2, ![256, n]⟩ e) (L : List (View.Piece (Elt Ideal) ⟨2, ![2048, n]⟩ e)) (y : (⟨2, ![2048, n]⟩ : Shape).Idx)
    (e0 : ∀ (x : (⟨2, ![256, n]⟩ : Shape).Idx) (y : (⟨2, ![2048, n]⟩ : Shape).Idx), (y 0 : ℕ) = 1792 + x 0 → (y 1 : ℕ) = x 1 → p0 x = G y)
    (e1 : ∀ (x : (⟨2, ![256, n]⟩ : Shape).Idx) (y : (⟨2, ![2048, n]⟩ : Shape).Idx), (y 0 : ℕ) = 1536 + x 0 → (y 1 : ℕ) = x 1 → p1 x = G y)
    (e2 : ∀ (x : (⟨2, ![256, n]⟩ : Shape).Idx) (y : (⟨2, ![2048, n]⟩ : Shape).Idx), (y 0 : ℕ) = 1280 + x 0 → (y 1 : ℕ) = x 1 → p2 x = G y)
    (e3 : ∀ (x : (⟨2, ![256, n]⟩ : Shape).Idx) (y : (⟨2, ![2048, n]⟩ : Shape).Idx), (y 0 : ℕ) = 1024 + x 0 → (y 1 : ℕ) = x 1 → p3 x = G y)
    (e4 : ∀ (x : (⟨2, ![256, n]⟩ : Shape).Idx) (y : (⟨2, ![2048, n]⟩ : Shape).Idx), (y 0 : ℕ) = 768 + x 0 → (y 1 : ℕ) = x 1 → p4 x = G y)
    (e5 : ∀ (x : (⟨2, ![256, n]⟩ : Shape).Idx) (y : (⟨2, ![2048, n]⟩ : Shape).Idx), (y 0 : ℕ) = 512 + x 0 → (y 1 : ℕ) = x 1 → p5 x = G y)
    (e6 : ∀ (x : (⟨2, ![256, n]⟩ : Shape).Idx) (y : (⟨2, ![2048, n]⟩ : Shape).Idx), (y 0 : ℕ) = 256 + x 0 → (y 1 : ℕ) = x 1 → p6 x = G y)
    (e7 : ∀ (x : (⟨2, ![256, n]⟩ : Shape).Idx) (y : (⟨2, ![2048, n]⟩ : Shape).Idx), (y 0 : ℕ) = 0 + x 0 → (y 1 : ℕ) = x 1 → p7 x = G y) :
    View.canon (⟨Rect.unit (s := ⟨2, ![2048, n]⟩) ![1792, 0] ![256, n] h0, p0⟩ :: ⟨Rect.unit (s := ⟨2, ![2048, n]⟩) ![1536, 0] ![256, n] h1, p1⟩ :: ⟨Rect.unit (s := ⟨2, ![2048, n]⟩) ![1280, 0] ![256, n] h2, p2⟩ :: ⟨Rect.unit (s := ⟨2, ![2048, n]⟩) ![1024, 0] ![256, n] h3, p3⟩ :: ⟨Rect.unit (s := ⟨2, ![2048, n]⟩) ![768, 0] ![256, n] h4, p4⟩ :: ⟨Rect.unit (s := ⟨2, ![2048, n]⟩) ![512, 0] ![256, n] h5, p5⟩ :: ⟨Rect.unit (s := ⟨2, ![2048, n]⟩) ![256, 0] ![256, n] h6, p6⟩ :: ⟨Rect.unit (s := ⟨2, ![2048, n]⟩) ![0, 0] ![256, n] h7, p7⟩ :: L) y = G y := by
  refine View.canon_append_of_piecesOf G L [⟨Rect.unit (s := ⟨2, ![2048, n]⟩) ![1792, 0] ![256, n] h0, p0⟩, ⟨Rect.unit (s := ⟨2, ![2048, n]⟩) ![1536, 0] ![256, n] h1, p1⟩, ⟨Rect.unit (s := ⟨2, ![2048, n]⟩) ![1280, 0] ![256, n] h2, p2⟩, ⟨Rect.unit (s := ⟨2, ![2048, n]⟩) ![1024, 0] ![256, n] h3, p3⟩, ⟨Rect.unit (s := ⟨2, ![2048, n]⟩) ![768, 0] ![256, n] h4, p4⟩, ⟨Rect.unit (s := ⟨2, ![2048, n]⟩) ![512, 0] ![256, n] h5, p5⟩, ⟨Rect.unit (s := ⟨2, ![2048, n]⟩) ![256, 0] ![256, n] h6, p6⟩, ⟨Rect.unit (s := ⟨2, ![2048, n]⟩) ![0, 0] ![256, n] h7, p7⟩]
    ⟨fun x => e0 x _ (show 1792 + 1 * (x 0 : ℕ) = 1792 + x 0 by omega) (show 0 + 1 * (x 1 : ℕ) = x 1 by omega), fun x => e1 x _ (show 1536 + 1 * (x 0 : ℕ) = 1536 + x 0 by omega) (show 0 + 1 * (x 1 : ℕ) = x 1 by omega), fun x => e2 x _ (show 1280 + 1 * (x 0 : ℕ) = 1280 + x 0 by omega) (show 0 + 1 * (x 1 : ℕ) = x 1 by omega), fun x => e3 x _ (show 1024 + 1 * (x 0 : ℕ) = 1024 + x 0 by omega) (show 0 + 1 * (x 1 : ℕ) = x 1 by omega), fun x => e4 x _ (show 768 + 1 * (x 0 : ℕ) = 768 + x 0 by omega) (show 0 + 1 * (x 1 : ℕ) = x 1 by omega), fun x => e5 x _ (show 512 + 1 * (x 0 : ℕ) = 512 + x 0 by omega) (show 0 + 1 * (x 1 : ℕ) = x 1 by omega), fun x => e6 x _ (show 256 + 1 * (x 0 : ℕ) = 256 + x 0 by omega) (show 0 + 1 * (x 1 : ℕ) = x 1 by omega), fun x => e7 x _ (show 0 + 1 * (x 0 : ℕ) = 0 + x 0 by omega) (show 0 + 1 * (x 1 : ℕ) = x 1 by omega), trivial⟩ y ?_
  have hy0 : (y 0 : ℕ) < 2048 := (y 0).isLt
  have hy1 : (y 1 : ℕ) < n := (y 1).isLt
  rcases (by omega : (1792 ≤ (y 0 : ℕ) ∧ (y 0 : ℕ) < 1792 + 256) ∨ (1536 ≤ (y 0 : ℕ) ∧ (y 0 : ℕ) < 1536 + 256) ∨ (1280 ≤ (y 0 : ℕ) ∧ (y 0 : ℕ) < 1280 + 256) ∨ (1024 ≤ (y 0 : ℕ) ∧ (y 0 : ℕ) < 1024 + 256) ∨ (768 ≤ (y 0 : ℕ) ∧ (y 0 : ℕ) < 768 + 256) ∨ (512 ≤ (y 0 : ℕ) ∧ (y 0 : ℕ) < 512 + 256) ∨ (256 ≤ (y 0 : ℕ) ∧ (y 0 : ℕ) < 256 + 256) ∨ (0 ≤ (y 0 : ℕ) ∧ (y 0 : ℕ) < 0 + 256)) with h | h | h | h | h | h | h | h
  · refine ⟨_, (.head _), (Rect.mem_set_unit (s := ⟨2, ![2048, n]⟩) (inb := h0)).mpr fun b => ?_⟩
    fin_cases b
    · show 1792 ≤ (y 0 : ℕ) ∧ (y 0 : ℕ) < 1792 + 256; omega
    · show 0 ≤ (y 1 : ℕ) ∧ (y 1 : ℕ) < 0 + n; omega
  · refine ⟨_, (.tail _ (.head _)), (Rect.mem_set_unit (s := ⟨2, ![2048, n]⟩) (inb := h1)).mpr fun b => ?_⟩
    fin_cases b
    · show 1536 ≤ (y 0 : ℕ) ∧ (y 0 : ℕ) < 1536 + 256; omega
    · show 0 ≤ (y 1 : ℕ) ∧ (y 1 : ℕ) < 0 + n; omega
  · refine ⟨_, (.tail _ (.tail _ (.head _))), (Rect.mem_set_unit (s := ⟨2, ![2048, n]⟩) (inb := h2)).mpr fun b => ?_⟩
    fin_cases b
    · show 1280 ≤ (y 0 : ℕ) ∧ (y 0 : ℕ) < 1280 + 256; omega
    · show 0 ≤ (y 1 : ℕ) ∧ (y 1 : ℕ) < 0 + n; omega
  · refine ⟨_, (.tail _ (.tail _ (.tail _ (.head _)))), (Rect.mem_set_unit (s := ⟨2, ![2048, n]⟩) (inb := h3)).mpr fun b => ?_⟩
    fin_cases b
    · show 1024 ≤ (y 0 : ℕ) ∧ (y 0 : ℕ) < 1024 + 256; omega
    · show 0 ≤ (y 1 : ℕ) ∧ (y 1 : ℕ) < 0 + n; omega
  · refine ⟨_, (.tail _ (.tail _ (.tail _ (.tail _ (.head _))))), (Rect.mem_set_unit (s := ⟨2, ![2048, n]⟩) (inb := h4)).mpr fun b => ?_⟩
    fin_cases b
    · show 768 ≤ (y 0 : ℕ) ∧ (y 0 : ℕ) < 768 + 256; omega
    · show 0 ≤ (y 1 : ℕ) ∧ (y 1 : ℕ) < 0 + n; omega
  · refine ⟨_, (.tail _ (.tail _ (.tail _ (.tail _ (.tail _ (.head _)))))), (Rect.mem_set_unit (s := ⟨2, ![2048, n]⟩) (inb := h5)).mpr fun b => ?_⟩
    fin_cases b
    · show 512 ≤ (y 0 : ℕ) ∧ (y 0 : ℕ) < 512 + 256; omega
    · show 0 ≤ (y 1 : ℕ) ∧ (y 1 : ℕ) < 0 + n; omega
  · refine ⟨_, (.tail _ (.tail _ (.tail _ (.tail _ (.tail _ (.tail _ (.head _))))))), (Rect.mem_set_unit (s := ⟨2, ![2048, n]⟩) (inb := h6)).mpr fun b => ?_⟩
    fin_cases b
    · show 256 ≤ (y 0 : ℕ) ∧ (y 0 : ℕ) < 256 + 256; omega
    · show 0 ≤ (y 1 : ℕ) ∧ (y 1 : ℕ) < 0 + n; omega
  · refine ⟨_, (.tail _ (.tail _ (.tail _ (.tail _ (.tail _ (.tail _ (.tail _ (.head _)))))))), (Rect.mem_set_unit (s := ⟨2, ![2048, n]⟩) (inb := h7)).mpr fun b => ?_⟩
    fin_cases b
    · show 0 ≤ (y 0 : ℕ) ∧ (y 0 : ℕ) < 0 + 256; omega
    · show 0 ≤ (y 1 : ℕ) ∧ (y 1 : ℕ) < 0 + n; omega

/-- A load of a block of rows after a fill of the whole array reads the fill. -/
theorem readCov_rows {sig : RefSig} {κ : Kind} {n o : ℕ} {e : EltTy} {sp : Space} (v : View sig κ sp ⟨2, ![2048, n]⟩ e)
    (inb : ∀ a : Fin 2, (![0, 0] : Fin 2 → ℕ) a + (![2048, n] : Fin 2 → ℕ) a ≤ (⟨2, ![2048, n]⟩ : Shape).size a)
    (Z : (⟨2, ![2048, n]⟩ : Shape).Idx → Elt Ideal e)
    (hr : ∀ a : Fin 2, (![o, 0] : Fin 2 → ℕ) a + (![256, n] : Fin 2 → ℕ) a ≤ (⟨2, ![2048, n]⟩ : Shape).size a) (z : Elt Ideal e) (hz : ∀ i, Z i = z)
    (x : (⟨2, ![256, n]⟩ : Shape).Idx) :
    v.readCov (Val := Elt Ideal) [⟨Rect.unit (s := ⟨2, ![2048, n]⟩) ![0, 0] ![2048, n] inb, Z⟩] (Rect.unit (s := ⟨2, ![2048, n]⟩) ![o, 0] ![256, n] hr).toLoadRect x = z :=
  (congrFun (View.readCov_fill v inb Z [] (Rect.unit (s := ⟨2, ![2048, n]⟩) ![o, 0] ![256, n] hr) (Fin.forall_fin_two.mpr ⟨rfl, rfl⟩)) x).trans (hz _)

/-- A sum over 34 blocks of 256 columns whose terms past column 8640 vanish is the sum over the 8640 columns. -/
theorem sum_cols (F : Fin 34 → Fin 256 → EReal) (g : Fin 8640 → EReal) (hin : ∀ (s : Fin 34) (j : Fin 256) (f : Fin 8640), (f : ℕ) = 256 * s + j → F s j = g f)
    (hout : ∀ (s : Fin 34) (j : Fin 256), 8640 ≤ 256 * (s : ℕ) + j → F s j = 0) : ∑ s : Fin 34, ∑ j : Fin 256, F s j = ∑ f : Fin 8640, g f := by
  have e : ∑ s : Fin 34, ∑ j : Fin 256, F s j = ∑ l : Fin (8640 + 64), if h : (l : ℕ) < 8640 then g ⟨l, h⟩ else 0 := by
    refine Fin.sum_mul_add_congr (fun s k hl => ?_) rfl
    by_cases h : s.val * 256 + k.val < 8640
    · rw [dif_pos h]; exact hin s k ⟨_, h⟩ (by show s.val * 256 + k.val = _; omega)
    · rw [dif_neg h]; exact hout s k (by omega)
  rw [e, Fin.sum_univ_add]
  have z : ∑ i : Fin 64, (if h : ((Fin.natAdd 8640 i : Fin (8640 + 64)) : ℕ) < 8640 then g ⟨Fin.natAdd 8640 i, h⟩ else 0) = 0 :=
    Finset.sum_eq_zero fun i _ => dif_neg (by simp)
  rw [z, add_zero]
  exact Finset.sum_congr rfl fun i _ => dif_pos (show ((Fin.castAdd 64 i : Fin (8640 + 64)) : ℕ) < 8640 from i.isLt)

end Cert.Rows

end
-- ==== Proof.DownChunk.lean ====
/- One chunk of 256 rows of the down call's body, at one grid point: what the body computes there for each value, entry by entry, as a
   function of the point's input blocks `X0 … X8`. -/
module

public import proofs.«01_k».proof.Proof.DownSpec
public import proofs.«01_k».proof.Proof.Rows
public import proofs.«01_k».proof.Proof.Gen.DownKernelIdeal.Frame
public import Idealize.ShloMosaic.Lib.Pipeline.ValueKit
public import Idealize.ShloMosaic.Lib.Pipeline.ReadBack

@[expose] public section

set_option maxRecDepth 16384

noncomputable section

namespace Cert.DownKernelIdeal.Val

open Cert.DownKernelIdeal Cert.DownKernelIdeal.Gen
open Idealize.ShloMosaic Idealize.ShloMosaic.TcCoe Idealize.SL.Sem
open Cert.Rows (canon_two readCov_chunk sum_chunks ld2 canon_rows readCov_rows sum_cols)
open Cert.ClipInt (clip127)

section
variable (X0 X1 X2 : Vec Ideal S1x1 .f32) (X3 : Vec Ideal S2048x3200 .bf16) (X4 : Vec Ideal S256x3200 .i8)
  (X5 X6 : Vec Ideal S2048x256 .i16) (X7 : Vec Ideal S2048x128 .f32) (X8 : Vec Ideal S1x256 .f32)

/-- The normalised hidden value at row `r` and column `j` of the block. -/
def N2b (r : Fin 2048) (j : Fin 256) : EReal :=
  DownSpec.n2 (X0 (ix2 0 0)) (X1 (ix2 0 0)) (X7 (ix2 r 0)) (X7 (ix2 r 1)) (X5 (ix2 r j)) (X6 (ix2 r j))

/-- The code at row `r` and column `j` of the block. -/
def Qb (r : Fin 2048) (j : Fin 256) : EReal :=
  DownSpec.q (X0 (ix2 0 0)) (X1 (ix2 0 0)) (X7 (ix2 r 0)) (X7 (ix2 r 1)) (X7 (ix2 r 2)) (X8 (ix2 0 j)) (X5 (ix2 r j)) (X6 (ix2 r j))

/-- The gradient at row `r` and column `j` of the block. -/
def DNb (r : Fin 2048) (j : Fin 256) : EReal :=
  (∑ k : Fin 3200, (X3 (ix2 r k) : EReal) * (((X4 (ix2 j k) : BitVec 8).toInt : ℝ) : EReal)) * (X2 (ix2 0 0) : EReal)

/-- A lane's contribution to the row mean: the two columns of the block that fall into lane `l`. -/
def CSb (r : Fin 2048) (l : Fin 128) : EReal :=
  DNb X2 X3 X4 r ⟨l, by omega⟩ * N2b X0 X1 X5 X6 X7 r ⟨l, by omega⟩ * (X8 (ix2 0 ⟨l, by omega⟩) : EReal)
    + DNb X2 X3 X4 r ⟨128 + l, by omega⟩ * N2b X0 X1 X5 X6 X7 r ⟨128 + l, by omega⟩ * (X8 (ix2 0 ⟨128 + l, by omega⟩) : EReal)

variable (o l : ℕ) (s0 : ∀ a : Fin 2, (![0, 0] : Fin 2 → ℕ) a + (![1, 1] : Fin 2 → ℕ) a ≤ S1x1.size a)
  (c0 : ∀ a : Fin 2, (![o, 0] : Fin 2 → ℕ) a + (![256, 1] : Fin 2 → ℕ) a ≤ S2048x128.size a)
  (c1 : ∀ a : Fin 2, (![o, 1] : Fin 2 → ℕ) a + (![256, 1] : Fin 2 → ℕ) a ≤ S2048x128.size a)
  (c2 : ∀ a : Fin 2, (![o, 2] : Fin 2 → ℕ) a + (![256, 1] : Fin 2 → ℕ) a ≤ S2048x128.size a)
  (d0 : ∀ a : Fin 2, (![o, 0] : Fin 2 → ℕ) a + (![256, 3200] : Fin 2 → ℕ) a ≤ S2048x3200.size a)
  (i0 : ∀ a : Fin 2, (![o, l] : Fin 2 → ℕ) a + (![256, 128] : Fin 2 → ℕ) a ≤ S2048x256.size a)
  (g0 : ∀ a : Fin 2, (![0, l] : Fin 2 → ℕ) a + (![1, 128] : Fin 2 → ℕ) a ≤ S1x256.size a)
  (z : 0 < (Rect.unit (s := S1x1) ![0, 0] ![1, 1] s0).shape.numel)

/-- A chunk's normalised hidden values. -/
def n2c : FVec Ideal S256x128 .f32 :=
  k0_pay15 (k0_pay9 (View.ld X7 (Rect.unit ![o, 0] ![256, 1] c0)) (View.ld X0 (Rect.unit ![0, 0] ![1, 1] s0) (Shape.Idx.first z)))
    (k0_pay10 (View.ld X7 (Rect.unit ![o, 0] ![256, 1] c0)) (View.ld X1 (Rect.unit ![0, 0] ![1, 1] s0) (Shape.Idx.first z)))
    (k0_pay11 (View.ld X7 (Rect.unit ![o, 1] ![256, 1] c1)))
    (View.ld X5 (Rect.unit ![o, l] ![256, 128] i0)) (View.ld X6 (Rect.unit ![o, l] ![256, 128] i0))

/-- A chunk's codes. -/
def qc : FVec Ideal S256x128 .f32 :=
  k0_pay17 (k0_pay9 (View.ld X7 (Rect.unit ![o, 0] ![256, 1] c0)) (View.ld X0 (Rect.unit ![0, 0] ![1, 1] s0) (Shape.Idx.first z)))
    (k0_pay10 (View.ld X7 (Rect.unit ![o, 0] ![256, 1] c0)) (View.ld X1 (Rect.unit ![0, 0] ![1, 1] s0) (Shape.Idx.first z)))
    (k0_pay11 (View.ld X7 (Rect.unit ![o, 1] ![256, 1] c1))) (View.ld X7 (Rect.unit ![o, 2] ![256, 1] c2))
    (View.ld X5 (Rect.unit ![o, l] ![256, 128] i0)) (View.ld X6 (Rect.unit ![o, l] ![256, 128] i0))
    (View.ld X8 (Rect.unit ![0, l] ![1, 128] g0))

/-- A chunk's gradients. -/
def dnc : FVec Ideal S256x256 .f32 :=
  k0_pay7 (View.ld X2 (Rect.unit ![0, 0] ![1, 1] s0) (Shape.Idx.first z)) (View.ld X3 (Rect.unit ![o, 0] ![256, 3200] d0)) (k0_pay5 X4)

theorem n2c_at (x : S256x128.Idx) (r : Fin 2048) (j : Fin 256) (hr : (r : ℕ) = o + x 0) (hj : (j : ℕ) = l + x 1) :
    n2c X0 X1 X5 X6 X7 o l s0 c0 c1 i0 z x = N2b X0 X1 X5 X6 X7 r j := by
  idx_vars x
  pointwise [n2c, k0_pay15, k0_pay8, k0_pay9, k0_pay10, k0_pay11, N2b, DownSpec.n2, ClipInt.sitofp_eq, mul_assoc]
  blk_point [hr, hj]

theorem qc_at (x : S256x128.Idx) (r : Fin 2048) (j : Fin 256) (hr : (r : ℕ) = o + x 0) (hj : (j : ℕ) = l + x 1) :
    qc X0 X1 X5 X6 X7 X8 o l s0 c0 c1 c2 i0 g0 z x = Qb X0 X1 X5 X6 X7 X8 r j := by
  idx_vars x
  pointwise [qc, k0_pay8, k0_pay9, k0_pay10, k0_pay11, k0_pay12, k0_pay15, k0_pay16, k0_pay17, Qb, DownSpec.q, DownSpec.n2, ClipInt.sitofp_eq, ClipInt.clip127_eq, mul_assoc]
  blk_point [hr, hj]

theorem dnc_at (x : S256x256.Idx) (r : Fin 2048) (j : Fin 256) (hr : (r : ℕ) = o + x 0) (hj : (j : ℕ) = x 1) :
    dnc X2 X3 X4 o s0 d0 z x = DNb X2 X3 X4 r j := by
  idx_vars x
  pointwise [dnc, k0_pay5, k0_pay7, DNb, ClipInt.sitofp_eq]
  blk_point [hr, hj]

/-- The stored 8-bit codes. -/
theorem fptosi_qc_at (x : S256x128.Idx) (r : Fin 2048) (j : Fin 256) (hr : (r : ℕ) = o + x 0) (hj : (j : ℕ) = l + x 1) :
    fptosi (F := Ideal) 8 (qc X0 X1 X5 X6 X7 X8 o l s0 c0 c1 c2 i0 g0 z) x
      = FloatOps.fptosi (F := Ideal) (φ := .f32) 8 (Qb X0 X1 X5 X6 X7 X8 r j) := by
  rw [← qc_at X0 X1 X5 X6 X7 X8 o l s0 c0 c1 c2 i0 g0 z x r j hr hj]; rfl

/-- A chunk's codes in the low-precision scratch. -/
def qs : FVec Ideal S256x128 .bf16 := shapeCast S256x128 (truncf .bf16 (qc X0 X1 X5 X6 X7 X8 o l s0 c0 c1 c2 i0 g0 z) bitsLt_bf16_f32) shapeCasts_S256x128_S256x128

theorem qs_at (x : S256x128.Idx) (r : Fin 2048) (j : Fin 256) (hr : (r : ℕ) = o + x 0) (hj : (j : ℕ) = l + x 1) :
    qs X0 X1 X5 X6 X7 X8 o l s0 c0 c1 c2 i0 g0 z x = Qb X0 X1 X5 X6 X7 X8 r j := by
  rw [← qc_at X0 X1 X5 X6 X7 X8 o l s0 c0 c1 c2 i0 g0 z x r j hr hj]
  idx_vars x
  pointwise [qs]

/-- A chunk's codes times the row scale, in the low-precision scratch. -/
def qd : FVec Ideal S256x128 .bf16 :=
  k0_pay21 (truncf .bf16 (mulf (qc X0 X1 X5 X6 X7 X8 o l s0 c0 c1 c2 i0 g0 z) (k0_pay13 (View.ld X7 (Rect.unit ![o, 2] ![256, 1] c2)))) bitsLt_bf16_f32)

theorem qd_at (x : S256x128.Idx) (r : Fin 2048) (j : Fin 256) (hr : (r : ℕ) = o + x 0) (hj : (j : ℕ) = l + x 1) :
    qd X0 X1 X5 X6 X7 X8 o l s0 c0 c1 c2 i0 g0 z x = Qb X0 X1 X5 X6 X7 X8 r j * (X7 (ix2 r 2) : EReal) := by
  rw [← qc_at X0 X1 X5 X6 X7 X8 o l s0 c0 c1 c2 i0 g0 z x r j hr hj]
  idx_vars x
  pointwise [qd, k0_pay21, k0_pay12, k0_pay13]
  blk_point [hr, hj]

end

/-- One chunk of the down projection: the codes times the block of weights, added to what was there. -/
theorem accc_at (A : Vec Ideal S256x3200 .f32) (B : Vec Ideal S256x256 .bf16) (X4 : Vec Ideal S256x3200 .i8) (x : S256x3200.Idx) :
    k0_pay35 (F := Ideal) A B (k0_pay5 X4) x
      = (A x + ∑ j : Fin 256, B (ix2 (x 0) j) * (((X4 (ix2 j (x 1)) : BitVec 8).toInt : ℝ) : EReal) : EReal) := by
  idx_vars x
  pointwise [k0_pay35, k0_pay5, ClipInt.sitofp_eq]

/-- One chunk's gradients times hidden values times gains, summed into 128 lanes over what was there. -/
theorem csc_at (dn : FVec Ideal S256x256 .f32) (A n0 n1 : Vec Ideal S256x128 .f32) (g0 g1 : Vec Ideal S1x128 .f32) (x : S256x128.Idx) :
    k0_pay33 (F := Ideal) dn (k0_pay24 dn (k0_pay14 A) n0 (k0_pay16 g0)) n1 (k0_pay26 g1) x
      = (A x + dn (ix2 (x 0) (⟨x 1, by have := (x 1).isLt; simp at this; omega⟩ : Fin 256)) * n0 x * g0 (ix2 0 (x 1))
        + dn (ix2 (x 0) (⟨128 + x 1, by have := (x 1).isLt; simp at this; omega⟩ : Fin 256)) * n1 x * g1 (ix2 0 (x 1)) : EReal) := by
  idx_vars x
  pointwise [k0_pay33, k0_pay24, k0_pay14, k0_pay16, k0_pay26, k0_pay22, k0_pay32]

/-- One chunk's column sums of gradients times hidden values, added to what was there. -/
theorem dgsc_at (A : FVec Ideal S1x256 .f32) (dn : FVec Ideal S256x256 .f32) (n0 n1 : FVec Ideal S256x128 .f32) (x : S1x256.Idx) :
    k0_pay34 (F := Ideal) A dn (k0_pay23 dn n0) n1 x
      = (A x + ∑ r : Fin 256, dn (ix2 r (x 1)) * (if h : (x 1 : ℕ) < 128 then n0 (ix2 r (⟨x 1, h⟩ : Fin 128))
          else n1 (ix2 r (⟨x 1 - 128, by have := (x 1).isLt; simp at this; omega⟩ : Fin 128))) : EReal) := by
  idx_vars x
  pointwise [k0_pay34, k0_pay23, k0_pay22, k0_pay32]
  congr 1
  split
  · rfl
  · refine Finset.sum_congr rfl fun r _ => ?_
    congr 3
    ext
    show 128 + ((x1 : ℕ) - 128) = x1
    omega

/-- The weight gradient of the block. -/
theorem dwdc_at (A : Vec Ideal S2048x256 .bf16) (B : Vec Ideal S2048x3200 .bf16) (x : S256x3200.Idx) :
    k0_pay1 (F := Ideal) A B x = (∑ r : Fin 2048, A (ix2 r (x 0)) * B (ix2 r (x 1)) : EReal) := by
  idx_vars x
  pointwise [k0_pay1]

/-- The mean over the 128 lanes, in every lane. -/
theorem csmean_at (A : Vec Ideal S2048x128 .f32) (x : S2048x128.Idx) :
    k0_pay2 (F := Ideal) A x = Ideal.div (∑ l : Fin 128, A (ix2 (x 0) l)) (Ideal.ofBits .f32 0x46070000#32) := by
  idx_vars x
  pointwise [k0_pay2]

/-- One chunk's step of the column sums. -/
theorem dgs_step (X0 X1 X2 : Vec Ideal S1x1 .f32) (X3 : Vec Ideal S2048x3200 .bf16) (X4 : Vec Ideal S256x3200 .i8)
    (X5 X6 : Vec Ideal S2048x256 .i16) (X7 : Vec Ideal S2048x128 .f32) (o : ℕ) (ho : o + 256 ≤ 2048)
    (A : FVec Ideal S1x256 .f32) (s0 : ∀ a : Fin 2, (![0, 0] : Fin 2 → ℕ) a + (![1, 1] : Fin 2 → ℕ) a ≤ S1x1.size a)
    (d0 : ∀ a : Fin 2, (![o, 0] : Fin 2 → ℕ) a + (![256, 3200] : Fin 2 → ℕ) a ≤ S2048x3200.size a)
    (c0 : ∀ a : Fin 2, (![o, 0] : Fin 2 → ℕ) a + (![256, 1] : Fin 2 → ℕ) a ≤ S2048x128.size a)
    (c1 : ∀ a : Fin 2, (![o, 1] : Fin 2 → ℕ) a + (![256, 1] : Fin 2 → ℕ) a ≤ S2048x128.size a)
    (i0 : ∀ a : Fin 2, (![o, 0] : Fin 2 → ℕ) a + (![256, 128] : Fin 2 → ℕ) a ≤ S2048x256.size a)
    (i1 : ∀ a : Fin 2, (![o, 128] : Fin 2 → ℕ) a + (![256, 128] : Fin 2 → ℕ) a ≤ S2048x256.size a)
    (z : 0 < (Rect.unit (s := S1x1) ![0, 0] ![1, 1] s0).shape.numel) (y : S1x256.Idx) :
    k0_pay34 (F := Ideal) A (dnc X2 X3 X4 o s0 d0 z) (k0_pay23 (dnc X2 X3 X4 o s0 d0 z) (n2c X0 X1 X5 X6 X7 o 0 s0 c0 c1 i0 z)) (n2c X0 X1 X5 X6 X7 o 128 s0 c0 c1 i1 z) y
      = (A y + ∑ r : Fin 256, DNb X2 X3 X4 ⟨o + r, by omega⟩ (y 1) * N2b X0 X1 X5 X6 X7 ⟨o + r, by omega⟩ (y 1) : EReal) := by
  rw [dgsc_at]
  refine congrArg _ (Finset.sum_congr rfl fun r _ => congrArg₂ (· * ·) ?_ ?_)
  · exact dnc_at _ _ _ _ _ _ _ _ _ _ rfl rfl
  · split
    · exact n2c_at _ _ _ _ _ _ _ _ _ _ _ _ _ _ _ rfl (by simp)
    · exact n2c_at _ _ _ _ _ _ _ _ _ _ _ _ _ _ _ rfl (by simp; omega)

/-- One chunk's step of the lane sums. -/
theorem cs_step (X0 X1 X2 : Vec Ideal S1x1 .f32) (X3 : Vec Ideal S2048x3200 .bf16) (X4 : Vec Ideal S256x3200 .i8)
    (X5 X6 : Vec Ideal S2048x256 .i16) (X7 : Vec Ideal S2048x128 .f32) (X8 : Vec Ideal S1x256 .f32) (o : ℕ)
    (A : Vec Ideal S256x128 .f32) (s0 : ∀ a : Fin 2, (![0, 0] : Fin 2 → ℕ) a + (![1, 1] : Fin 2 → ℕ) a ≤ S1x1.size a)
    (d0 : ∀ a : Fin 2, (![o, 0] : Fin 2 → ℕ) a + (![256, 3200] : Fin 2 → ℕ) a ≤ S2048x3200.size a)
    (c0 : ∀ a : Fin 2, (![o, 0] : Fin 2 → ℕ) a + (![256, 1] : Fin 2 → ℕ) a ≤ S2048x128.size a)
    (c1 : ∀ a : Fin 2, (![o, 1] : Fin 2 → ℕ) a + (![256, 1] : Fin 2 → ℕ) a ≤ S2048x128.size a)
    (i0 : ∀ a : Fin 2, (![o, 0] : Fin 2 → ℕ) a + (![256, 128] : Fin 2 → ℕ) a ≤ S2048x256.size a)
    (i1 : ∀ a : Fin 2, (![o, 128] : Fin 2 → ℕ) a + (![256, 128] : Fin 2 → ℕ) a ≤ S2048x256.size a)
    (z : 0 < (Rect.unit (s := S1x1) ![0, 0] ![1, 1] s0).shape.numel)
    (g0 : ∀ a : Fin 2, (![0, 0] : Fin 2 → ℕ) a + (![1, 128] : Fin 2 → ℕ) a ≤ S1x256.size a)
    (g1 : ∀ a : Fin 2, (![0, 128] : Fin 2 → ℕ) a + (![1, 128] : Fin 2 → ℕ) a ≤ S1x256.size a)
    (x : S256x128.Idx) (r : Fin 2048) (l : Fin 128) (hr : (r : ℕ) = o + x 0) (hl : (l : ℕ) = x 1) :
    k0_pay33 (F := Ideal) (dnc X2 X3 X4 o s0 d0 z) (k0_pay24 (dnc X2 X3 X4 o s0 d0 z) (k0_pay14 A) (n2c X0 X1 X5 X6 X7 o 0 s0 c0 c1 i0 z) (k0_pay16 (View.ld X8 (Rect.unit ![0, 0] ![1, 128] g0)))) (n2c X0 X1 X5 X6 X7 o 128 s0 c0 c1 i1 z)
        (k0_pay26 (View.ld X8 (Rect.unit ![0, 128] ![1, 128] g1))) x
      = (A x + CSb X0 X1 X2 X3 X4 X5 X6 X7 X8 r l : EReal) := by
  rw [csc_at, dnc_at X2 X3 X4 o s0 d0 z _ r ⟨l, by omega⟩ hr hl, dnc_at X2 X3 X4 o s0 d0 z _ r ⟨128 + l, by omega⟩ hr (by simp [hl]),
    n2c_at X0 X1 X5 X6 X7 o 0 s0 c0 c1 i0 z x r ⟨l, by omega⟩ hr (by simp [hl]),
    n2c_at X0 X1 X5 X6 X7 o 128 s0 c0 c1 i1 z x r ⟨128 + l, by omega⟩ hr (by simp [hl]), add_assoc]
  refine congrArg _ (congrArg₂ (· + ·) (congrArg₂ (· * ·) rfl ?_) (congrArg₂ (· * ·) rfl ?_))
  · refine congrArg X8 (funext fun b => Fin.ext ?_)
    fin_cases b
    · rfl
    · show 0 + 1 * (x 1 : ℕ) = l; omega
  · refine congrArg X8 (funext fun b => Fin.ext ?_)
    fin_cases b
    · rfl
    · show 128 + 1 * (x 1 : ℕ) = 128 + l; omega

end Cert.DownKernelIdeal.Val

end
-- ==== Proof.DownBlockA.lean ====
/- The down call at a first grid point of a run: each output block, entry by entry, as a function of the point's input blocks. -/
module

public import proofs.«01_k».proof.Proof.DownChunk

@[expose] public section

set_option maxRecDepth 16384

noncomputable section

namespace Cert.DownKernelIdeal.Val

open Cert.DownKernelIdeal Cert.DownKernelIdeal.Gen
open Idealize.ShloMosaic Idealize.ShloMosaic.TcCoe Idealize.SL.Sem
open Cert.Rows (canon_two readCov_chunk sum_chunks ld2 canon_rows readCov_rows sum_cols)
open Cert.ClipInt (clip127)

theorem pay3_zero (i : S2048x3200.Idx) : k0_pay3 (F := Ideal) i = (0 : EReal) := by idx_vars i; pointwise [k0_pay3]

theorem pay4_zero (i : S2048x128.Idx) : k0_pay4 (F := Ideal) i = (0 : EReal) := by idx_vars i; pointwise [k0_pay4]

variable (m : (ℓ : Loc nD τ sig) → Buf (Elt Ideal) ℓ) (c : Dev nD) (t : Fin cfg0.N) (h0 : t.val % 34 = 0) (h1 : ¬t.val % 34 = 33)
include h0 h1

/-- The gradient. -/
theorem b9_A (y : S2048x256.Idx) : (outsAt0 m c t.val t.isLt).1 y = DNb (iblk m c 2 t) (iblk m c 3 t) (iblk m c 4 t) (y 0) (y 1) := by
  rw [outsAt0_A m c t h0 h1]; frame_out
  canon_tiles x h
  all_goals exact dnc_at (iblk m c 2 t) (iblk m c 3 t) (iblk m c 4 t) _ _ _ _ x _ _ (by omega) (by omega)

/-- The codes. -/
theorem b10_A (y : S2048x256.Idx) :
    (outsAt0 m c t.val t.isLt).2.1 y = FloatOps.fptosi (F := Ideal) (φ := .f32) 8 (Qb (iblk m c 0 t) (iblk m c 1 t) (iblk m c 5 t) (iblk m c 6 t) (iblk m c 7 t) (iblk m c 8 t) (y 0) (y 1)) := by
  rw [outsAt0_A m c t h0 h1]; frame_out
  canon_tiles x h
  all_goals exact fptosi_qc_at (iblk m c 0 t) (iblk m c 1 t) (iblk m c 5 t) (iblk m c 6 t) (iblk m c 7 t) (iblk m c 8 t) _ _ _ _ _ _ _ _ _ x _ _ (by omega) (by omega)

/-- The weight gradient. -/
theorem b11_A (y : S256x3200.Idx) :
    (outsAt0 m c t.val t.isLt).2.2.1 y = (∑ r : Fin 2048, Qb (iblk m c 0 t) (iblk m c 1 t) (iblk m c 5 t) (iblk m c 6 t) (iblk m c 7 t) (iblk m c 8 t) r (y 0)
      * (iblk m c 7 t (ix2 r 2) : EReal) * (iblk m c 3 t (ix2 r (y 1)) : EReal) : EReal) := by
  rw [outsAt0_A m c t h0 h1]; frame_out
  refine (dwdc_at _ _ y).trans (Finset.sum_congr rfl fun r _ => congrArg₂ (· * ·) ?_ rfl)
  rw [View.readCov_eq_canon']
  show View.canon _ (LoadRect.idx _ _) = _
  generalize hw : LoadRect.idx _ _ = w
  have w0 : (w 0 : ℕ) = r := by subst hw; show 0 + 1 * (r : ℕ) = r; omega
  have w1 : (w 1 : ℕ) = y 0 := by subst hw; show 0 + 1 * (y 0 : ℕ) = y 0; omega
  clear hw
  canon_tiles x h
  all_goals exact qd_at (iblk m c 0 t) (iblk m c 1 t) (iblk m c 5 t) (iblk m c 6 t) (iblk m c 7 t) (iblk m c 8 t) _ _ _ _ _ _ _ _ _ x r (y 0) (by omega) (by omega)

/-- The column sums of gradient times hidden value. -/
theorem b12_A (y : S1x256.Idx) :
    (outsAt0 m c t.val t.isLt).2.2.2.1 y = (∑ r : Fin 2048, DNb (iblk m c 2 t) (iblk m c 3 t) (iblk m c 4 t) r (y 1) * N2b (iblk m c 0 t) (iblk m c 1 t) (iblk m c 5 t) (iblk m c 6 t) (iblk m c 7 t) r (y 1) : EReal) := by
  rw [outsAt0_A m c t h0 h1]; frame_out
  refine (dgs_step (iblk m c 0 t) (iblk m c 1 t) (iblk m c 2 t) (iblk m c 3 t) (iblk m c 4 t) (iblk m c 5 t) (iblk m c 6 t) (iblk m c 7 t) 1792 (by omega) _ _ _ _ _ _ _ _ y).trans ?_
  refine (congrArg (· + _) (dgs_step (iblk m c 0 t) (iblk m c 1 t) (iblk m c 2 t) (iblk m c 3 t) (iblk m c 4 t) (iblk m c 5 t) (iblk m c 6 t) (iblk m c 7 t) 1536 (by omega) _ _ _ _ _ _ _ _ y)).trans ?_
  refine (congrArg (· + _ + _) (dgs_step (iblk m c 0 t) (iblk m c 1 t) (iblk m c 2 t) (iblk m c 3 t) (iblk m c 4 t) (iblk m c 5 t) (iblk m c 6 t) (iblk m c 7 t) 1280 (by omega) _ _ _ _ _ _ _ _ y)).trans ?_
  refine (congrArg (· + _ + _ + _) (dgs_step (iblk m c 0 t) (iblk m c 1 t) (iblk m c 2 t) (iblk m c 3 t) (iblk m c 4 t) (iblk m c 5 t) (iblk m c 6 t) (iblk m c 7 t) 1024 (by omega) _ _ _ _ _ _ _ _ y)).trans ?_
  refine (congrArg (· + _ + _ + _ + _) (dgs_step (iblk m c 0 t) (iblk m c 1 t) (iblk m c 2 t) (iblk m c 3 t) (iblk m c 4 t) (iblk m c 5 t) (iblk m c 6 t) (iblk m c 7 t) 768 (by omega) _ _ _ _ _ _ _ _ y)).trans ?_
  refine (congrArg (· + _ + _ + _ + _ + _) (dgs_step (iblk m c 0 t) (iblk m c 1 t) (iblk m c 2 t) (iblk m c 3 t) (iblk m c 4 t) (iblk m c 5 t) (iblk m c 6 t) (iblk m c 7 t) 512 (by omega) _ _ _ _ _ _ _ _ y)).trans ?_
  refine (congrArg (· + _ + _ + _ + _ + _ + _) (dgs_step (iblk m c 0 t) (iblk m c 1 t) (iblk m c 2 t) (iblk m c 3 t) (iblk m c 4 t) (iblk m c 5 t) (iblk m c 6 t) (iblk m c 7 t) 256 (by omega) _ _ _ _ _ _ _ _ y)).trans ?_
  refine (congrArg (· + _ + _ + _ + _ + _ + _ + _) (dgs_step (iblk m c 0 t) (iblk m c 1 t) (iblk m c 2 t) (iblk m c 3 t) (iblk m c 4 t) (iblk m c 5 t) (iblk m c 6 t) (iblk m c 7 t) 0 (by omega) _ _ _ _ _ _ _ _ y)).trans ?_
  rw [show k0_pay6 (F := Ideal) y = (0 : EReal) by idx_vars y; pointwise [k0_pay6]]
  exact sum_chunks fun r => DNb (iblk m c 2 t) (iblk m c 3 t) (iblk m c 4 t) r (y 1) * N2b (iblk m c 0 t) (iblk m c 1 t) (iblk m c 5 t) (iblk m c 6 t) (iblk m c 7 t) r (y 1)

/-- The running down projection. -/
theorem b13_A (y : S2048x3200.Idx) :
    (outsAt0 m c t.val t.isLt).2.2.2.2.1 y = (0 + ∑ j : Fin 256, Qb (iblk m c 0 t) (iblk m c 1 t) (iblk m c 5 t) (iblk m c 6 t) (iblk m c 7 t) (iblk m c 8 t) (y 0) j
      * (((iblk m c 4 t (ix2 j (y 1)) : BitVec 8).toInt : ℝ) : EReal) : EReal) := by
  rw [outsAt0_A m c t h0 h1]; frame_out
  refine canon_rows (n := 3200) (e := .f32) (fun y : S2048x3200.Idx => (0 + ∑ j : Fin 256, Qb (iblk m c 0 t) (iblk m c 1 t) (iblk m c 5 t) (iblk m c 6 t) (iblk m c 7 t) (iblk m c 8 t) (y 0) j
      * (((iblk m c 4 t (ix2 j (y 1)) : BitVec 8).toInt : ℝ) : EReal) : EReal)) _ _ _ _ _ _ _ _ _ _ _ _ _ _ _ _ _ y ?_ ?_ ?_ ?_ ?_ ?_ ?_ ?_
  all_goals
    intro x y h0 h1
    refine (accc_at _ _ (iblk m c 4 t) x).trans (congrArg₂ (· + ·) ?_ (Finset.sum_congr rfl fun j _ => congrArg₂ (· * ·) ?_ ?_))
    · repeat rw [View.readCov_skip _ _ _ _ _ (by decide)]
      exact readCov_rows (n := 3200) _ _ _ _ _ pay3_zero x
    · exact readCov_chunk _ _ _ _ _ _ _ _ (Qb (iblk m c 0 t) (iblk m c 1 t) (iblk m c 5 t) (iblk m c 6 t) (iblk m c 7 t) (iblk m c 8 t))
        (fun x r j hr hj => qs_at (iblk m c 0 t) (iblk m c 1 t) (iblk m c 5 t) (iblk m c 6 t) (iblk m c 7 t) (iblk m c 8 t) _ _ _ _ _ _ _ _ _ x r j hr hj)
        (fun x r j hr hj => qs_at (iblk m c 0 t) (iblk m c 1 t) (iblk m c 5 t) (iblk m c 6 t) (iblk m c 7 t) (iblk m c 8 t) _ _ _ _ _ _ _ _ _ x r j hr hj) _ j (y 0) (by omega)
    · exact congrArg (fun i : Fin 3200 => (((iblk m c 4 t (ix2 j i) : BitVec 8).toInt : ℝ) : EReal)) (Fin.ext (by omega))

/-- The running lane sums of the row mean. -/
theorem b14_A (y : S2048x128.Idx) :
    (outsAt0 m c t.val t.isLt).2.2.2.2.2 y = (0 + CSb (iblk m c 0 t) (iblk m c 1 t) (iblk m c 2 t) (iblk m c 3 t) (iblk m c 4 t) (iblk m c 5 t) (iblk m c 6 t) (iblk m c 7 t) (iblk m c 8 t) (y 0) (y 1) : EReal) := by
  rw [outsAt0_A m c t h0 h1]; frame_out
  refine canon_rows (n := 128) (e := .f32) (fun y : S2048x128.Idx => (0 + CSb (iblk m c 0 t) (iblk m c 1 t) (iblk m c 2 t) (iblk m c 3 t) (iblk m c 4 t) (iblk m c 5 t) (iblk m c 6 t) (iblk m c 7 t) (iblk m c 8 t) (y 0) (y 1) : EReal)) _ _ _ _ _ _ _ _ _ _ _ _ _ _ _ _ _ y ?_ ?_ ?_ ?_ ?_ ?_ ?_ ?_
  all_goals
    intro x y h0 h1
    refine (cs_step (iblk m c 0 t) (iblk m c 1 t) (iblk m c 2 t) (iblk m c 3 t) (iblk m c 4 t) (iblk m c 5 t) (iblk m c 6 t) (iblk m c 7 t) (iblk m c 8 t) _ _ _ _ _ _ _ _ _ _ _ x (y 0) (y 1) (by omega) (by omega)).trans (congrArg (· + _) ?_)
    repeat rw [View.readCov_skip _ _ _ _ _ (by decide)]
    exact readCov_rows (n := 128) _ _ _ _ _ pay4_zero x

end Cert.DownKernelIdeal.Val

end
-- ==== Proof.DownBlockB.lean ====
/- The down call at a middle grid point of a run: each output block, entry by entry, as a function of the point's input blocks. -/
module

public import proofs.«01_k».proof.Proof.DownChunk

@[expose] public section

set_option maxRecDepth 16384

noncomputable section

namespace Cert.DownKernelIdeal.Val

open Cert.DownKernelIdeal Cert.DownKernelIdeal.Gen
open Idealize.ShloMosaic Idealize.ShloMosaic.TcCoe Idealize.SL.Sem
open Cert.Rows (canon_two readCov_chunk sum_chunks ld2 canon_rows readCov_rows sum_cols)
open Cert.ClipInt (clip127)

variable (m : (ℓ : Loc nD τ sig) → Buf (Elt Ideal) ℓ) (c : Dev nD) (t : Fin cfg0.N) (h0 : ¬t.val % 34 = 0) (h1 : ¬t.val % 34 = 33)
include h0 h1

/-- The gradient. -/
theorem b9_B (y : S2048x256.Idx) : (outsAt0 m c t.val t.isLt).1 y = DNb (iblk m c 2 t) (iblk m c 3 t) (iblk m c 4 t) (y 0) (y 1) := by
  rw [outsAt0_B m c t h0 h1]; frame_out
  canon_tiles x h
  all_goals exact dnc_at (iblk m c 2 t) (iblk m c 3 t) (iblk m c 4 t) _ _ _ _ x _ _ (by omega) (by omega)

/-- The codes. -/
theorem b10_B (y : S2048x256.Idx) :
    (outsAt0 m c t.val t.isLt).2.1 y = FloatOps.fptosi (F := Ideal) (φ := .f32) 8 (Qb (iblk m c 0 t) (iblk m c 1 t) (iblk m c 5 t) (iblk m c 6 t) (iblk m c 7 t) (iblk m c 8 t) (y 0) (y 1)) := by
  rw [outsAt0_B m c t h0 h1]; frame_out
  canon_tiles x h
  all_goals exact fptosi_qc_at (iblk m c 0 t) (iblk m c 1 t) (iblk m c 5 t) (iblk m c 6 t) (iblk m c 7 t) (iblk m c 8 t) _ _ _ _ _ _ _ _ _ x _ _ (by omega) (by omega)

/-- The weight gradient. -/
theorem b11_B (y : S256x3200.Idx) :
    (outsAt0 m c t.val t.isLt).2.2.1 y = (∑ r : Fin 2048, Qb (iblk m c 0 t) (iblk m c 1 t) (iblk m c 5 t) (iblk m c 6 t) (iblk m c 7 t) (iblk m c 8 t) r (y 0)
      * (iblk m c 7 t (ix2 r 2) : EReal) * (iblk m c 3 t (ix2 r (y 1)) : EReal) : EReal) := by
  rw [outsAt0_B m c t h0 h1]; frame_out
  refine (dwdc_at _ _ y).trans (Finset.sum_congr rfl fun r _ => congrArg₂ (· * ·) ?_ rfl)
  rw [View.readCov_eq_canon']
  show View.canon _ (LoadRect.idx _ _) = _
  generalize hw : LoadRect.idx _ _ = w
  have w0 : (w 0 : ℕ) = r := by subst hw; show 0 + 1 * (r : ℕ) = r; omega
  have w1 : (w 1 : ℕ) = y 0 := by subst hw; show 0 + 1 * (y 0 : ℕ) = y 0; omega
  clear hw
  canon_tiles x h
  all_goals exact qd_at (iblk m c 0 t) (iblk m c 1 t) (iblk m c 5 t) (iblk m c 6 t) (iblk m c 7 t) (iblk m c 8 t) _ _ _ _ _ _ _ _ _ x r (y 0) (by omega) (by omega)

/-- The column sums of gradient times hidden value. -/
theorem b12_B (y : S1x256.Idx) :
    (outsAt0 m c t.val t.isLt).2.2.2.1 y = (∑ r : Fin 2048, DNb (iblk m c 2 t) (iblk m c 3 t) (iblk m c 4 t) r (y 1) * N2b (iblk m c 0 t) (iblk m c 1 t) (iblk m c 5 t) (iblk m c 6 t) (iblk m c 7 t) r (y 1) : EReal) := by
  rw [outsAt0_B m c t h0 h1]; frame_out
  refine (dgs_step (iblk m c 0 t) (iblk m c 1 t) (iblk m c 2 t) (iblk m c 3 t) (iblk m c 4 t) (iblk m c 5 t) (iblk m c 6 t) (iblk m c 7 t) 1792 (by omega) _ _ _ _ _ _ _ _ y).trans ?_
  refine (congrArg (· + _) (dgs_step (iblk m c 0 t) (iblk m c 1 t) (iblk m c 2 t) (iblk m c 3 t) (iblk m c 4 t) (iblk m c 5 t) (iblk m c 6 t) (iblk m c 7 t) 1536 (by omega) _ _ _ _ _ _ _ _ y)).trans ?_
  refine (congrArg (· + _ + _) (dgs_step (iblk m c 0 t) (iblk m c 1 t) (iblk m c 2 t) (iblk m c 3 t) (iblk m c 4 t) (iblk m c 5 t) (iblk m c 6 t) (iblk m c 7 t) 1280 (by omega) _ _ _ _ _ _ _ _ y)).trans ?_
  refine (congrArg (· + _ + _ + _) (dgs_step (iblk m c 0 t) (iblk m c 1 t) (iblk m c 2 t) (iblk m c 3 t) (iblk m c 4 t) (iblk m c 5 t) (iblk m c 6 t) (iblk m c 7 t) 1024 (by omega) _ _ _ _ _ _ _ _ y)).trans ?_
  refine (congrArg (· + _ + _ + _ + _) (dgs_step (iblk m c 0 t) (iblk m c 1 t) (iblk m c 2 t) (iblk m c 3 t) (iblk m c 4 t) (iblk m c 5 t) (iblk m c 6 t) (iblk m c 7 t) 768 (by omega) _ _ _ _ _ _ _ _ y)).trans ?_
  refine (congrArg (· + _ + _ + _ + _ + _) (dgs_step (iblk m c 0 t) (iblk m c 1 t) (iblk m c 2 t) (iblk m c 3 t) (iblk m c 4 t) (iblk m c 5 t) (iblk m c 6 t) (iblk m c 7 t) 512 (by omega) _ _ _ _ _ _ _ _ y)).trans ?_
  refine (congrArg (· + _ + _ + _ + _ + _ + _) (dgs_step (iblk m c 0 t) (iblk m c 1 t) (iblk m c 2 t) (iblk m c 3 t) (iblk m c 4 t) (iblk m c 5 t) (iblk m c 6 t) (iblk m c 7 t) 256 (by omega) _ _ _ _ _ _ _ _ y)).trans ?_
  refine (congrArg (· + _ + _ + _ + _ + _ + _ + _) (dgs_step (iblk m c 0 t) (iblk m c 1 t) (iblk m c 2 t) (iblk m c 3 t) (iblk m c 4 t) (iblk m c 5 t) (iblk m c 6 t) (iblk m c 7 t) 0 (by omega) _ _ _ _ _ _ _ _ y)).trans ?_
  rw [show k0_pay6 (F := Ideal) y = (0 : EReal) by idx_vars y; pointwise [k0_pay6]]
  exact sum_chunks fun r => DNb (iblk m c 2 t) (iblk m c 3 t) (iblk m c 4 t) r (y 1) * N2b (iblk m c 0 t) (iblk m c 1 t) (iblk m c 5 t) (iblk m c 6 t) (iblk m c 7 t) r (y 1)

/-- The running down projection. -/
theorem b13_B (y : S2048x3200.Idx) :
    (outsAt0 m c t.val t.isLt).2.2.2.2.1 y = ((outsAt0 m c (t.val - 1) (by have := t.isLt; omega)).2.2.2.2.1 y + ∑ j : Fin 256, Qb (iblk m c 0 t) (iblk m c 1 t) (iblk m c 5 t) (iblk m c 6 t) (iblk m c 7 t) (iblk m c 8 t) (y 0) j
      * (((iblk m c 4 t (ix2 j (y 1)) : BitVec 8).toInt : ℝ) : EReal) : EReal) := by
  rw [outsAt0_B m c t h0 h1]; frame_out
  canon_tiles x h
  all_goals
    refine (accc_at _ _ (iblk m c 4 t) x).trans (congrArg₂ (· + ·) ?_ (Finset.sum_congr rfl fun j _ => congrArg₂ (· * ·) ?_ ?_))
    · exact ld2 _ _ x y (by omega) (by omega)
    · exact readCov_chunk _ _ _ _ _ _ _ _ (Qb (iblk m c 0 t) (iblk m c 1 t) (iblk m c 5 t) (iblk m c 6 t) (iblk m c 7 t) (iblk m c 8 t))
        (fun x r j hr hj => qs_at (iblk m c 0 t) (iblk m c 1 t) (iblk m c 5 t) (iblk m c 6 t) (iblk m c 7 t) (iblk m c 8 t) _ _ _ _ _ _ _ _ _ x r j hr hj)
        (fun x r j hr hj => qs_at (iblk m c 0 t) (iblk m c 1 t) (iblk m c 5 t) (iblk m c 6 t) (iblk m c 7 t) (iblk m c 8 t) _ _ _ _ _ _ _ _ _ x r j hr hj) _ j (y 0) (by omega)
    · exact congrArg (fun i : Fin 3200 => (((iblk m c 4 t (ix2 j i) : BitVec 8).toInt : ℝ) : EReal)) (Fin.ext (by omega))

/-- The running lane sums of the row mean. -/
theorem b14_B (y : S2048x128.Idx) :
    (outsAt0 m c t.val t.isLt).2.2.2.2.2 y = ((outsAt0 m c (t.val - 1) (by have := t.isLt; omega)).2.2.2.2.2 y + CSb (iblk m c 0 t) (iblk m c 1 t) (iblk m c 2 t) (iblk m c 3 t) (iblk m c 4 t) (iblk m c 5 t) (iblk m c 6 t) (iblk m c 7 t) (iblk m c 8 t) (y 0) (y 1) : EReal) := by
  rw [outsAt0_B m c t h0 h1]; frame_out
  canon_tiles x h
  all_goals
    refine (cs_step (iblk m c 0 t) (iblk m c 1 t) (iblk m c 2 t) (iblk m c 3 t) (iblk m c 4 t) (iblk m c 5 t) (iblk m c 6 t) (iblk m c 7 t) (iblk m c 8 t) _ _ _ _ _ _ _ _ _ _ _ x (y 0) (y 1) (by omega) (by omega)).trans (congrArg (· + _) ?_)
    exact ld2 _ _ x _ (by omega) (by omega)

end Cert.DownKernelIdeal.Val

end
-- ==== Proof.DownBlockC.lean ====
/- The down call at a last grid point of a run: each output block, entry by entry, as a function of the point's input blocks. -/
module

public import proofs.«01_k».proof.Proof.DownChunk

@[expose] public section

set_option maxRecDepth 16384

noncomputable section

namespace Cert.DownKernelIdeal.Val

open Cert.DownKernelIdeal Cert.DownKernelIdeal.Gen
open Idealize.ShloMosaic Idealize.ShloMosaic.TcCoe Idealize.SL.Sem
open Cert.Rows (canon_two readCov_chunk sum_chunks ld2 canon_rows readCov_rows sum_cols)
open Cert.ClipInt (clip127)

variable (m : (ℓ : Loc nD τ sig) → Buf (Elt Ideal) ℓ) (c : Dev nD) (t : Fin cfg0.N) (h0 : ¬t.val % 34 = 0) (h1 : t.val % 34 = 33)
include h0 h1

/-- The gradient. -/
theorem b9_C (y : S2048x256.Idx) : (outsAt0 m c t.val t.isLt).1 y = DNb (iblk m c 2 t) (iblk m c 3 t) (iblk m c 4 t) (y 0) (y 1) := by
  rw [outsAt0_C m c t h0 h1]; frame_out
  canon_tiles x h
  all_goals exact dnc_at (iblk m c 2 t) (iblk m c 3 t) (iblk m c 4 t) _ _ _ _ x _ _ (by omega) (by omega)

/-- The codes. -/
theorem b10_C (y : S2048x256.Idx) :
    (outsAt0 m c t.val t.isLt).2.1 y = FloatOps.fptosi (F := Ideal) (φ := .f32) 8 (Qb (iblk m c 0 t) (iblk m c 1 t) (iblk m c 5 t) (iblk m c 6 t) (iblk m c 7 t) (iblk m c 8 t) (y 0) (y 1)) := by
  rw [outsAt0_C m c t h0 h1]; frame_out
  canon_tiles x h
  all_goals exact fptosi_qc_at (iblk m c 0 t) (iblk m c 1 t) (iblk m c 5 t) (iblk m c 6 t) (iblk m c 7 t) (iblk m c 8 t) _ _ _ _ _ _ _ _ _ x _ _ (by omega) (by omega)

/-- The weight gradient. -/
theorem b11_C (y : S256x3200.Idx) :
    (outsAt0 m c t.val t.isLt).2.2.1 y = (∑ r : Fin 2048, Qb (iblk m c 0 t) (iblk m c 1 t) (iblk m c 5 t) (iblk m c 6 t) (iblk m c 7 t) (iblk m c 8 t) r (y 0)
      * (iblk m c 7 t (ix2 r 2) : EReal) * (iblk m c 3 t (ix2 r (y 1)) : EReal) : EReal) := by
  rw [outsAt0_C m c t h0 h1]; frame_out
  refine (dwdc_at _ _ y).trans (Finset.sum_congr rfl fun r _ => congrArg₂ (· * ·) ?_ rfl)
  rw [View.readCov_eq_canon']
  show View.canon _ (LoadRect.idx _ _) = _
  generalize hw : LoadRect.idx _ _ = w
  have w0 : (w 0 : ℕ) = r := by subst hw; show 0 + 1 * (r : ℕ) = r; omega
  have w1 : (w 1 : ℕ) = y 0 := by subst hw; show 0 + 1 * (y 0 : ℕ) = y 0; omega
  clear hw
  canon_tiles x h
  all_goals exact qd_at (iblk m c 0 t) (iblk m c 1 t) (iblk m c 5 t) (iblk m c 6 t) (iblk m c 7 t) (iblk m c 8 t) _ _ _ _ _ _ _ _ _ x r (y 0) (by omega) (by omega)

/-- The column sums of gradient times hidden value. -/
theorem b12_C (y : S1x256.Idx) :
    (outsAt0 m c t.val t.isLt).2.2.2.1 y = (∑ r : Fin 2048, DNb (iblk m c 2 t) (iblk m c 3 t) (iblk m c 4 t) r (y 1) * N2b (iblk m c 0 t) (iblk m c 1 t) (iblk m c 5 t) (iblk m c 6 t) (iblk m c 7 t) r (y 1) : EReal) := by
  rw [outsAt0_C m c t h0 h1]; frame_out
  refine (dgs_step (iblk m c 0 t) (iblk m c 1 t) (iblk m c 2 t) (iblk m c 3 t) (iblk m c 4 t) (iblk m c 5 t) (iblk m c 6 t) (iblk m c 7 t) 1792 (by omega) _ _ _ _ _ _ _ _ y).trans ?_
  refine (congrArg (· + _) (dgs_step (iblk m c 0 t) (iblk m c 1 t) (iblk m c 2 t) (iblk m c 3 t) (iblk m c 4 t) (iblk m c 5 t) (iblk m c 6 t) (iblk m c 7 t) 1536 (by omega) _ _ _ _ _ _ _ _ y)).trans ?_
  refine (congrArg (· + _ + _) (dgs_step (iblk m c 0 t) (iblk m c 1 t) (iblk m c 2 t) (iblk m c 3 t) (iblk m c 4 t) (iblk m c 5 t) (iblk m c 6 t) (iblk m c 7 t) 1280 (by omega) _ _ _ _ _ _ _ _ y)).trans ?_
  refine (congrArg (· + _ + _ + _) (dgs_step (iblk m c 0 t) (iblk m c 1 t) (iblk m c 2 t) (iblk m c 3 t) (iblk m c 4 t) (iblk m c 5 t) (iblk m c 6 t) (iblk m c 7 t) 1024 (by omega) _ _ _ _ _ _ _ _ y)).trans ?_
  refine (congrArg (· + _ + _ + _ + _) (dgs_step (iblk m c 0 t) (iblk m c 1 t) (iblk m c 2 t) (iblk m c 3 t) (iblk m c 4 t) (iblk m c 5 t) (iblk m c 6 t) (iblk m c 7 t) 768 (by omega) _ _ _ _ _ _ _ _ y)).trans ?_
  refine (congrArg (· + _ + _ + _ + _ + _) (dgs_step (iblk m c 0 t) (iblk m c 1 t) (iblk m c 2 t) (iblk m c 3 t) (iblk m c 4 t) (iblk m c 5 t) (iblk m c 6 t) (iblk m c 7 t) 512 (by omega) _ _ _ _ _ _ _ _ y)).trans ?_
  refine (congrArg (· + _ + _ + _ + _ + _ + _) (dgs_step (iblk m c 0 t) (iblk m c 1 t) (iblk m c 2 t) (iblk m c 3 t) (iblk m c 4 t) (iblk m c 5 t) (iblk m c 6 t) (iblk m c 7 t) 256 (by omega) _ _ _ _ _ _ _ _ y)).trans ?_
  refine (congrArg (· + _ + _ + _ + _ + _ + _ + _) (dgs_step (iblk m c 0 t) (iblk m c 1 t) (iblk m c 2 t) (iblk m c 3 t) (iblk m c 4 t) (iblk m c 5 t) (iblk m c 6 t) (iblk m c 7 t) 0 (by omega) _ _ _ _ _ _ _ _ y)).trans ?_
  rw [show k0_pay6 (F := Ideal) y = (0 : EReal) by idx_vars y; pointwise [k0_pay6]]
  exact sum_chunks fun r => DNb (iblk m c 2 t) (iblk m c 3 t) (iblk m c 4 t) r (y 1) * N2b (iblk m c 0 t) (iblk m c 1 t) (iblk m c 5 t) (iblk m c 6 t) (iblk m c 7 t) r (y 1)

/-- The running down projection. -/
theorem b13_C (y : S2048x3200.Idx) :
    (outsAt0 m c t.val t.isLt).2.2.2.2.1 y = ((outsAt0 m c (t.val - 1) (by have := t.isLt; omega)).2.2.2.2.1 y + ∑ j : Fin 256, Qb (iblk m c 0 t) (iblk m c 1 t) (iblk m c 5 t) (iblk m c 6 t) (iblk m c 7 t) (iblk m c 8 t) (y 0) j
      * (((iblk m c 4 t (ix2 j (y 1)) : BitVec 8).toInt : ℝ) : EReal) : EReal) := by
  rw [outsAt0_C m c t h0 h1]; frame_out
  canon_tiles x h
  all_goals
    refine (accc_at _ _ (iblk m c 4 t) x).trans (congrArg₂ (· + ·) ?_ (Finset.sum_congr rfl fun j _ => congrArg₂ (· * ·) ?_ ?_))
    · exact ld2 _ _ x y (by omega) (by omega)
    · exact readCov_chunk _ _ _ _ _ _ _ _ (Qb (iblk m c 0 t) (iblk m c 1 t) (iblk m c 5 t) (iblk m c 6 t) (iblk m c 7 t) (iblk m c 8 t))
        (fun x r j hr hj => qs_at (iblk m c 0 t) (iblk m c 1 t) (iblk m c 5 t) (iblk m c 6 t) (iblk m c 7 t) (iblk m c 8 t) _ _ _ _ _ _ _ _ _ x r j hr hj)
        (fun x r j hr hj => qs_at (iblk m c 0 t) (iblk m c 1 t) (iblk m c 5 t) (iblk m c 6 t) (iblk m c 7 t) (iblk m c 8 t) _ _ _ _ _ _ _ _ _ x r j hr hj) _ j (y 0) (by omega)
    · exact congrArg (fun i : Fin 3200 => (((iblk m c 4 t (ix2 j i) : BitVec 8).toInt : ℝ) : EReal)) (Fin.ext (by omega))

/-- The row mean: the lane sums after this point, summed over the lanes and divided. -/
theorem b14_C (y : S2048x128.Idx) :
    (outsAt0 m c t.val t.isLt).2.2.2.2.2 y = Ideal.div (∑ l : Fin 128, ((outsAt0 m c (t.val - 1) (by have := t.isLt; omega)).2.2.2.2.2 (ix2 (y 0) l) + CSb (iblk m c 0 t) (iblk m c 1 t) (iblk m c 2 t) (iblk m c 3 t) (iblk m c 4 t) (iblk m c 5 t) (iblk m c 6 t) (iblk m c 7 t) (iblk m c 8 t) (y 0) l))
      (Ideal.ofBits .f32 0x46070000#32) := by
  rw [outsAt0_C m c t h0 h1]; frame_out
  refine (csmean_at _ y).trans (congrArg (Ideal.div · _) (Finset.sum_congr rfl fun l _ => ?_))
  rw [View.readCov_eq_canon']
  show View.canon _ (LoadRect.idx _ _) = _
  generalize hw : LoadRect.idx _ _ = w
  have w0 : (w 0 : ℕ) = y 0 := by subst hw; show 0 + 1 * (y 0 : ℕ) = y 0; omega
  have w1 : (w 1 : ℕ) = l := by subst hw; show 0 + 1 * (l : ℕ) = l; omega
  clear hw
  canon_tiles x h
  all_goals
    refine (cs_step (iblk m c 0 t) (iblk m c 1 t) (iblk m c 2 t) (iblk m c 3 t) (iblk m c 4 t) (iblk m c 5 t) (iblk m c 6 t) (iblk m c 7 t) (iblk m c 8 t) _ _ _ _ _ _ _ _ _ _ _ x (y 0) l (by omega) (by omega)).trans (congrArg (· + _) ?_)
    exact ld2 _ _ x _ (by simp; omega) (by simp; omega)

end Cert.DownKernelIdeal.Val

end
-- ==== Proof.DownFinal.lean ====
/- The kernel of the down call: each of its six result arrays after the run is the function of DownSpec. -/
module

public import proofs.«01_k».proof.Proof.DownBlockA
public import proofs.«01_k».proof.Proof.DownBlockB
public import proofs.«01_k».proof.Proof.DownBlockC

@[expose] public section

set_option maxRecDepth 16384

noncomputable section

namespace Cert.DownKernelIdeal.Val

open Cert.DownKernelIdeal Cert.DownKernelIdeal.Gen
open Idealize.ShloMosaic Idealize.ShloMosaic.TcCoe Idealize.SL.Sem
open Cert.Rows (canon_two readCov_chunk sum_chunks ld2 canon_rows readCov_rows sum_cols)
open Idealize.ShloMosaic.Pipeline (Dat)

variable (m : (ℓ : Loc nD τ sig) → Buf (Elt Ideal) ℓ)

/-- Which block each window holds at a grid point. -/
theorem idx : ∀ t : Fin cfg0.N, win0_0.index t = ![0, 0] ∧ win0_1.index t = ![0, 0] ∧ win0_2.index t = ![0, 0]
    ∧ win0_3.index t = ![0, 0] ∧ win0_4.index t = ![t.val, 0] ∧ win0_5.index t = ![0, t.val] ∧ win0_6.index t = ![0, t.val]
    ∧ win0_7.index t = ![0, 0] ∧ win0_8.index t = ![0, t.val] ∧ win0_9.index t = ![0, t.val] ∧ win0_10.index t = ![0, t.val]
    ∧ win0_11.index t = ![t.val, 0] ∧ win0_12.index t = ![0, t.val] ∧ win0_13.index t = ![0, 0] ∧ win0_14.index t = ![0, 0] :=
  (by decide +kernel : ∀ t : Fin grid0.N, _)

/-- A padded array, read inside and outside of the argument. -/
theorem pad_cd (x : Vec Ideal S8640x3200 .i8) (z : Vec Ideal S_ .i8) (r : Fin 8704) (k : Fin 3200) :
    pad S8704x3200 ![0, 0] ![64, 0] ![0, 0] x z pads_S8640x3200_S8704x3200_0640_000 h_S_ (ix2 r k)
      = if h : (r : ℕ) < 8640 then x (ix2 ⟨r, h⟩ k) else z (Shape.Idx.first h_S_) := by
  by_cases h : (r : ℕ) < 8640 <;> pointwise [h]

theorem pad_ig (x : Vec Ideal S2048x8640 .i16) (z : Vec Ideal S_ .i16) (r : Fin 2048) (k : Fin 8704) (h : (k : ℕ) < 8640) :
    pad S2048x8704 ![0, 0] ![0, 64] ![0, 0] x z pads_S2048x8640_S2048x8704_000_0640 h_S_ (ix2 r k) = x (ix2 r ⟨k, h⟩) := by
  pointwise [h]

theorem pad_gs (x : Vec Ideal S8640 .f32) (z : Vec Ideal S_ .f32) (k : Fin 8704) (h : (k : ℕ) < 8640) :
    shapeCast S1x8704 (pad S8704 ![0] ![64] ![0] x z pads_S8640_S8704_0640 h_S_) shapeCasts_S8704_S1x8704 (ix2 0 k) = x (ix1 ⟨k, h⟩) := by
  pointwise [h]

/-- The padded weights, integer coordinates and gains the host hands to the call. -/
theorem V_v2 (c : Dev nD) (r : Fin 8704) (k : Fin 3200) : V m c main_v2 (ix2 r k)
    = if h : (r : ℕ) < 8640 then (m ((c : Thread nD τ).loc main_arg4) (ix2 ⟨r, h⟩ k) : BitVec 8) else 0#8 := by
  unfold V
  simp only [List.flatten_cons, List.flatten_nil, List.append_nil, List.cons_append, List.nil_append]
  entry_read
  exact pad_cd _ _ r k

theorem V_v3 (c : Dev nD) (r : Fin 2048) (k : Fin 8704) (h : (k : ℕ) < 8640) :
    V m c main_v3 (ix2 r k) = m ((c : Thread nD τ).loc main_arg5) (ix2 r ⟨k, h⟩) := by
  unfold V
  simp only [List.flatten_cons, List.flatten_nil, List.append_nil, List.cons_append, List.nil_append]
  entry_read
  exact pad_ig _ _ r k h

theorem V_v4 (c : Dev nD) (r : Fin 2048) (k : Fin 8704) (h : (k : ℕ) < 8640) :
    V m c main_v4 (ix2 r k) = m ((c : Thread nD τ).loc main_arg6) (ix2 r ⟨k, h⟩) := by
  unfold V
  simp only [List.flatten_cons, List.flatten_nil, List.append_nil, List.cons_append, List.nil_append]
  entry_read
  exact pad_ig _ _ r k h

theorem V_v1 (c : Dev nD) (k : Fin 8704) (h : (k : ℕ) < 8640) :
    V m c main_v1 (ix2 0 k) = m ((c : Thread nD τ).loc main_arg8) (ix1 ⟨k, h⟩) := by
  unfold V
  simp only [List.flatten_cons, List.flatten_nil, List.append_nil, List.cons_append, List.nil_append]
  entry_read
  exact pad_gs _ (sitofp (F := Ideal) .f32 (constantI S_ 32 0#32)) k h

section
variable (c : Dev nD) (t : Fin cfg0.N) (r : Fin 2048) (j : Fin 256)

theorem col_lt : 256 * t.val + j < 8704 := by
  have h : t.val < 34 := t.isLt
  omega

theorem cd_in (k : Fin 3200) (f : Fin 8640) (hf : (f : ℕ) = 256 * t.val + j) :
    iblk m c 4 t (ix2 j k) = m ((c : Thread nD τ).loc main_arg4) (ix2 f k) := by
  refine Eq.trans (b := V m c main_v2 (ix2 ⟨256 * t.val + j, col_lt t j⟩ k)) (by blk_ext [iblk, idx t]) ?_
  rw [V_v2, dif_pos (by show 256 * t.val + (j : ℕ) < 8640; omega)]
  exact congrArg (fun f => m ((c : Thread nD τ).loc main_arg4) (ix2 f k)) (Fin.ext hf.symm)

theorem ig_in (f : Fin 8640) (hf : (f : ℕ) = 256 * t.val + j) :
    iblk m c 5 t (ix2 r j) = m ((c : Thread nD τ).loc main_arg5) (ix2 r f) := by
  refine Eq.trans (b := V m c main_v3 (ix2 r ⟨256 * t.val + j, col_lt t j⟩)) (by blk_ext [iblk, idx t]) ?_
  rw [V_v3 m c r _ (by show 256 * t.val + (j : ℕ) < 8640; omega)]
  exact congrArg (fun f => m ((c : Thread nD τ).loc main_arg5) (ix2 r f)) (Fin.ext hf.symm)

theorem iu_in (f : Fin 8640) (hf : (f : ℕ) = 256 * t.val + j) :
    iblk m c 6 t (ix2 r j) = m ((c : Thread nD τ).loc main_arg6) (ix2 r f) := by
  refine Eq.trans (b := V m c main_v4 (ix2 r ⟨256 * t.val + j, col_lt t j⟩)) (by blk_ext [iblk, idx t]) ?_
  rw [V_v4 m c r _ (by show 256 * t.val + (j : ℕ) < 8640; omega)]
  exact congrArg (fun f => m ((c : Thread nD τ).loc main_arg6) (ix2 r f)) (Fin.ext hf.symm)

theorem gs_in (f : Fin 8640) (hf : (f : ℕ) = 256 * t.val + j) :
    iblk m c 8 t (ix2 0 j) = m ((c : Thread nD τ).loc main_arg8) (ix1 f) := by
  refine Eq.trans (b := V m c main_v1 (ix2 0 ⟨256 * t.val + j, col_lt t j⟩)) (by blk_ext [iblk, idx t]) ?_
  rw [V_v1 m c _ (by show 256 * t.val + (j : ℕ) < 8640; omega)]
  exact congrArg (fun f => m ((c : Thread nD τ).loc main_arg8) (ix1 f)) (Fin.ext hf.symm)

/-- The weights in the padding rows are zero. -/
theorem cd_out (h : 8640 ≤ 256 * t.val + j) (k : Fin 3200) : (((iblk m c 4 t (ix2 j k) : BitVec 8).toInt : ℝ) : EReal) = 0 := by
  have e : iblk m c 4 t (ix2 j k) = (0#8 : BitVec 8) := by
    refine Eq.trans (b := V m c main_v2 (ix2 ⟨256 * t.val + j, col_lt t j⟩ k)) (by blk_ext [iblk, idx t]) ?_
    rw [V_v2, dif_neg (by show ¬ 256 * t.val + (j : ℕ) < 8640; omega)]
  rw [e]; simp

theorem N2b_in (f : Fin 8640) (hf : (f : ℕ) = 256 * t.val + j) :
    N2b (iblk m c 0 t) (iblk m c 1 t) (iblk m c 5 t) (iblk m c 6 t) (iblk m c 7 t) r j
      = DownSpec.N2 (m ((c : Thread nD τ).loc main_arg0)) (m ((c : Thread nD τ).loc main_arg1)) (m ((c : Thread nD τ).loc main_arg5))
          (m ((c : Thread nD τ).loc main_arg6)) (m ((c : Thread nD τ).loc main_arg7)) r f := by
  unfold N2b DownSpec.N2 DownSpec.n2
  rw [ig_in m c t r j f hf, iu_in m c t r j f hf]
  blk_point [iblk, V, idx t]

theorem Qb_in (f : Fin 8640) (hf : (f : ℕ) = 256 * t.val + j) :
    Qb (iblk m c 0 t) (iblk m c 1 t) (iblk m c 5 t) (iblk m c 6 t) (iblk m c 7 t) (iblk m c 8 t) r j
      = DownSpec.Q (m ((c : Thread nD τ).loc main_arg0)) (m ((c : Thread nD τ).loc main_arg1)) (m ((c : Thread nD τ).loc main_arg5))
          (m ((c : Thread nD τ).loc main_arg6)) (m ((c : Thread nD τ).loc main_arg7)) (m ((c : Thread nD τ).loc main_arg8)) r f := by
  unfold Qb DownSpec.Q DownSpec.q DownSpec.n2
  rw [ig_in m c t r j f hf, iu_in m c t r j f hf, gs_in m c t j f hf]
  blk_point [iblk, V, idx t]

theorem DNb_in (f : Fin 8640) (hf : (f : ℕ) = 256 * t.val + j) :
    DNb (iblk m c 2 t) (iblk m c 3 t) (iblk m c 4 t) r j
      = DownSpec.DN (m ((c : Thread nD τ).loc main_arg2)) (m ((c : Thread nD τ).loc main_arg3)) (m ((c : Thread nD τ).loc main_arg4)) r f := by
  unfold DNb DownSpec.DN
  rw [Finset.sum_congr rfl fun k _ => by rw [cd_in m c t j k f hf]]
  blk_point [iblk, V, idx t]

theorem DNb_out (h : 8640 ≤ 256 * t.val + j) : DNb (iblk m c 2 t) (iblk m c 3 t) (iblk m c 4 t) r j = 0 := by
  unfold DNb
  rw [Finset.sum_eq_zero fun k _ => by rw [cd_out m c t j h k, mul_zero], zero_mul]

end

/-- What the four written blocks hold at any grid point. -/
theorem b9 (c : Dev nD) (t : Fin cfg0.N) (y : S2048x256.Idx) :
    (outsAt0 m c t.val t.isLt).1 y = DNb (iblk m c 2 t) (iblk m c 3 t) (iblk m c 4 t) (y 0) (y 1) := by
  by_cases h0 : t.val % 34 = 0
  · exact b9_A m c t h0 (by omega) y
  · by_cases h1 : t.val % 34 = 33
    · exact b9_C m c t h0 h1 y
    · exact b9_B m c t h0 h1 y

theorem b10 (c : Dev nD) (t : Fin cfg0.N) (y : S2048x256.Idx) :
    (outsAt0 m c t.val t.isLt).2.1 y = FloatOps.fptosi (F := Ideal) (φ := .f32) 8 (Qb (iblk m c 0 t) (iblk m c 1 t) (iblk m c 5 t) (iblk m c 6 t) (iblk m c 7 t) (iblk m c 8 t) (y 0) (y 1)) := by
  by_cases h0 : t.val % 34 = 0
  · exact b10_A m c t h0 (by omega) y
  · by_cases h1 : t.val % 34 = 33
    · exact b10_C m c t h0 h1 y
    · exact b10_B m c t h0 h1 y

theorem b11 (c : Dev nD) (t : Fin cfg0.N) (y : S256x3200.Idx) :
    (outsAt0 m c t.val t.isLt).2.2.1 y = (∑ r : Fin 2048, Qb (iblk m c 0 t) (iblk m c 1 t) (iblk m c 5 t) (iblk m c 6 t) (iblk m c 7 t) (iblk m c 8 t) r (y 0) * (iblk m c 7 t (ix2 r 2) : EReal) * (iblk m c 3 t (ix2 r (y 1)) : EReal) : EReal) := by
  by_cases h0 : t.val % 34 = 0
  · exact b11_A m c t h0 (by omega) y
  · by_cases h1 : t.val % 34 = 33
    · exact b11_C m c t h0 h1 y
    · exact b11_B m c t h0 h1 y

theorem b12 (c : Dev nD) (t : Fin cfg0.N) (y : S1x256.Idx) :
    (outsAt0 m c t.val t.isLt).2.2.2.1 y = (∑ r : Fin 2048, DNb (iblk m c 2 t) (iblk m c 3 t) (iblk m c 4 t) r (y 1) * N2b (iblk m c 0 t) (iblk m c 1 t) (iblk m c 5 t) (iblk m c 6 t) (iblk m c 7 t) r (y 1) : EReal) := by
  by_cases h0 : t.val % 34 = 0
  · exact b12_A m c t h0 (by omega) y
  · by_cases h1 : t.val % 34 = 33
    · exact b12_C m c t h0 h1 y
    · exact b12_B m c t h0 h1 y

section
variable (c : Dev nD) (t : Fin cfg0.N)

/-- Each written entry is the entry of the result at its place in the array. -/
theorem dan_at (j : DownSpec.STP.Idx) (r : Fin 2048) (l : Fin 256) (h0 : (j 0 : ℕ) = r) (h1 : (j 1 : ℕ) = 256 * t.val + l) :
    DNb (iblk m c 2 t) (iblk m c 3 t) (iblk m c 4 t) r l = DownSpec.dan (m ((c : Thread nD τ).loc main_arg2)) (m ((c : Thread nD τ).loc main_arg3)) (m ((c : Thread nD τ).loc main_arg4)) j := by
  obtain rfl : r = j 0 := Fin.ext h0.symm
  unfold DownSpec.dan
  by_cases h : (j 1 : ℕ) < 8640
  · rw [dif_pos h]; exact DNb_in m c t _ l ⟨j 1, h⟩ h1
  · rw [dif_neg h]; exact DNb_out m c t _ l (by omega)

theorem qa_at (j : DownSpec.STF.Idx) (r : Fin 2048) (l : Fin 256) (h0 : (j 0 : ℕ) = r) (h1 : (j 1 : ℕ) = 256 * t.val + l) :
    FloatOps.fptosi (F := Ideal) (φ := .f32) 8 (Qb (iblk m c 0 t) (iblk m c 1 t) (iblk m c 5 t) (iblk m c 6 t) (iblk m c 7 t) (iblk m c 8 t) r l) = DownSpec.qa (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) j := by
  obtain rfl : r = j 0 := Fin.ext h0.symm
  exact congrArg (FloatOps.fptosi (F := Ideal) (φ := .f32) 8) (Qb_in m c t _ l (j 1) h1)

theorem dwd_at (j : DownSpec.SFD.Idx) (l : Fin 256) (k : Fin 3200) (h0 : (j 0 : ℕ) = 256 * t.val + l) (h1 : (j 1 : ℕ) = k) :
    (∑ r : Fin 2048, Qb (iblk m c 0 t) (iblk m c 1 t) (iblk m c 5 t) (iblk m c 6 t) (iblk m c 7 t) (iblk m c 8 t) r l * (iblk m c 7 t (ix2 r 2) : EReal) * (iblk m c 3 t (ix2 r k) : EReal) : EReal)
      = DownSpec.dwd (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) j := by
  obtain rfl : k = j 1 := Fin.ext h1.symm
  refine Finset.sum_congr rfl fun r _ => congrArg₂ (· * ·) (congrArg₂ (· * ·) (Qb_in m c t r l (j 0) h0) ?_) ?_
  · exact (by blk_ext [iblk, V, idx t] : iblk m c 7 t (ix2 r 2) = m ((c : Thread nD τ).loc main_arg7) (ix2 r 2))
  · exact (by blk_ext [iblk, V, idx t] : iblk m c 3 t (ix2 r (j 1)) = m ((c : Thread nD τ).loc main_arg3) (ix2 r (j 1)))

theorem dgs_at (j : DownSpec.S1F.Idx) (l : Fin 256) (h1 : (j 1 : ℕ) = 256 * t.val + l) :
    (∑ r : Fin 2048, DNb (iblk m c 2 t) (iblk m c 3 t) (iblk m c 4 t) r l * N2b (iblk m c 0 t) (iblk m c 1 t) (iblk m c 5 t) (iblk m c 6 t) (iblk m c 7 t) r l : EReal) = DownSpec.dgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j :=
  Finset.sum_congr rfl fun r _ => congrArg₂ (· * ·) (DNb_in m c t r l (j 1) h1) (N2b_in m c t r l (j 1) h1)

end

theorem final9 (c : Dev nD) : (dats m 0 c).arrAt 9 (cfgs 0).N = DownSpec.dan (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9, b9]
  exact dan_at m c t _ _ _ (by blk_simp [idx t]) (by blk_simp [idx t]; omega)

theorem final10 (c : Dev nD) : (dats m 0 c).arrAt 10 (cfgs 0).N = DownSpec.qa (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10, b10]
  exact qa_at m c t _ _ _ (by blk_simp [idx t]; try rfl) (by blk_simp [idx t]; exact congrArg (· + _) (Nat.mul_comm _ _))

theorem final11 (c : Dev nD) : (dats m 0 c).arrAt 11 (cfgs 0).N = DownSpec.dwd (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  blk_simp
  rw [after0_11, b11]
  exact dwd_at m c t _ _ _ (by blk_simp [idx t]; exact congrArg (· + _) (Nat.mul_comm _ _)) (by blk_simp [idx t]; try rfl)

theorem final12 (c : Dev nD) : (dats m 0 c).arrAt 12 (cfgs 0).N = DownSpec.dgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12, b12]
  exact dgs_at m c t _ _ (by blk_simp [idx t]; exact congrArg (· + _) (Nat.mul_comm _ _))

end Cert.DownKernelIdeal.Val

end
-- ==== Proof.DownSums.lean ====
/- The kernel of the down call: the two results that are summed over the grid are those of DownSpec. -/
module

public import proofs.«01_k».proof.Proof.DownFinal

@[expose] public section

set_option maxRecDepth 16384

noncomputable section

namespace Cert.DownKernelIdeal.Val

open Cert.DownKernelIdeal Cert.DownKernelIdeal.Gen
open Idealize.ShloMosaic Idealize.ShloMosaic.TcCoe Idealize.SL.Sem
open Cert.Rows (canon_two readCov_chunk sum_chunks ld2 canon_rows readCov_rows sum_cols)
open Idealize.ShloMosaic.Pipeline (Dat)

variable (m : (ℓ : Loc nD τ sig) → Buf (Elt Ideal) ℓ)

/-- What one grid point adds to the down projection. -/
def accT (c : Dev nD) (t : Fin cfg0.N) (y : S2048x3200.Idx) : EReal :=
  ∑ j : Fin 256, Qb (iblk m c 0 t) (iblk m c 1 t) (iblk m c 5 t) (iblk m c 6 t) (iblk m c 7 t) (iblk m c 8 t) (y 0) j * (((iblk m c 4 t (ix2 j (y 1)) : BitVec 8).toInt : ℝ) : EReal)

theorem acc_sum (c : Dev nD) (t : Fin cfg0.N) (hr : t.val % 34 = 34 - 1) (y : S2048x3200.Idx) :
    (outsAt0 m c t.val t.isLt).2.2.2.2.1 y = (DownSpec.acc (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) y : EReal) := by
  refine (Pipeline.eq_sum_fin_of_reset_step_apply_of_flush (fun n h (y : S2048x3200.Idx) => ((outsAt0 m c n h).2.2.2.2.1 y : EReal)) 34
    (fun _ => 0) (accT m c) (fun t h y => b13_A m c t h (by omega) y) (fun t h y => ?_) t hr y).trans ?_
  · by_cases h1 : t.val % 34 = 33
    · exact b13_C m c t h h1 y
    · exact b13_B m c t h h1 y
  · have ht : t.val < 34 := t.isLt
    rw [zero_add]
    unfold accT
    refine sum_cols _ _ (fun s j f hf => congrArg₂ (· * ·) (Qb_in m c _ _ j f ?_) ?_) fun s j h => ?_
    · show (f : ℕ) = 256 * (34 * (t.val / 34) + s.val) + j; omega
    · rw [cd_in m c _ j (y 1) f (by show (f : ℕ) = 256 * (34 * (t.val / 34) + s.val) + j; omega)]
    · exact (congrArg₂ (· * ·) rfl (cd_out m c _ j (by show 8640 ≤ 256 * (34 * (t.val / 34) + s.val) + j; omega) (y 1))).trans (mul_zero _)

theorem final13 (c : Dev nD) : (dats m 0 c).arrAt 13 (cfgs 0).N = DownSpec.acc (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp
  rw [after0_13]
  generalize hj : (((cfg0.win 13).blk t).view.emb y) = j
  obtain rfl : j = y := by rw [← hj]; blk_ext [idx t]
  exact acc_sum m c t ((flush0_13 t).mp hf) j

/-- What one grid point adds to the lane sums. -/
def csT (c : Dev nD) (t : Fin cfg0.N) (y : S2048x128.Idx) : EReal := CSb (iblk m c 0 t) (iblk m c 1 t) (iblk m c 2 t) (iblk m c 3 t) (iblk m c 4 t) (iblk m c 5 t) (iblk m c 6 t) (iblk m c 7 t) (iblk m c 8 t) (y 0) (y 1)

/-- The lane sums before the division: at the last point the value that is then averaged. -/
def csG (c : Dev nD) (n : ℕ) (h : n < cfg0.N) (y : S2048x128.Idx) : EReal :=
  if n % 34 = 33 then ((outsAt0 m c (n - 1) (by omega)).2.2.2.2.2 y : EReal) + csT m c ⟨n, h⟩ y else ((outsAt0 m c n h).2.2.2.2.2 y : EReal)

theorem csG_sum (c : Dev nD) (t : Fin cfg0.N) (hr : t.val % 34 = 34 - 1) (y : S2048x128.Idx) :
    csG m c t.val t.isLt y = 0 + ∑ s : Fin 34, csT m c ⟨34 * (t.val / 34) + s.val, Pipeline.run_point_lt_of_flush t hr s⟩ y := by
  refine Pipeline.eq_sum_fin_of_reset_step_apply_of_flush (csG m c) 34 (fun _ => 0) (csT m c) (fun t h y => ?_) (fun t h y => ?_) t hr y
  · unfold csG; rw [if_neg (by omega)]; exact b14_A m c t h (by omega) y
  · unfold csG
    rw [if_neg (by omega : ¬(t.val - 1) % 34 = 33)]
    by_cases h1 : t.val % 34 = 33
    · rw [if_pos h1]
    · rw [if_neg h1]; exact b14_B m c t h h1 y

/-- The 128 lane terms of a block are its 256 columns. -/
theorem lanes (F : Fin 256 → EReal) : ∑ l : Fin 128, (F ⟨l, by omega⟩ + F ⟨128 + l, by omega⟩) = ∑ j : Fin 256, F j := by
  rw [Finset.sum_add_distrib]
  exact (Fin.sum_univ_add (a := 128) (b := 128) F).symm

/-- What the block at `t` contributes to row `r`, by columns. -/
def csC (c : Dev nD) (r : Fin 2048) (t : Fin cfg0.N) (j : Fin 256) : EReal :=
  DNb (iblk m c 2 t) (iblk m c 3 t) (iblk m c 4 t) r j * N2b (iblk m c 0 t) (iblk m c 1 t) (iblk m c 5 t) (iblk m c 6 t) (iblk m c 7 t) r j * (iblk m c 8 t (ix2 0 j) : EReal)

theorem csC_in (c : Dev nD) (r : Fin 2048) (t : Fin cfg0.N) (j : Fin 256) (f : Fin 8640) (hf : (f : ℕ) = 256 * t.val + j) :
    csC m c r t j = DownSpec.DN (m ((c : Thread nD τ).loc main_arg2)) (m ((c : Thread nD τ).loc main_arg3)) (m ((c : Thread nD τ).loc main_arg4)) r f * (m ((c : Thread nD τ).loc main_arg8) (ix1 f) : EReal) * DownSpec.N2 (m ((c : Thread nD τ).loc main_arg0)) (m ((c : Thread nD τ).loc main_arg1)) (m ((c : Thread nD τ).loc main_arg5)) (m ((c : Thread nD τ).loc main_arg6)) (m ((c : Thread nD τ).loc main_arg7)) r f := by
  unfold csC
  rw [DNb_in m c t r j f hf, N2b_in m c t r j f hf, gs_in m c t j f hf]
  exact mul_right_comm _ _ _

theorem csC_out (c : Dev nD) (r : Fin 2048) (t : Fin cfg0.N) (j : Fin 256) (h : 8640 ≤ 256 * t.val + j) : csC m c r t j = 0 := by
  unfold csC
  rw [DNb_out m c t r j h, zero_mul, zero_mul]

theorem cs_sum (c : Dev nD) (t : Fin cfg0.N) (hr : t.val % 34 = 34 - 1) (y : S2048x128.Idx) :
    (outsAt0 m c t.val t.isLt).2.2.2.2.2 y = (DownSpec.cs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) y : EReal) := by
  have ht : t.val < 34 := t.isLt
  refine (b14_C m c t (by omega) hr y).trans (congrArg (Ideal.div · _) ?_)
  have e : ∀ l : Fin 128, ((outsAt0 m c (t.val - 1) (by omega)).2.2.2.2.2 (ix2 (y 0) l) : EReal) + CSb (iblk m c 0 t) (iblk m c 1 t) (iblk m c 2 t) (iblk m c 3 t) (iblk m c 4 t) (iblk m c 5 t) (iblk m c 6 t) (iblk m c 7 t) (iblk m c 8 t) (y 0) l
      = ∑ s : Fin 34, csT m c ⟨34 * (t.val / 34) + s.val, Pipeline.run_point_lt_of_flush t hr s⟩ (ix2 (y 0) l) := fun l => by
    have g := csG_sum m c t hr (ix2 (y 0) l)
    unfold csG at g
    rw [if_pos hr, zero_add] at g
    exact g
  rw [Finset.sum_congr rfl fun l _ => e l, Finset.sum_comm]
  have L : ∀ t : Fin cfg0.N, ∑ l : Fin 128, csT m c t (ix2 (y 0) l) = ∑ j : Fin 256, csC m c (y 0) t j := fun t => lanes (csC m c (y 0) t)
  rw [Finset.sum_congr rfl fun s _ => L _]
  exact sum_cols _ _ (fun s j f hf => csC_in m c (y 0) _ j f (by show (f : ℕ) = 256 * (34 * (t.val / 34) + s.val) + j; omega))
    fun s j h => csC_out m c (y 0) _ j (by show 8640 ≤ 256 * (34 * (t.val / 34) + s.val) + j; omega)

theorem final14 (c : Dev nD) : (dats m 0 c).arrAt 14 (cfgs 0).N = DownSpec.cs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  blk_simp
  rw [after0_14]
  generalize hj : (((cfg0.win 14).blk t).view.emb y) = j
  obtain rfl : j = y := by rw [← hj]; blk_ext [idx t]
  exact cs_sum m c t ((flush0_14 t).mp hf) j

end Cert.DownKernelIdeal.Val

end
-- ==== Proof.DwCases.lean ====
/- The weight-gradient call: which of the three kinds of grid point (first, middle, last) a point is, and at which points each output block is left alone. -/
module

public import proofs.«01_k».proof.Proof.Gen.DwKernelIdeal.Frame
public import proofs.«01_k».proof.Proof.Gen.DwKernelIdeal.Skeleton
public import proofs.«01_k».proof.Proof.Gen.DwKernelIdeal.Loops
public import Idealize.ShloMosaic.Lib.Pipeline.TableIdle

@[expose] public section

set_option maxRecDepth 16384

noncomputable section

namespace Cert.DwKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, k0_cond1, e0]
    word_cmp
   : ∀ t : Fin grid0.N, cond0_0 (grid0.coords t) ↔ t.val % 17 = 0)

/-- The condition of the body's `scf.if` 1 (`k0_h2`), from the grid coordinates (the skeleton's scalar
    chain substituted). -/
abbrev cond0_1 (i : grid0.Coords) : Prop := k0_cond2 i = 1#1
/-- It holds at the points before point 16 — decided over the grid. -/
theorem hcond0_1 : ∀ t : Fin cfg0.N, cond0_1 (grid0.coords t) ↔ t.val < 16 :=
  (by decide +kernel : ∀ t : Fin grid0.N, cond0_1 (grid0.coords t) ↔ t.val < 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an output stored at every point, under no condition). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- Whether output 13's buffer is FRESH at each position `1 ‥ N` — holds nothing the body stored since the region's entry or the
    last write-back (written back at the point before, or idle there and fresh before it) —, as a bitmask the classifier
    computed, bit `n` for position `n + 1`; position 0 is fresh. `freshTab0_13_step` checks it against the configuration's own
    step point by point and Lib/Pipeline/TableIdle.lean `Cfg.fresh_tab` makes it `Cfg.fresh` (`fresh0_13_eq`). -/
def freshTab0_13 : ℕ → Bool
  | 0 => true
  | n + 1 => (0x17fff : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- At the points of case A the printed configuration (`Cfg.idle`) calls output 13 live: the case stores into it. -/
theorem liveAt0_13_A : ∀ t : Fin cfg0.N, cond0_0 (grid0.coords t) → cond0_1 (grid0.coords t) → cfg0.idle 13 (grid0.coords t) = false := by decide +kernel
/-- At the points of case B the printed configuration (`Cfg.idle`) calls output 13 live: the case stores into it. -/
theorem liveAt0_13_B : ∀ t : Fin cfg0.N, ¬cond0_0 (grid0.coords t) → cond0_1 (grid0.coords t) → cfg0.idle 13 (grid0.coords t) = false := by decide +kernel
/-- At the points of case C the printed configuration (`Cfg.idle`) calls output 13 idle: the case stores nothing into it. -/
theorem idleAt0_13_C : ∀ t : Fin cfg0.N, ¬cond0_0 (grid0.coords t) → ¬cond0_1 (grid0.coords t) → cfg0.idle 13 (grid0.coords t) = true := by decide +kernel
/-- Output 13 is written back at the points of case C: what the point before left in its buffer. -/
theorem flushAt0_13_C : ∀ t : Fin cfg0.N, ¬cond0_0 (grid0.coords t) → ¬cond0_1 (grid0.coords t) → (cfg0.win 13).flush t = true := by decide +kernel
/-- At the points of case C, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_C : ∀ t : Fin cfg0.N, ¬cond0_0 (grid0.coords t) → ¬cond0_1 (grid0.coords t) → cfg0.fresh 13 t.val = false := by
  intro t; rw [fresh0_13_eq t]; revert t; decide +kernel
/-- Whether output 14's buffer is FRESH at each position `1 ‥ N` — holds nothing the body stored since the region's entry or the
    last write-back (written back at the point before, or idle there and fresh before it) —, as a bitmask the classifier
    computed, bit `n` for position `n + 1`; position 0 is fresh. `freshTab0_14_step` checks it against the configuration's own
    step point by point and Lib/Pipeline/TableIdle.lean `Cfg.fresh_tab` makes it `Cfg.fresh` (`fresh0_14_eq`). -/
def freshTab0_14 : ℕ → Bool
  | 0 => true
  | n + 1 => (0x17fff : ℕ).testBit n
theorem freshTab0_14_step : ∀ t : Fin cfg0.N,
    freshTab0_14 (t.val + 1) = ((cfg0.win 14).flush t || (cfg0.idle 14 (cfg0.grid.coords t) && freshTab0_14 t.val)) := by decide +kernel
theorem fresh0_14_eq (t : Fin cfg0.N) : cfg0.fresh 14 t.val = freshTab0_14 t.val :=
  Pipeline.Cfg.fresh_tab cfg0 14 freshTab0_14 rfl freshTab0_14_step t.val (Nat.le_of_lt t.isLt)
/-- At the points of case A the printed configuration (`Cfg.idle`) calls output 14 live: the case stores into it. -/
theorem liveAt0_14_A : ∀ t : Fin cfg0.N, cond0_0 (grid0.coords t) → cond0_1 (grid0.coords t) → cfg0.idle 14 (grid0.coords t) = false := by decide +kernel
/-- At the points of case B the printed configuration (`Cfg.idle`) calls output 14 live: the case stores into it. -/
theorem liveAt0_14_B : ∀ t : Fin cfg0.N, ¬cond0_0 (grid0.coords t) → cond0_1 (grid0.coords t) → cfg0.idle 14 (grid0.coords t) = false := by decide +kernel
/-- At the points of case C the printed configuration (`Cfg.idle`) calls output 14 idle: the case stores nothing into it. -/
theorem idleAt0_14_C : ∀ t : Fin cfg0.N, ¬cond0_0 (grid0.coords t) → ¬cond0_1 (grid0.coords t) → cfg0.idle 14 (grid0.coords t) = true := by decide +kernel
/-- Output 14 is written back at the points of case C: what the point before left in its buffer. -/
theorem flushAt0_14_C : ∀ t : Fin cfg0.N, ¬cond0_0 (grid0.coords t) → ¬cond0_1 (grid0.coords t) → (cfg0.win 14).flush t = true := by decide +kernel
/-- At the points of case C, which keeps output 14's prior contents (reads it before covering, or covers it in part), the
    window's buffer is not FRESH: something was stored into it since the region's entry or its last write-back, idle points
    between or not (Lib/Pipeline/TableIdle.lean `Cfg.fresh`, by the table `freshTab0_14`). -/
theorem notFresh0_14_C : ∀ t : Fin cfg0.N, ¬cond0_0 (grid0.coords t) → ¬cond0_1 (grid0.coords t) → cfg0.fresh 14 t.val = false := by
  intro t; rw [fresh0_14_eq t]; revert t; decide +kernel
/-- Whether output 15's buffer is FRESH at each position `1 ‥ N` — holds nothing the body stored since the region's entry or the
    last write-back (written back at the point before, or idle there and fresh before it) —, as a bitmask the classifier
    computed, bit `n` for position `n + 1`; position 0 is fresh. `freshTab0_15_step` checks it against the configuration's own
    step point by point and Lib/Pipeline/TableIdle.lean `Cfg.fresh_tab` makes it `Cfg.fresh` (`fresh0_15_eq`). -/
def freshTab0_15 : ℕ → Bool
  | 0 => true
  | n + 1 => (0x17fff : ℕ).testBit n
theorem freshTab0_15_step : ∀ t : Fin cfg0.N,
    freshTab0_15 (t.val + 1) = ((cfg0.win 15).flush t || (cfg0.idle 15 (cfg0.grid.coords t) && freshTab0_15 t.val)) := by decide +kernel
theorem fresh0_15_eq (t : Fin cfg0.N) : cfg0.fresh 15 t.val = freshTab0_15 t.val :=
  Pipeline.Cfg.fresh_tab cfg0 15 freshTab0_15 rfl freshTab0_15_step t.val (Nat.le_of_lt t.isLt)
/-- At the points of case A the printed configuration (`Cfg.idle`) calls output 15 live: the case stores into it. -/
theorem liveAt0_15_A : ∀ t : Fin cfg0.N, cond0_0 (grid0.coords t) → cond0_1 (grid0.coords t) → cfg0.idle 15 (grid0.coords t) = false := by decide +kernel
/-- At the points of case B the printed configuration (`Cfg.idle`) calls output 15 live: the case stores into it. -/
theorem liveAt0_15_B : ∀ t : Fin cfg0.N, ¬cond0_0 (grid0.coords t) → cond0_1 (grid0.coords t) → cfg0.idle 15 (grid0.coords t) = false := by decide +kernel
/-- At the points of case C the printed configuration (`Cfg.idle`) calls output 15 idle: the case stores nothing into it. -/
theorem idleAt0_15_C : ∀ t : Fin cfg0.N, ¬cond0_0 (grid0.coords t) → ¬cond0_1 (grid0.coords t) → cfg0.idle 15 (grid0.coords t) = true := by decide +kernel
/-- Output 15 is written back at the points of case C: what the point before left in its buffer. -/
theorem flushAt0_15_C : ∀ t : Fin cfg0.N, ¬cond0_0 (grid0.coords t) → ¬cond0_1 (grid0.coords t) → (cfg0.win 15).flush t = true := by decide +kernel
/-- At the points of case C, which keeps output 15's prior contents (reads it before covering, or covers it in part), the
    window's buffer is not FRESH: something was stored into it since the region's entry or its last write-back, idle points
    between or not (Lib/Pipeline/TableIdle.lean `Cfg.fresh`, by the table `freshTab0_15`). -/
theorem notFresh0_15_C : ∀ t : Fin cfg0.N, ¬cond0_0 (grid0.coords t) → ¬cond0_1 (grid0.coords t) → cfg0.fresh 15 t.val = false := by
  intro t; rw [fresh0_15_eq t]; revert t; decide +kernel
/-- Whether output 16's buffer is FRESH at each position `1 ‥ N` — holds nothing the body stored since the region's entry or the
    last write-back (written back at the point before, or idle there and fresh before it) —, as a bitmask the classifier
    computed, bit `n` for position `n + 1`; position 0 is fresh. `freshTab0_16_step` checks it against the configuration's own
    step point by point and Lib/Pipeline/TableIdle.lean `Cfg.fresh_tab` makes it `Cfg.fresh` (`fresh0_16_eq`). -/
def freshTab0_16 : ℕ → Bool
  | 0 => true
  | n + 1 => (0x10000 : ℕ).testBit n
theorem freshTab0_16_step : ∀ t : Fin cfg0.N,
    freshTab0_16 (t.val + 1) = ((cfg0.win 16).flush t || (cfg0.idle 16 (cfg0.grid.coords t) && freshTab0_16 t.val)) := by decide +kernel
theorem fresh0_16_eq (t : Fin cfg0.N) : cfg0.fresh 16 t.val = freshTab0_16 t.val :=
  Pipeline.Cfg.fresh_tab cfg0 16 freshTab0_16 rfl freshTab0_16_step t.val (Nat.le_of_lt t.isLt)
/-- At the points of case A the printed configuration (`Cfg.idle`) calls output 16 live: the case stores into it. -/
theorem liveAt0_16_A : ∀ t : Fin cfg0.N, cond0_0 (grid0.coords t) → cond0_1 (grid0.coords t) → cfg0.idle 16 (grid0.coords t) = false := by decide +kernel
/-- At the points of case B the printed configuration (`Cfg.idle`) calls output 16 live: the case stores into it. -/
theorem liveAt0_16_B : ∀ t : Fin cfg0.N, ¬cond0_0 (grid0.coords t) → cond0_1 (grid0.coords t) → cfg0.idle 16 (grid0.coords t) = false := by decide +kernel
/-- At the points of case B, which keeps output 16's prior contents (reads it before covering, or covers it in part), the
    window's buffer is not FRESH: something was stored into it since the region's entry or its last write-back, idle points
    between or not (Lib/Pipeline/TableIdle.lean `Cfg.fresh`, by the table `freshTab0_16`). -/
theorem notFresh0_16_B : ∀ t : Fin cfg0.N, ¬cond0_0 (grid0.coords t) → cond0_1 (grid0.coords t) → cfg0.fresh 16 t.val = false := by
  intro t; rw [fresh0_16_eq t]; revert t; decide +kernel
/-- At the points of case C the printed configuration (`Cfg.idle`) calls output 16 idle: the case stores nothing into it. -/
theorem idleAt0_16_C : ∀ t : Fin cfg0.N, ¬cond0_0 (grid0.coords t) → ¬cond0_1 (grid0.coords t) → cfg0.idle 16 (grid0.coords t) = true := by decide +kernel
/-- Output 16 is written back at the points of case C: what the point before left in its buffer. -/
theorem flushAt0_16_C : ∀ t : Fin cfg0.N, ¬cond0_0 (grid0.coords t) → ¬cond0_1 (grid0.coords t) → (cfg0.win 16).flush t = true := by decide +kernel
/-- At the points of case C, which keeps output 16's prior contents (reads it before covering, or covers it in part), the
    window's buffer is not FRESH: something was stored into it since the region's entry or its last write-back, idle points
    between or not (Lib/Pipeline/TableIdle.lean `Cfg.fresh`, by the table `freshTab0_16`). -/
theorem notFresh0_16_C : ∀ t : Fin cfg0.N, ¬cond0_0 (grid0.coords t) → ¬cond0_1 (grid0.coords t) → cfg0.fresh 16 t.val = false := by
  intro t; rw [fresh0_16_eq t]; revert t; decide +kernel

/-! ## The kernel body on any staging memrefs: a subtype the run finds -/

/-- One staging buffer of output window 11, through which its contents are stated (`View.read_writes_of_cover`: the
    choice does not matter). -/
abbrev VO0_11 : View sig .tc .vmem S3200x512 .bf16 := (Memref.whole cc0_stg11_0 : Memref sig .tc .vmem S3200x512 .bf16).view
/-- One staging buffer of output window 12, through which its contents are stated (`View.read_writes_of_cover`: the
    choice does not matter). -/
abbrev VO0_12 : View sig .tc .vmem S3200x512 .bf16 := (Memref.whole cc0_stg12_0 : Memref sig .tc .vmem S3200x512 .bf16).view
/-- One staging buffer of output window 13, through which its contents are stated (`View.read_writes_of_cover`: the
    choice does not matter). -/
abbrev VO0_13 : View sig .tc .vmem S128x3200 .bf16 := (Memref.whole cc0_stg13_0 : Memref sig .tc .vmem S128x3200 .bf16).view
/-- One staging buffer of output window 14, through which its contents are stated (`View.read_writes_of_cover`: the
    choice does not matter). -/
abbrev VO0_14 : View sig .tc .vmem S128x3200 .bf16 := (Memref.whole cc0_stg14_0 : Memref sig .tc .vmem S128x3200 .bf16).view
/-- One staging buffer of output window 15, through which its contents are stated (`View.read_writes_of_cover`: the
    choice does not matter). -/
abbrev VO0_15 : View sig .tc .vmem S128x128 .f32 := (Memref.whole cc0_stg15_0 : Memref sig .tc .vmem S128x128 .f32).view
/-- One staging buffer of output window 16, through which its contents are stated (`View.read_writes_of_cover`: the
    choice does not matter). -/
abbrev VO0_16 : View sig .tc .vmem S1x3200 .f32 := (Memref.whole cc0_stg16_0 : Memref sig .tc .vmem S1x3200 .f32).view
/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3200x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x3200 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x3200 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x3200 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x3200 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x3200 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3200x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S3200x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x3200 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x3200 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x3200 .f32 := win0_16.stage (cfg0.slots t 16)
abbrev hs0_16 (t : Fin cfg0.N) : (ms0_16 t).IsWhole := hstage0_16 ((cfg0.slots t 16).cast nbuf0_16)

end Cert.DwKernelIdeal.Gen

end
-- ==== Proof.DwRunA.lean ====
/- The weight-gradient call: one run of the whole body at the first grid point, and the blocks of values its stores leave. -/
module

public import proofs.«01_k».proof.Proof.DwCases

@[expose] public section

set_option maxRecDepth 16384

noncomputable section

namespace Cert.DwKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) :
    Σ' (L11 : List (View.Piece (Elt F) S3200x512 .bf16)), Σ' (L12 : List (View.Piece (Elt F) S3200x512 .bf16)), Σ' (L13 : List (View.Piece (Elt F) S128x3200 .bf16)), Σ' (L14 : List (View.Piece (Elt F) S128x3200 .bf16)), Σ' (L15 : List (View.Piece (Elt F) S128x128 .f32)), { L16 : List (View.Piece (Elt F) S1x3200 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0_dw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_dw_eq_skeleton]; unfold cc0_dw_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.DwKernelIdeal.Gen

end
-- ==== Proof.DwRunB.lean ====
/- The weight-gradient call: one run of the whole body at a middle grid point, and the blocks of values its stores leave. -/
module

public import proofs.«01_k».proof.Proof.DwRunA

@[expose] public section

set_option maxRecDepth 16384

noncomputable section

namespace Cert.DwKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 15: 15 of 17), WITH the
    proof that on whole staging memrefs — the inputs' at their contents, the outputs it reads before covering (16) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo16 : Vec F S1x3200 .f32) :
    Σ' (L11 : List (View.Piece (Elt F) S3200x512 .bf16)), Σ' (L12 : List (View.Piece (Elt F) S3200x512 .bf16)), Σ' (L13 : List (View.Piece (Elt F) S128x3200 .bf16)), Σ' (L14 : List (View.Piece (Elt F) S128x3200 .bf16)), Σ' (L15 : List (View.Piece (Elt F) S128x128 .f32)), { L16 : List (View.Piece (Elt F) S1x3200 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xo16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0_dw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_dw_eq_skeleton]; unfold cc0_dw_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg17.eq_unread hf16
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.DwKernelIdeal.Gen

end
-- ==== Proof.DwRunC.lean ====
/- The weight-gradient call: one run of the whole body at the last grid point, and the blocks of values its stores leave. -/
module

public import proofs.«01_k».proof.Proof.DwRunB

@[expose] public section

set_option maxRecDepth 16384

noncomputable section

namespace Cert.DwKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken: points 16), WITH the
    proof that on whole staging memrefs — the inputs' at their contents, the outputs it reads before covering (13, 14, 15, 16) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : ¬cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo13 : Vec F S128x3200 .bf16) (xo14 : Vec F S128x3200 .bf16) (xo15 : Vec F S128x128 .f32) (xo16 : Vec F S1x3200 .f32) :
    Σ' (L11 : List (View.Piece (Elt F) S3200x512 .bf16)), Σ' (L12 : List (View.Piece (Elt F) S3200x512 .bf16)), Σ' (L13 : List (View.Piece (Elt F) S128x3200 .bf16)), Σ' (L14 : List (View.Piece (Elt F) S128x3200 .bf16)), Σ' (L15 : List (View.Piece (Elt F) S128x128 .f32)), { L16 : List (View.Piece (Elt F) S1x3200 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xo13 ∗ owns (c : Thread nD τ) arg15 fullShare xo14 ∗ owns (c : Thread nD τ) arg16 fullShare xo15 ∗ owns (c : Thread nD τ) arg17 fullShare xo16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xo13 ∗ owns (c : Thread nD τ) arg15 fullShare xo14 ∗ owns (c : Thread nD τ) arg16 fullShare xo15 ∗ owns (c : Thread nD τ) arg17 fullShare xo16) -∗ K ⟨⟩))
          ⊢ wp frame (wpE (defs₀ (F := F)) Variants.none c none) E (cc0_dw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], [], [], [], fun E K => ?run⟩
  case run =>
    simp only [cc0_dw_eq_skeleton]; unfold cc0_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hf13; obtain rfl := harg15.eq_unread hf14; obtain rfl := harg16.eq_unread hf15; obtain rfl := harg17.eq_unread hf16
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    iexists _; isplitr; · ipureintro; exact harg17.read_unread _
    iexact H16

end Cert.DwKernelIdeal.Gen

end
-- ==== Proof.DwOuts.lean ====
/- The weight-gradient call: what each output block holds after a point of each kind, and so after every point. -/
module

public import proofs.«01_k».proof.Proof.DwRunC

@[expose] public section

set_option maxRecDepth 16384

noncomputable section

namespace Cert.DwKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 11 tile its block (5 stores of `S640x512`, checked by the kernel's evaluation: Lib/Ring.lean `Piece.tiledL`, linear in the pieces, through a loop's `@[irreducible]` trip theorem too), so they cover it. -/
theorem cover0_A_11 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (y : S3200x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).1 S640x512.size (by sl_kernel_rfl) y

/-- What case A leaves in output 11's staging buffer: its pieces read back over junk. -/
def out0_A_11 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) : Vec F S3200x512 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).1)

/-- Case A's pieces for output 12 tile its block (5 stores of `S640x512`, checked by the kernel's evaluation: Lib/Ring.lean `Piece.tiledL`, linear in the pieces, through a loop's `@[irreducible]` trip theorem too), so they cover it. -/
theorem cover0_A_12 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (y : S3200x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.1 S640x512.size (by sl_kernel_rfl) y

/-- What case A leaves in output 12's staging buffer: its pieces read back over junk. -/
def out0_A_12 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) : Vec F S3200x512 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.1)

/-- Case A's pieces for output 13 tile its block (8 stores of `S16x3200`, checked by the kernel's evaluation: Lib/Ring.lean `Piece.tiledL`, linear in the pieces, through a loop's `@[irreducible]` trip theorem too), so they cover it. -/
theorem cover0_A_13 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (y : S128x3200.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.2.1 S16x3200.size (by sl_kernel_rfl) y

/-- What case A leaves in output 13's staging buffer: its pieces read back over junk. -/
def out0_A_13 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) : Vec F S128x3200 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.2.1)

/-- Case A's pieces for output 14 tile its block (8 stores of `S16x3200`, checked by the kernel's evaluation: Lib/Ring.lean `Piece.tiledL`, linear in the pieces, through a loop's `@[irreducible]` trip theorem too), so they cover it. -/
theorem cover0_A_14 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (y : S128x3200.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.2.2.1 S16x3200.size (by sl_kernel_rfl) y

/-- What case A leaves in output 14's staging buffer: its pieces read back over junk. -/
def out0_A_14 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) : Vec F S128x3200 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.2.2.1)

/-- Case A's pieces for output 15 tile its block (8 stores of `S16x128`, checked by the kernel's evaluation: Lib/Ring.lean `Piece.tiledL`, linear in the pieces, through a loop's `@[irreducible]` trip theorem too), so they cover it. -/
theorem cover0_A_15 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.2.2.2.1 S16x128.size (by sl_kernel_rfl) y

/-- What case A leaves in output 15's staging buffer: its pieces read back over junk. -/
def out0_A_15 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) : Vec F S128x128 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.2.2.2.1)

/-- Case A's pieces for output 16 tile its block (9 stores of `S1x3200`, checked by the kernel's evaluation: Lib/Ring.lean `Piece.tiledL`, linear in the pieces, through a loop's `@[irreducible]` trip theorem too), so they cover it. -/
theorem cover0_A_16 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (y : S1x3200.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.2.2.2.2.1 S1x3200.size (by sl_kernel_rfl) y

/-- What case A leaves in output 16's staging buffer: its pieces read back over junk. -/
def out0_A_16 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) : Vec F S1x3200 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.2.2.2.2.1)

/-- Case B's pieces for output 11 tile its block (5 stores of `S640x512`, checked by the kernel's evaluation: Lib/Ring.lean `Piece.tiledL`, linear in the pieces, through a loop's `@[irreducible]` trip theorem too), so they cover it. -/
theorem cover0_B_11 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo16 : Vec F S1x3200 .f32) (y : S3200x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).1 S640x512.size (by sl_kernel_rfl) y

/-- What case B leaves in output 11's staging buffer: its pieces read back over junk. -/
def out0_B_11 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo16 : Vec F S1x3200 .f32) : Vec F S3200x512 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).1)

/-- Case B's pieces for output 12 tile its block (5 stores of `S640x512`, checked by the kernel's evaluation: Lib/Ring.lean `Piece.tiledL`, linear in the pieces, through a loop's `@[irreducible]` trip theorem too), so they cover it. -/
theorem cover0_B_12 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo16 : Vec F S1x3200 .f32) (y : S3200x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.1 S640x512.size (by sl_kernel_rfl) y

/-- What case B leaves in output 12's staging buffer: its pieces read back over junk. -/
def out0_B_12 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo16 : Vec F S1x3200 .f32) : Vec F S3200x512 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.1)

/-- Case B's pieces for output 13 tile its block (8 stores of `S16x3200`, checked by the kernel's evaluation: Lib/Ring.lean `Piece.tiledL`, linear in the pieces, through a loop's `@[irreducible]` trip theorem too), so they cover it. -/
theorem cover0_B_13 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo16 : Vec F S1x3200 .f32) (y : S128x3200.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.2.1 S16x3200.size (by sl_kernel_rfl) y

/-- What case B leaves in output 13's staging buffer: its pieces read back over junk. -/
def out0_B_13 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo16 : Vec F S1x3200 .f32) : Vec F S128x3200 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.2.1)

/-- Case B's pieces for output 14 tile its block (8 stores of `S16x3200`, checked by the kernel's evaluation: Lib/Ring.lean `Piece.tiledL`, linear in the pieces, through a loop's `@[irreducible]` trip theorem too), so they cover it. -/
theorem cover0_B_14 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo16 : Vec F S1x3200 .f32) (y : S128x3200.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.2.2.1 S16x3200.size (by sl_kernel_rfl) y

/-- What case B leaves in output 14's staging buffer: its pieces read back over junk. -/
def out0_B_14 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo16 : Vec F S1x3200 .f32) : Vec F S128x3200 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.2.2.1)

/-- Case B's pieces for output 15 tile its block (8 stores of `S16x128`, checked by the kernel's evaluation: Lib/Ring.lean `Piece.tiledL`, linear in the pieces, through a loop's `@[irreducible]` trip theorem too), so they cover it. -/
theorem cover0_B_15 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo16 : Vec F S1x3200 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.2.2.2.1 S16x128.size (by sl_kernel_rfl) y

/-- What case B leaves in output 15's staging buffer: its pieces read back over junk. -/
def out0_B_15 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo16 : Vec F S1x3200 .f32) : Vec F S128x128 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.2.2.2.1)

/-- Case B's pieces for output 16 tile its block (8 stores of `S1x3200`, checked by the kernel's evaluation: Lib/Ring.lean `Piece.tiledL`, linear in the pieces, through a loop's `@[irreducible]` trip theorem too), so they cover it. -/
theorem cover0_B_16 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo16 : Vec F S1x3200 .f32) (y : S1x3200.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.2.2.2.2.1 S1x3200.size (by sl_kernel_rfl) y

/-- What case B leaves in output 16's staging buffer: its pieces read back over junk. -/
def out0_B_16 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo16 : Vec F S1x3200 .f32) : Vec F S1x3200 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo16).2.2.2.2.2.1)

/-- Case C's pieces for output 11 tile its block (5 stores of `S640x512`, checked by the kernel's evaluation: Lib/Ring.lean `Piece.tiledL`, linear in the pieces, through a loop's `@[irreducible]` trip theorem too), so they cover it. -/
theorem cover0_C_11 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : ¬cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo13 : Vec F S128x3200 .bf16) (xo14 : Vec F S128x3200 .bf16) (xo15 : Vec F S128x128 .f32) (xo16 : Vec F S1x3200 .f32) (y : S3200x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo13 xo14 xo15 xo16).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo13 xo14 xo15 xo16).1 S640x512.size (by sl_kernel_rfl) y

/-- What case C leaves in output 11's staging buffer: its pieces read back over junk. -/
def out0_C_11 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : ¬cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo13 : Vec F S128x3200 .bf16) (xo14 : Vec F S128x3200 .bf16) (xo15 : Vec F S128x128 .f32) (xo16 : Vec F S1x3200 .f32) : Vec F S3200x512 .bf16 :=
  VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo13 xo14 xo15 xo16).1)

/-- Case C's pieces for output 12 tile its block (5 stores of `S640x512`, checked by the kernel's evaluation: Lib/Ring.lean `Piece.tiledL`, linear in the pieces, through a loop's `@[irreducible]` trip theorem too), so they cover it. -/
theorem cover0_C_12 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : ¬cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo13 : Vec F S128x3200 .bf16) (xo14 : Vec F S128x3200 .bf16) (xo15 : Vec F S128x128 .f32) (xo16 : Vec F S1x3200 .f32) (y : S3200x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo13 xo14 xo15 xo16).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo13 xo14 xo15 xo16).2.1 S640x512.size (by sl_kernel_rfl) y

/-- What case C leaves in output 12's staging buffer: its pieces read back over junk. -/
def out0_C_12 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : ¬cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo13 : Vec F S128x3200 .bf16) (xo14 : Vec F S128x3200 .bf16) (xo15 : Vec F S128x128 .f32) (xo16 : Vec F S1x3200 .f32) : Vec F S3200x512 .bf16 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo13 xo14 xo15 xo16).2.1)

/-- Case C stores nothing into output 13, a live window: its staging buffer holds what the point before left. -/
def out0_C_13 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : ¬cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo13 : Vec F S128x3200 .bf16) (xo14 : Vec F S128x3200 .bf16) (xo15 : Vec F S128x128 .f32) (xo16 : Vec F S1x3200 .f32) : Vec F S128x3200 .bf16 := xo13

/-- Case C stores nothing into output 14, a live window: its staging buffer holds what the point before left. -/
def out0_C_14 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : ¬cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo13 : Vec F S128x3200 .bf16) (xo14 : Vec F S128x3200 .bf16) (xo15 : Vec F S128x128 .f32) (xo16 : Vec F S1x3200 .f32) : Vec F S128x3200 .bf16 := xo14

/-- Case C stores nothing into output 15, a live window: its staging buffer holds what the point before left. -/
def out0_C_15 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : ¬cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo13 : Vec F S128x3200 .bf16) (xo14 : Vec F S128x3200 .bf16) (xo15 : Vec F S128x128 .f32) (xo16 : Vec F S1x3200 .f32) : Vec F S128x128 .f32 := xo15

/-- Case C stores nothing into output 16, a live window: its staging buffer holds what the point before left. -/
def out0_C_16 (c : Dev nD) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole) (hc0 : ¬cond0_0 i) (hc1 : ¬cond0_1 i)
    (x0 : Vec F S1x1 .f32) (x1 : Vec F S3200x2048 .bf16) (x2 : Vec F S2048x512 .bf16) (x3 : Vec F S2048x512 .bf16) (x4 : Vec F S128x3200 .bf16) (x5 : Vec F S128x3200 .bf16) (x6 : Vec F S1x3200 .f32) (x7 : Vec F S128x128 .f32) (x8 : Vec F S128x128 .f32) (x9 : Vec F S128x3200 .f32) (x10 : Vec F S128x3200 .f32) (xo13 : Vec F S128x3200 .bf16) (xo14 : Vec F S128x3200 .bf16) (xo15 : Vec F S128x128 .f32) (xo16 : Vec F S1x3200 .f32) : Vec F S1x3200 .f32 := xo16

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S3200x512 .bf16 × Vec F S3200x512 .bf16 × Vec F S128x3200 .bf16 × Vec F S128x3200 .bf16 × Vec F S128x128 .f32 × Vec F S1x3200 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 17 = 0 then
      if h1 : (n + 1) < 16 then
        (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
      else
        False.elim (by have hN : n + 1 < 17 := lt_of_lt_of_eq hn (show cfg0.N = 17 from N_0); omega)
    else
      if h1 : (n + 1) < 16 then
        (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2)
      else
        (out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 17 = 0) (h1 : t.val < 16) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 17 = 0) (h1 : t.val < 16) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- `outsAt0` at a point of case C: that case's contents, over what the point before left. -/
theorem outsAt0_C (c : Dev nD) (t : Fin cfg0.N) (h0 : ¬t.val % 17 = 0) (h1 : ¬t.val < 16) :
    outsAt0 m c t.val t.isLt = (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

end Cert.DwKernelIdeal.Gen

end
-- ==== Proof.DwFrame.lean ====
/- The weight-gradient call: it runs to the end, leaves its arguments as they were, and writes the blocks stated point by point. -/
module

public import proofs.«01_k».proof.Proof.DwOuts
public import Idealize.ShloMosaic.Lib.Claim

@[expose] public section

set_option maxRecDepth 16384

noncomputable section

namespace Cert.DwKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨16, _⟩ => (outsAt0 m c t.val t.isLt).2.2.2.2.2
    | ⟨_ + 17, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]
theorem after0_16 (c : Dev nD) (t : Fin cfg0.N) : (dats m 0 c).after 16 t = (outsAt0 m c t.val t.isLt).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- Output 13's contents CARRY through the points that leave it idle: at such a point, its buffer not fresh, the proof data's
    `after` is the point before's (the case there stores nothing into the window and its term says so; a case that stores
    into it is not idle there by `liveAt0_13_κ`) — the hypothesis of Lib/Pipeline/TableIdle.lean `Dat.before_out_traj`. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 17 := lt_of_lt_of_eq t.isLt (show cfg0.N = 17 from N_0)
  rw [after0_13, after0_13]
  by_cases h0 : t.val % 17 = 0
  · by_cases h1 : t.val < 16
    · rw [liveAt0_13_A t ((hcond0_0 t).mpr h0) ((hcond0_1 t).mpr h1)] at hi
      exact absurd hi Bool.false_ne_true
    · exfalso; omega
  · by_cases h1 : t.val < 16
    · rw [liveAt0_13_B t (fun h => h0 ((hcond0_0 t).mp h)) ((hcond0_1 t).mpr h1)] at hi
      exact absurd hi Bool.false_ne_true
    · rw [outsAt0_C m c t h0 h1]; rfl

/-- Output 14's contents CARRY through the points that leave it idle: at such a point, its buffer not fresh, the proof data's
    `after` is the point before's (the case there stores nothing into the window and its term says so; a case that stores
    into it is not idle there by `liveAt0_14_κ`) — the hypothesis of Lib/Pipeline/TableIdle.lean `Dat.before_out_traj`. -/
theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 17 := lt_of_lt_of_eq t.isLt (show cfg0.N = 17 from N_0)
  rw [after0_14, after0_14]
  by_cases h0 : t.val % 17 = 0
  · by_cases h1 : t.val < 16
    · rw [liveAt0_14_A t ((hcond0_0 t).mpr h0) ((hcond0_1 t).mpr h1)] at hi
      exact absurd hi Bool.false_ne_true
    · exfalso; omega
  · by_cases h1 : t.val < 16
    · rw [liveAt0_14_B t (fun h => h0 ((hcond0_0 t).mp h)) ((hcond0_1 t).mpr h1)] at hi
      exact absurd hi Bool.false_ne_true
    · rw [outsAt0_C m c t h0 h1]; rfl

/-- Output 15's contents CARRY through the points that leave it idle: at such a point, its buffer not fresh, the proof data's
    `after` is the point before's (the case there stores nothing into the window and its term says so; a case that stores
    into it is not idle there by `liveAt0_15_κ`) — the hypothesis of Lib/Pipeline/TableIdle.lean `Dat.before_out_traj`. -/
theorem hcarry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  have hN : t.val < 17 := lt_of_lt_of_eq t.isLt (show cfg0.N = 17 from N_0)
  rw [after0_15, after0_15]
  by_cases h0 : t.val % 17 = 0
  · by_cases h1 : t.val < 16
    · rw [liveAt0_15_A t ((hcond0_0 t).mpr h0) ((hcond0_1 t).mpr h1)] at hi
      exact absurd hi Bool.false_ne_true
    · exfalso; omega
  · by_cases h1 : t.val < 16
    · rw [liveAt0_15_B t (fun h => h0 ((hcond0_0 t).mp h)) ((hcond0_1 t).mpr h1)] at hi
      exact absurd hi Bool.false_ne_true
    · rw [outsAt0_C m c t h0 h1]; rfl

/-- Output 16's contents CARRY through the points that leave it idle: at such a point, its buffer not fresh, the proof data's
    `after` is the point before's (the case there stores nothing into the window and its term says so; a case that stores
    into it is not idle there by `liveAt0_16_κ`) — the hypothesis of Lib/Pipeline/TableIdle.lean `Dat.before_out_traj`. -/
theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t _ hi _
  have hN : t.val < 17 := lt_of_lt_of_eq t.isLt (show cfg0.N = 17 from N_0)
  rw [after0_16, after0_16]
  by_cases h0 : t.val % 17 = 0
  · by_cases h1 : t.val < 16
    · rw [liveAt0_16_A t ((hcond0_0 t).mpr h0) ((hcond0_1 t).mpr h1)] at hi
      exact absurd hi Bool.false_ne_true
    · exfalso; omega
  · by_cases h1 : t.val < 16
    · rw [liveAt0_16_B t (fun h => h0 ((hcond0_0 t).mp h)) ((hcond0_1 t).mpr h1)] at hi
      exact absurd hi Bool.false_ne_true
    · rw [outsAt0_C m c t h0 h1]; rfl
/-- At a point of case B output 16's current staging buffer holds what the point before left: the buffer is not fresh
    there (`notFresh0_16_B`: stored into since the region's entry or the last write-back, carried through the points that
    leave it idle by `hcarry0_16`; Lib/Pipeline/TableIdle.lean `Dat.before_out_traj`). -/
theorem before0_16_B (c : Dev nD) (t : Fin cfg0.N) (h0 : ¬t.val % 17 = 0) (h1 : t.val < 16) (d) :
    (dats m 0 c).before 16 t d = (outsAt0 m c (t.val - 1) (Nat.lt_of_le_of_lt (Nat.sub_le _ _) t.isLt)).2.2.2.2.2 := by
  rw [Dat.before_out_traj _ 16 rfl (fun _ _ => rfl) (hcarry0_16 m c) t.val t rfl d,
    if_neg (by rw [notFresh0_16_B t (fun h => h0 ((hcond0_0 t).mp h)) ((hcond0_1 t).mpr h1)]; exact Bool.false_ne_true)]
  dsimp only [dats]
/-- At a point of case C output 13's current staging buffer holds what the point before left: the buffer is not fresh
    there (`notFresh0_13_C`: stored into since the region's entry or the last write-back, carried through the points that
    leave it idle by `hcarry0_13`; Lib/Pipeline/TableIdle.lean `Dat.before_out_traj`). -/
theorem before0_13_C (c : Dev nD) (t : Fin cfg0.N) (h0 : ¬t.val % 17 = 0) (h1 : ¬t.val < 16) (d) :
    (dats m 0 c).before 13 t d = (outsAt0 m c (t.val - 1) (Nat.lt_of_le_of_lt (Nat.sub_le _ _) t.isLt)).2.2.1 := by
  rw [Dat.before_out_traj _ 13 rfl (fun _ _ => rfl) (hcarry0_13 m c) t.val t rfl d,
    if_neg (by rw [notFresh0_13_C t (fun h => h0 ((hcond0_0 t).mp h)) (fun h => h1 ((hcond0_1 t).mp h))]; exact Bool.false_ne_true)]
  dsimp only [dats]
/-- At a point of case C output 14's current staging buffer holds what the point before left: the buffer is not fresh
    there (`notFresh0_14_C`: stored into since the region's entry or the last write-back, carried through the points that
    leave it idle by `hcarry0_14`; Lib/Pipeline/TableIdle.lean `Dat.before_out_traj`). -/
theorem before0_14_C (c : Dev nD) (t : Fin cfg0.N) (h0 : ¬t.val % 17 = 0) (h1 : ¬t.val < 16) (d) :
    (dats m 0 c).before 14 t d = (outsAt0 m c (t.val - 1) (Nat.lt_of_le_of_lt (Nat.sub_le _ _) t.isLt)).2.2.2.1 := by
  rw [Dat.before_out_traj _ 14 rfl (fun _ _ => rfl) (hcarry0_14 m c) t.val t rfl d,
    if_neg (by rw [notFresh0_14_C t (fun h => h0 ((hcond0_0 t).mp h)) (fun h => h1 ((hcond0_1 t).mp h))]; exact Bool.false_ne_true)]
  dsimp only [dats]
/-- At a point of case C output 15's current staging buffer holds what the point before left: the buffer is not fresh
    there (`notFresh0_15_C`: stored into since the region's entry or the last write-back, carried through the points that
    leave it idle by `hcarry0_15`; Lib/Pipeline/TableIdle.lean `Dat.before_out_traj`). -/
theorem before0_15_C (c : Dev nD) (t : Fin cfg0.N) (h0 : ¬t.val % 17 = 0) (h1 : ¬t.val < 16) (d) :
    (dats m 0 c).before 15 t d = (outsAt0 m c (t.val - 1) (Nat.lt_of_le_of_lt (Nat.sub_le _ _) t.isLt)).2.2.2.2.1 := by
  rw [Dat.before_out_traj _ 15 rfl (fun _ _ => rfl) (hcarry0_15 m c) t.val t rfl d,
    if_neg (by rw [notFresh0_15_C t (fun h => h0 ((hcond0_0 t).mp h)) (fun h => h1 ((hcond0_1 t).mp h))]; exact Bool.false_ne_true)]
  dsimp only [dats]
/-- At a point of case C output 16's current staging buffer holds what the point before left: the buffer is not fresh
    there (`notFresh0_16_C`: stored into since the region's entry or the last write-back, carried through the points that
    leave it idle by `hcarry0_16`; Lib/Pipeline/TableIdle.lean `Dat.before_out_traj`). -/
theorem before0_16_C (c : Dev nD) (t : Fin cfg0.N) (h0 : ¬t.val % 17 = 0) (h1 : ¬t.val < 16) (d) :
    (dats m 0 c).before 16 t d = (outsAt0 m c (t.val - 1) (Nat.lt_of_le_of_lt (Nat.sub_le _ _) t.isLt)).2.2.2.2.2 := by
  rw [Dat.before_out_traj _ 16 rfl (fun _ _ => rfl) (hcarry0_16 m c) t.val t rfl d,
    if_neg (by rw [notFresh0_16_C t (fun h => h0 ((hcond0_0 t).mp h)) (fun h => h1 ((hcond0_1 t).mp h))]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 4800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl]
  have hN : t.val < 17 := lt_of_lt_of_eq t.isLt (show cfg0.N = 17 from N_0)
  by_cases h0 : t.val % 17 = 0
  · by_cases h1 : t.val < 16
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13_A t ((hcond0_0 t).mpr h0) ((hcond0_1 t).mpr h1)], after0_13]
      rw [show (dats m 0 c).leavesExact 14 t = owns (c : Thread nD τ) (ms0_14 t) fullShare ((dats m 0 c).after 14 t) from by
      unfold Dat.leavesExact; rw [liveAt0_14_A t ((hcond0_0 t).mpr h0) ((hcond0_1 t).mpr h1)], after0_14]
      rw [show (dats m 0 c).leavesExact 15 t = owns (c : Thread nD τ) (ms0_15 t) fullShare ((dats m 0 c).after 15 t) from by
      unfold Dat.leavesExact; rw [liveAt0_15_A t ((hcond0_0 t).mpr h0) ((hcond0_1 t).mpr h1)], after0_15]
      rw [show (dats m 0 c).leavesExact 16 t = owns (c : Thread nD τ) (ms0_16 t) fullShare ((dats m 0 c).after 16 t) from by
      unfold Dat.leavesExact; rw [liveAt0_16_A t ((hcond0_0 t).mpr h0) ((hcond0_1 t).mpr h1)], after0_16]
      rw [outsAt0_A m c t h0 h1]
      unfold out0_A_11 out0_A_12 out0_A_13 out0_A_14 out0_A_15 out0_A_16; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _)
      unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _)
    · exfalso; omega
  · by_cases h1 : t.val < 16
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13_B t (fun h => h0 ((hcond0_0 t).mp h)) ((hcond0_1 t).mpr h1)], after0_13]
      rw [show (dats m 0 c).leavesExact 14 t = owns (c : Thread nD τ) (ms0_14 t) fullShare ((dats m 0 c).after 14 t) from by
      unfold Dat.leavesExact; rw [liveAt0_14_B t (fun h => h0 ((hcond0_0 t).mp h)) ((hcond0_1 t).mpr h1)], after0_14]
      rw [show (dats m 0 c).leavesExact 15 t = owns (c : Thread nD τ) (ms0_15 t) fullShare ((dats m 0 c).after 15 t) from by
      unfold Dat.leavesExact; rw [liveAt0_15_B t (fun h => h0 ((hcond0_0 t).mp h)) ((hcond0_1 t).mpr h1)], after0_15]
      rw [show (dats m 0 c).leavesExact 16 t = owns (c : Thread nD τ) (ms0_16 t) fullShare ((dats m 0 c).after 16 t) from by
      unfold Dat.leavesExact; rw [liveAt0_16_B t (fun h => h0 ((hcond0_0 t).mp h)) ((hcond0_1 t).mpr h1)], after0_16]
      rw [outsAt0_B m c t h0 h1]
      simp only [before0_16_B m c t h0 h1]
      unfold out0_B_11 out0_B_12 out0_B_13 out0_B_14 out0_B_15 out0_B_16; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexact H16
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [idleAt0_13_C t (fun h => h0 ((hcond0_0 t).mp h)) (fun h => h1 ((hcond0_1 t).mp h)), flushAt0_13_C t (fun h => h0 ((hcond0_0 t).mp h)) (fun h => h1 ((hcond0_1 t).mp h))], after0_13]
      rw [show (dats m 0 c).leavesExact 14 t = owns (c : Thread nD τ) (ms0_14 t) fullShare ((dats m 0 c).after 14 t) from by
      unfold Dat.leavesExact; rw [idleAt0_14_C t (fun h => h0 ((hcond0_0 t).mp h)) (fun h => h1 ((hcond0_1 t).mp h)), flushAt0_14_C t (fun h => h0 ((hcond0_0 t).mp h)) (fun h => h1 ((hcond0_1 t).mp h))], after0_14]
      rw [show (dats m 0 c).leavesExact 15 t = owns (c : Thread nD τ) (ms0_15 t) fullShare ((dats m 0 c).after 15 t) from by
      unfold Dat.leavesExact; rw [idleAt0_15_C t (fun h => h0 ((hcond0_0 t).mp h)) (fun h => h1 ((hcond0_1 t).mp h)), flushAt0_15_C t (fun h => h0 ((hcond0_0 t).mp h)) (fun h => h1 ((hcond0_1 t).mp h))], after0_15]
      rw [show (dats m 0 c).leavesExact 16 t = owns (c : Thread nD τ) (ms0_16 t) fullShare ((dats m 0 c).after 16 t) from by
      unfold Dat.leavesExact; rw [idleAt0_16_C t (fun h => h0 ((hcond0_0 t).mp h)) (fun h => h1 ((hcond0_1 t).mp h)), flushAt0_16_C t (fun h => h0 ((hcond0_0 t).mp h)) (fun h => h1 ((hcond0_1 t).mp h))], after0_16]
      rw [outsAt0_C m c t h0 h1]
      simp only [before0_13_C m c t h0 h1, before0_14_C m c t h0 h1, before0_15_C m c t h0 h1, before0_16_C m c t h0 h1]
      unfold out0_C_11 out0_C_12 out0_C_13 out0_C_14 out0_C_15 out0_C_16; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_C c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexact H13
      isplitl [H14]; · iexact H14
      isplitl [H15]; · iexact H15
      isplitl [H16]; · iexact H16
      iintro ⟨H0, H1, H2, H3, H4, H5, H6, H7, H8, H9, H10, ⟨%e11, H11⟩, ⟨%e12, H12⟩, H13, H14, H15, H16⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _)
      isplitl [H13]; · iexact H13
      isplitl [H14]; · iexact H14
      isplitl [H15]; · iexact H15
      iexact H16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_DwKernelIdeal`'s statement (Defs.lean) at any `F` — Proof.lean cites it at `Bits`:
    `theorem Cert.Proof.claim : Cert.Claim := ⟨Cert.DwKernelIdeal.Gen.facts, fun m ρ _ => Cert.DwKernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.DwKernelIdeal.Gen

end
-- ==== Proof.DwBits.lean ====
/- The kernel as it runs on bit patterns: its program and its ideal program are the same program at two instances of the float
   operations, so the frame carries over. -/
module

public import proofs.«01_k».proof.Defs
public import proofs.«01_k».proof.Proof.Gen.DwKernel
public import proofs.«01_k».proof.Proof.DwFrame

@[expose] public section

set_option maxHeartbeats 1000000

noncomputable section

namespace Cert.Proof

open Idealize.ShloMosaic Idealize.SL.Sem

variable {F : FTy → Type} [FloatOps F]

set_option maxHeartbeats 4000000 in
/-- The two programs have one body. -/
theorem dw_body_eq : (Cert.DwKernel.cc0_dw (F := F) : _) = Cert.DwKernelIdeal.cc0_dw (F := F) := rfl

/-- They declare the same function. -/
theorem dw_defs₀_eq : (Cert.DwKernel.defs₀ (F := F) : _) = Cert.DwKernelIdeal.defs₀ (F := F) := by
  unfold Cert.DwKernel.defs₀ Cert.DwKernelIdeal.defs₀
  refine congrArg _ ?_
  funext l
  match l with
  | 0 => funext ⟨t, s⟩; rfl

/-- So their pipelined definitions agree. -/
theorem dw_defs_eq : (Cert.DwKernel.defs (F := F) : _) = Cert.DwKernelIdeal.defs (F := F) :=
  congrArg (Pipeline.defs Cert.DwKernelIdeal.pcfgs) dw_defs₀_eq

/-- The kernel's frame, over bit patterns. -/
theorem dw_quiescent : Cert.quiescent_DwKernel (hDwKernel := Cert.DwKernel.Gen.facts) := by
  intro m g _
  rw [dw_defs_eq]
  exact Cert.DwKernelIdeal.Gen.frame (F := Bits) m g

end Cert.Proof
-- ==== Proof.DwRunBlocks.lean ====
/- The run of the weight-gradient call: every execution ends with each output array what its grid points' write-backs leave, and the
   arguments unchanged. -/
module

public import proofs.«01_k».proof.Proof.DwFrame

@[expose] public section

noncomputable section

namespace Cert.DwKernelIdeal.Value

open Cert.DwKernelIdeal Cert.DwKernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v1_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v1_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v1_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v1_3) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v1_4) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v1_5) = (dats m 0 c).arrAt 16 cfg0.N :=
  (h c).1 16

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 11 cfg0.N
      ∧ r.2.mem ((c : Thread nD τ).loc main_v1_1) = (dats m 0 c).arrAt 12 cfg0.N
      ∧ r.2.mem ((c : Thread nD τ).loc main_v1_2) = (dats m 0 c).arrAt 13 cfg0.N
      ∧ r.2.mem ((c : Thread nD τ).loc main_v1_3) = (dats m 0 c).arrAt 14 cfg0.N
      ∧ r.2.mem ((c : Thread nD τ).loc main_v1_4) = (dats m 0 c).arrAt 15 cfg0.N
      ∧ r.2.mem ((c : Thread nD τ).loc main_v1_5) = (dats m 0 c).arrAt 16 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post11 m r h c,
      post12 m r h c,
      post13 m r h c,
      post14 m r h c,
      post15 m r h c,
      post16 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.DwKernelIdeal.Value

end
-- ==== Proof.DwSpec.lean ====
/- The last call of the step (weight gradients of the two input projections, and the backward pass of the outer norm), written plainly
   over the extended reals. Where a formula is needed both for a block of rows and for all rows, the number of rows is a parameter. -/
module

public import proofs.«01_k».proof.Proof.DownSpec

@[expose] public section

noncomputable section

namespace Cert.DwSpec

open Idealize.ShloMosaic Idealize.ShloMosaic.TcCoe

abbrev SDT : Shape := ⟨2, ![3200, 2048]⟩
abbrev STP : Shape := ⟨2, ![2048, 8704]⟩
abbrev SDF : Shape := ⟨2, ![3200, 8640]⟩
abbrev SD : Shape := ⟨1, ![3200]⟩
abbrev S1 : Shape := ⟨2, ![1, 1]⟩
abbrev S1D : Shape := ⟨2, ![1, 3200]⟩
/-- `n` rows of width 3200. -/
abbrev SR (n : ℕ) : Shape := ⟨2, ![n, 3200]⟩
/-- `n` rows of 128 lanes. -/
abbrev SL (n : ℕ) : Shape := ⟨2, ![n, 128]⟩

section
variable {n : ℕ} (gd : Vec Ideal S1 .f32) (X DY : Vec Ideal (SR n) .bf16) (G : Fin 3200 → EReal) (R1 ROW : Vec Ideal (SL n) .f32)
  (N A : Vec Ideal (SR n) .f32)

/-- The normalised input at row `r`, column `d`: the input times the row's inverse deviation. -/
def N1 (r : Fin n) (d : Fin 3200) : EReal := (X (ix2 r d) : EReal) * (R1 (ix2 r 0) : EReal)

/-- The gradient at the normalised input: the gradient times the gain. -/
def DXH (r : Fin n) (d : Fin 3200) : EReal := (A (ix2 r d) : EReal) * G d

/-- The mean of gradient times normalised input over row `r`. -/
def CI (r : Fin n) : EReal :=
  Ideal.div (∑ d : Fin 3200, DXH G A r d * N1 X R1 r d) (Ideal.ofBits .f32 0x45480000#32)

/-- The output: the residual input plus the integer down projection times the row scale and the weight scale. -/
def Y (r : Fin n) (d : Fin 3200) : EReal :=
  (X (ix2 r d) : EReal) + (N (ix2 r d) : EReal) * (ROW (ix2 r 2) : EReal) * (gd (ix2 0 0) : EReal)

/-- The gradient at the input: the residual gradient plus the norm's backward pass. -/
def DX (r : Fin n) (d : Fin 3200) : EReal :=
  (DY (ix2 r d) : EReal) + (R1 (ix2 r 0) : EReal) * (DXH G A r d - N1 X R1 r d * CI X G R1 A r)

/-- Result 3: the output. -/
def y : Vec Ideal (SR n) .bf16 := fun j => Y gd X ROW N (j 0) (j 1)

/-- Result 4: the gradient at the input. -/
def dx : Vec Ideal (SR n) .bf16 := fun j => DX X DY G R1 A (j 0) (j 1)

/-- Result 5: the row means, in every lane. -/
def ci : Vec Ideal (SL n) .f32 := fun j => CI X G R1 A (j 0)

/-- Result 6: the gradient of the outer norm's gain. -/
def dgi : Vec Ideal S1D .f32 := fun j => (∑ r : Fin n, (A (ix2 r (j 1)) : EReal) * N1 X R1 r (j 1) : EReal)

end

/-- Results 1 and 2: a weight gradient, the product of the transposed input codes and the gradient's first 8640 columns. -/
def dw (xt : Vec Ideal SDT .bf16) (dg : Vec Ideal STP .bf16) : Vec Ideal SDF .bf16 := fun j =>
  (∑ r : Fin 2048, (xt (ix2 (j 0) r) : EReal) * (dg (ix2 r (⟨j 1, by have : (j 1 : ℕ) < 8640 := (j 1).isLt; omega⟩ : Fin 8704)) : EReal) : EReal)

end Cert.DwSpec
-- ==== Proof.DwChunk.lean ====
/- The weight-gradient call, one 16-row piece of a grid point: each value the body computes for the piece, at an index. -/
module

public import proofs.«01_k».proof.Proof.Gen.DwKernelIdeal.Loops
public import proofs.«01_k».proof.Proof.Gen.DwKernelIdeal.Frame
public import proofs.«01_k».proof.Proof.DwSpec
public import Idealize.ShloMosaic.Lib.Pipeline.ValueKit
public import Idealize.ShloMosaic.Lib.Pipeline.ReadBack

@[expose] public section

set_option maxRecDepth 16384

noncomputable section

namespace Cert.DwKernelIdeal.Val

open Cert.DwKernelIdeal Cert.DwKernelIdeal.Gen
open Idealize.ShloMosaic Idealize.ShloMosaic.TcCoe Idealize.SL.Sem

section
variable (X0 : Vec Ideal S1x1 .f32) (X4 X5 : Vec Ideal S128x3200 .bf16) (X6 : Vec Ideal S1x3200 .f32) (X7 X8 : Vec Ideal S128x128 .f32)
  (X9 X10 : Vec Ideal S128x3200 .f32)

/-- The block's gain as a function of the column. -/
abbrev gam (d : Fin 3200) : EReal := X6 (ix2 0 d)

variable (o : ℕ) (s0 : ∀ a : Fin 2, (![0, 0] : Fin 2 → ℕ) a + (![1, 1] : Fin 2 → ℕ) a ≤ S1x1.size a)
  (c0 : ∀ a : Fin 2, (![o, 0] : Fin 2 → ℕ) a + (![16, 1] : Fin 2 → ℕ) a ≤ S128x128.size a)
  (c2 : ∀ a : Fin 2, (![o, 2] : Fin 2 → ℕ) a + (![16, 1] : Fin 2 → ℕ) a ≤ S128x128.size a)
  (d0 : ∀ a : Fin 2, (![o, 0] : Fin 2 → ℕ) a + (![16, 3200] : Fin 2 → ℕ) a ≤ S128x3200.size a)
  (z : 0 < (Rect.unit (s := S1x1) ![0, 0] ![1, 1] s0).shape.numel)

/-- A piece's outputs. -/
def yc : FVec Ideal S16x3200 .bf16 :=
  k0_pay10 (View.ld X0 (Rect.unit ![0, 0] ![1, 1] s0) (Shape.Idx.first z)) (View.ld X4 (Rect.unit ![o, 0] ![16, 3200] d0))
    (View.ld X8 (Rect.unit ![o, 2] ![16, 1] c2)) (View.ld X9 (Rect.unit ![o, 0] ![16, 3200] d0))

/-- A piece's row means. -/
def cc : FVec Ideal S16x128 .f32 :=
  k0_pay15 X6 (View.ld X4 (Rect.unit ![o, 0] ![16, 3200] d0)) (View.ld X7 (Rect.unit ![o, 0] ![16, 1] c0)) (View.ld X10 (Rect.unit ![o, 0] ![16, 3200] d0))

/-- A piece's input gradients. -/
def dxc : FVec Ideal S16x3200 .bf16 :=
  k0_pay16 (View.ld X7 (Rect.unit ![o, 0] ![16, 1] c0))
    (k0_pay11 (View.ld X4 (Rect.unit ![o, 0] ![16, 3200] d0)) (View.ld X7 (Rect.unit ![o, 0] ![16, 1] c0)))
    (k0_pay13 X6 (View.ld X10 (Rect.unit ![o, 0] ![16, 3200] d0)))
    (k0_pay14 X6 (View.ld X4 (Rect.unit ![o, 0] ![16, 3200] d0)) (View.ld X7 (Rect.unit ![o, 0] ![16, 1] c0)) (View.ld X10 (Rect.unit ![o, 0] ![16, 3200] d0)))
    (View.ld X5 (Rect.unit ![o, 0] ![16, 3200] d0))

theorem yc_at (x : S16x3200.Idx) (r : Fin 128) (d : Fin 3200) (hr : (r : ℕ) = o + x 0) (hd : (d : ℕ) = x 1) :
    yc X0 X4 X8 X9 o s0 c2 d0 z x = DwSpec.Y X0 X4 X8 X9 r d := by
  idx_vars x
  pointwise [yc, k0_pay9, k0_pay10, DwSpec.Y]
  blk_point [hr, hd]

theorem cc_at (x : S16x128.Idx) (r : Fin 128) (hr : (r : ℕ) = o + x 0) :
    cc X4 X6 X7 X10 o c0 d0 x = DwSpec.CI X4 (gam X6) X7 X10 r := by
  idx_vars x
  pointwise [cc, k0_pay8, k0_pay9, k0_pay11, k0_pay13, k0_pay14, k0_pay15, DwSpec.CI, DwSpec.DXH, DwSpec.N1]
  blk_point [hr]

theorem dxc_at (x : S16x3200.Idx) (r : Fin 128) (d : Fin 3200) (hr : (r : ℕ) = o + x 0) (hd : (d : ℕ) = x 1) :
    dxc X4 X5 X6 X7 X10 o c0 d0 x = DwSpec.DX X4 X5 (gam X6) X7 X10 r d := by
  idx_vars x
  obtain rfl : d = x1 := Fin.ext hd
  pointwise [dxc, k0_pay8, k0_pay9, k0_pay11, k0_pay13, k0_pay14, k0_pay16, DwSpec.DX, DwSpec.CI, DwSpec.DXH, DwSpec.N1]
  blk_point [hr, hd]

/-- One piece's step of the gain's gradient: what was there plus the piece's column sums. -/
theorem dgi_step (ho : o + 16 ≤ 128) (A : Vec Ideal S1x3200 .f32) (y : S1x3200.Idx) :
    k0_pay12 (F := Ideal) (View.ld X4 (Rect.unit ![o, 0] ![16, 3200] d0)) (View.ld X7 (Rect.unit ![o, 0] ![16, 1] c0)) (View.ld X10 (Rect.unit ![o, 0] ![16, 3200] d0)) A y
      = (A y + ∑ r : Fin 16, (X10 (ix2 (⟨o + r, by omega⟩ : Fin 128) (y 1)) : EReal) * DwSpec.N1 X4 X7 ⟨o + r, by omega⟩ (y 1) : EReal) := by
  idx_vars y
  pointwise [k0_pay12, k0_pay9, k0_pay11, DwSpec.N1]

end

/-- The column sums of one block of 128 rows. -/
def GI (X4 : Vec Ideal S128x3200 .bf16) (X7 : Vec Ideal S128x128 .f32) (X10 : Vec Ideal S128x3200 .f32) (y : S1x3200.Idx) : EReal :=
  (∑ r : Fin 128, (X10 (ix2 r (y 1)) : EReal) * DwSpec.N1 X4 X7 r (y 1) : EReal)

/-- One chunk of 640 rows of a weight gradient. -/
theorem dwc_at (A : Vec Ideal S640x2048 .bf16) (B : Vec Ideal S2048x512 .bf16) (x : S640x512.Idx) :
    k0_pay2 (F := Ideal) A B x = (∑ r : Fin 2048, A (ix2 (x 0) r) * B (ix2 r (x 1)) : EReal) := by
  idx_vars x
  pointwise [k0_pay2]

theorem dwc_at' (A : Vec Ideal S640x2048 .bf16) (B : Vec Ideal S2048x512 .bf16) (x : S640x512.Idx) :
    k0_pay3 (F := Ideal) A B x = (∑ r : Fin 2048, A (ix2 (x 0) r) * B (ix2 r (x 1)) : EReal) := by
  idx_vars x
  pointwise [k0_pay3]

/-- A sum over 128 rows, piece by piece. -/
theorem sum_pieces (F : Fin 128 → EReal) (a : EReal) :
    (a + ∑ r : Fin 16, F ⟨0 + r, by omega⟩ + ∑ r : Fin 16, F ⟨16 + r, by omega⟩ + ∑ r : Fin 16, F ⟨32 + r, by omega⟩
      + ∑ r : Fin 16, F ⟨48 + r, by omega⟩ + ∑ r : Fin 16, F ⟨64 + r, by omega⟩ + ∑ r : Fin 16, F ⟨80 + r, by omega⟩
      + ∑ r : Fin 16, F ⟨96 + r, by omega⟩ + ∑ r : Fin 16, F ⟨112 + r, by omega⟩) = a + ∑ r : Fin 128, F r := by
  rw [← show ∑ s : Fin 8, ∑ r : Fin 16, F ⟨s * 16 + r, by omega⟩ = ∑ r : Fin 128, F r from
    Fin.sum_mul_add_congr fun s k hl => rfl, Fin.sum_univ_eight]
  simp only [add_assoc]
  rfl

end Cert.DwKernelIdeal.Val

end
-- ==== Proof.DwLoop.lean ====
/- The weight-gradient call: the loop over the five row chunks of the two weight gradients, its stores read as blocks of one product. -/
module

public import proofs.«01_k».proof.Proof.DwChunk
public import Idealize.ShloMosaic.Lib.WholeRead

@[expose] public section

set_option maxRecDepth 16384

noncomputable section

namespace Cert.DwKernelIdeal.Val

open Cert.DwKernelIdeal Cert.DwKernelIdeal.Gen
open Idealize.ShloMosaic Idealize.ShloMosaic.TcCoe Idealize.SL.Sem

/-- The product of the transposed input codes and a column block of a gradient. -/
def G (X2 : Vec Ideal S3200x2048 .bf16) (X3 : Vec Ideal S2048x512 .bf16) : S3200x512.Idx → EReal :=
  fun y => (∑ r : Fin 2048, X2 (ix2 (y 0) r) * X3 (ix2 r (y 1)) : EReal)

/-- The rows a trip reads start at 640 times the trip. -/
theorem off1_at : ∀ k : Fin k0_t1_loop.trips, k0_off1 k 0 = 640 * k.val ∧ k0_off1 k 1 = 0 := by decide +kernel

/-- The rows a trip writes start there too. -/
theorem off2_at : ∀ k : Fin k0_t1_loop.trips, k0_off2 k 0 = 640 * k.val ∧ k0_off2 k 1 = 0 := by decide +kernel

/-- Two lists of blocks of one function, appended. -/
theorem piecesOf_append {s : Shape} {e : EltTy} {Val : EltTy → Type} (G : s.Idx → Val e) : ∀ {L L' : List (View.Piece Val s e)},
    View.PiecesOf G L → View.PiecesOf G L' → View.PiecesOf G (L ++ L')
  | [], _, _, h' => h'
  | _ :: _, _, h, h' => ⟨h.1, piecesOf_append G h.2 h'⟩

variable (𝒱 : Variants) (c : Dev nD) (bd : Option 𝒱.V) (i : grid0.Coords) (arg1 : Memref sig .tc .smem S1x1 .f32) (harg1 : arg1.IsWhole) (arg2 : Memref sig .tc .vmem S3200x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x3200 .bf16) (harg5 : arg5.IsWhole) (arg6 : Memref sig .tc .vmem S128x3200 .bf16) (harg6 : arg6.IsWhole) (arg7 : Memref sig .tc .vmem S1x3200 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x3200 .f32) (harg10 : arg10.IsWhole) (arg11 : Memref sig .tc .vmem S128x3200 .f32) (harg11 : arg11.IsWhole) (arg12 : Memref sig .tc .vmem S3200x512 .bf16) (harg12 : arg12.IsWhole) (arg13 : Memref sig .tc .vmem S3200x512 .bf16) (harg13 : arg13.IsWhole) (arg14 : Memref sig .tc .vmem S128x3200 .bf16) (harg14 : arg14.IsWhole) (arg15 : Memref sig .tc .vmem S128x3200 .bf16) (harg15 : arg15.IsWhole) (arg16 : Memref sig .tc .vmem S128x128 .f32) (harg16 : arg16.IsWhole) (arg17 : Memref sig .tc .vmem S1x3200 .f32) (harg17 : arg17.IsWhole)  (X2 : Vec Ideal S3200x2048 .bf16) (X3 X4 : Vec Ideal S2048x512 .bf16)

/-- One trip's store into output 1. -/
theorem trip_11 (k : Fin k0_t1_loop.trips) : View.PiecesOf (Val := Elt Ideal) (e := .bf16) (G X2 X3)
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread (Val := Elt Ideal) X2) (harg3.unread (Val := Elt Ideal) X3) (harg4.unread (Val := Elt Ideal) X4) k).1 := by
  unfold trip_k0_t1
  refine ⟨fun x => ?_, trivial⟩
  refine (dwc_at _ _ x).trans (Finset.sum_congr rfl fun r _ => congrArg₂ (· * ·) ?_ ?_)
  · refine (Memref.IsWhole.readAt_unread harg2 X2 _ _).trans (congrArg X2 (funext fun a => Fin.ext ?_))
    fin_cases a
    · show k0_off1 k 0 + 1 * (x 0).val = k0_off2 k 0 + 1 * (x 0).val
      rw [(off1_at k).1, (off2_at k).1]
    · show k0_off1 k 1 + 1 * r.val = r.val
      rw [(off1_at k).2]; omega
  · refine (Memref.IsWhole.readAt_unread harg3 X3 _ _).trans (congrArg X3 (funext fun a => Fin.ext ?_))
    fin_cases a
    · show 0 + 1 * r.val = r.val
      omega
    · show 0 + 1 * (x 1).val = k0_off2 k 1 + 1 * (x 1).val
      rw [(off2_at k).2]

/-- All trips' stores into output 1. -/
theorem pb_11 : ∀ n : ℕ, n ≤ k0_t1_loop.trips → View.PiecesOf (Val := Elt Ideal) (e := .bf16) (G X2 X3)
    (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread (Val := Elt Ideal) X2) (harg3.unread (Val := Elt Ideal) X3) (harg4.unread (Val := Elt Ideal) X4) n).1
  | 0, _ => trivial
  | n + 1, h => by
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread (Val := Elt Ideal) X2) (harg3.unread (Val := Elt Ideal) X3) (harg4.unread (Val := Elt Ideal) X4) ⟨n, h⟩]
    exact piecesOf_append _ (trip_11 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 ⟨n, h⟩) (pb_11 n (Nat.le_of_succ_le h))

/-- One trip's store into output 2. -/
theorem trip_12 (k : Fin k0_t1_loop.trips) : View.PiecesOf (Val := Elt Ideal) (e := .bf16) (G X2 X4)
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread (Val := Elt Ideal) X2) (harg3.unread (Val := Elt Ideal) X3) (harg4.unread (Val := Elt Ideal) X4) k).2.1 := by
  unfold trip_k0_t1
  refine ⟨fun x => ?_, trivial⟩
  refine (dwc_at' _ _ x).trans (Finset.sum_congr rfl fun r _ => congrArg₂ (· * ·) ?_ ?_)
  · refine (Memref.IsWhole.readAt_unread harg2 X2 _ _).trans (congrArg X2 (funext fun a => Fin.ext ?_))
    fin_cases a
    · show k0_off1 k 0 + 1 * (x 0).val = k0_off2 k 0 + 1 * (x 0).val
      rw [(off1_at k).1, (off2_at k).1]
    · show k0_off1 k 1 + 1 * r.val = r.val
      rw [(off1_at k).2]; omega
  · refine (Memref.IsWhole.readAt_unread harg4 X4 _ _).trans (congrArg X4 (funext fun a => Fin.ext ?_))
    fin_cases a
    · show 0 + 1 * r.val = r.val
      omega
    · show 0 + 1 * (x 1).val = k0_off2 k 1 + 1 * (x 1).val
      rw [(off2_at k).2]

/-- All trips' stores into output 2. -/
theorem pb_12 : ∀ n : ℕ, n ≤ k0_t1_loop.trips → View.PiecesOf (Val := Elt Ideal) (e := .bf16) (G X2 X4)
    (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread (Val := Elt Ideal) X2) (harg3.unread (Val := Elt Ideal) X3) (harg4.unread (Val := Elt Ideal) X4) n).2
  | 0, _ => trivial
  | n + 1, h => by
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread (Val := Elt Ideal) X2) (harg3.unread (Val := Elt Ideal) X3) (harg4.unread (Val := Elt Ideal) X4) ⟨n, h⟩]
    exact piecesOf_append _ (trip_12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 ⟨n, h⟩) (pb_12 n (Nat.le_of_succ_le h))

/-- The trips' stores into output 1 cover its block. -/
theorem cover_11 (y : S3200x512.Idx) : ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread (Val := Elt Ideal) X2) (harg3.unread (Val := Elt Ideal) X3) (harg4.unread (Val := Elt Ideal) X4) k0_t1_loop.trips).1, y ∈ p.1.set :=
  View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread (Val := Elt Ideal) X2) (harg3.unread (Val := Elt Ideal) X3) (harg4.unread (Val := Elt Ideal) X4) k0_t1_loop.trips).1 S640x512.size (by sl_kernel_rfl) y

/-- Output 1 after the loop is the product. -/
theorem canon_11 (y : S3200x512.Idx) : View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread (Val := Elt Ideal) X2) (harg3.unread (Val := Elt Ideal) X3) (harg4.unread (Val := Elt Ideal) X4) k0_t1_loop.trips).1 y = G X2 X3 y := by
  have h := View.canon_append_of_piecesOf (G X2 X3) [] _ (pb_11 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 k0_t1_loop.trips (Nat.le_refl _)) y
    (cover_11 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 y)
  rwa [List.append_nil] at h

/-- The trips' stores into output 2 cover its block. -/
theorem cover_12 (y : S3200x512.Idx) : ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread (Val := Elt Ideal) X2) (harg3.unread (Val := Elt Ideal) X3) (harg4.unread (Val := Elt Ideal) X4) k0_t1_loop.trips).2, y ∈ p.1.set :=
  View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread (Val := Elt Ideal) X2) (harg3.unread (Val := Elt Ideal) X3) (harg4.unread (Val := Elt Ideal) X4) k0_t1_loop.trips).2 S640x512.size (by sl_kernel_rfl) y

/-- Output 2 after the loop is the product. -/
theorem canon_12 (y : S3200x512.Idx) : View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread (Val := Elt Ideal) X2) (harg3.unread (Val := Elt Ideal) X3) (harg4.unread (Val := Elt Ideal) X4) k0_t1_loop.trips).2 y = G X2 X4 y := by
  have h := View.canon_append_of_piecesOf (G X2 X4) [] _ (pb_12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 k0_t1_loop.trips (Nat.le_refl _)) y
    (cover_12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 y)
  rwa [List.append_nil] at h

end Cert.DwKernelIdeal.Val

end
-- ==== Proof.DwBlockA.lean ====
/- The weight-gradient call at the first grid point: each output block, entry by entry, as a function of the point's input blocks. -/
module

public import proofs.«01_k».proof.Proof.DwFrame
public import proofs.«01_k».proof.Proof.DwLoop

@[expose] public section

set_option maxRecDepth 16384

noncomputable section

namespace Cert.DwKernelIdeal.Val

open Cert.DwKernelIdeal Cert.DwKernelIdeal.Gen
open Idealize.ShloMosaic Idealize.ShloMosaic.TcCoe Idealize.SL.Sem

variable (m : (ℓ : Loc nD τ sig) → Buf (Elt Ideal) ℓ) (c : Dev nD) (t : Fin cfg0.N) (h0 : t.val % 17 = 0) (h1 : t.val < 16)
include h0 h1

/-- The first weight gradient. -/
theorem b11_A (y : S3200x512.Idx) : (outsAt0 m c t.val t.isLt).1 y = G (iblk m c 1 t) (iblk m c 2 t) y := by
  rw [outsAt0_A m c t h0 h1]; frame_out
  exact canon_11 _ _ _ _ _ _ _ _ _ _ _ _ _ _ _ _ _ _ _ _ _ _ _ _ _ _ _ _ _ _ _ _ _ _ _ _ _ _ (iblk m c 1 t) (iblk m c 2 t) (iblk m c 3 t) y

/-- The second weight gradient. -/
theorem b12_A (y : S3200x512.Idx) : (outsAt0 m c t.val t.isLt).2.1 y = G (iblk m c 1 t) (iblk m c 3 t) y := by
  rw [outsAt0_A m c t h0 h1]; frame_out
  exact canon_12 _ _ _ _ _ _ _ _ _ _ _ _ _ _ _ _ _ _ _ _ _ _ _ _ _ _ _ _ _ _ _ _ _ _ _ _ _ _ (iblk m c 1 t) (iblk m c 2 t) (iblk m c 3 t) y

/-- The outputs. -/
theorem b13_A (y : S128x3200.Idx) : (outsAt0 m c t.val t.isLt).2.2.1 y = DwSpec.Y (iblk m c 0 t) (iblk m c 4 t) (iblk m c 8 t) (iblk m c 9 t) (y 0) (y 1) := by
  rw [outsAt0_A m c t h0 h1]; frame_out
  canon_tiles x h
  all_goals exact yc_at (iblk m c 0 t) (iblk m c 4 t) (iblk m c 8 t) (iblk m c 9 t) _ _ _ _ _ x _ _ (by omega) (by omega)

/-- The input gradients. -/
theorem b14_A (y : S128x3200.Idx) : (outsAt0 m c t.val t.isLt).2.2.2.1 y
    = DwSpec.DX (iblk m c 4 t) (iblk m c 5 t) (gam (iblk m c 6 t)) (iblk m c 7 t) (iblk m c 10 t) (y 0) (y 1) := by
  rw [outsAt0_A m c t h0 h1]; frame_out
  canon_tiles x h
  all_goals exact dxc_at (iblk m c 4 t) (iblk m c 5 t) (iblk m c 6 t) (iblk m c 7 t) (iblk m c 10 t) _ _ _ x _ _ (by omega) (by omega)

/-- The row means. -/
theorem b15_A (y : S128x128.Idx) : (outsAt0 m c t.val t.isLt).2.2.2.2.1 y
    = DwSpec.CI (iblk m c 4 t) (gam (iblk m c 6 t)) (iblk m c 7 t) (iblk m c 10 t) (y 0) := by
  rw [outsAt0_A m c t h0 h1]; frame_out
  canon_tiles x h
  all_goals exact cc_at (iblk m c 4 t) (iblk m c 6 t) (iblk m c 7 t) (iblk m c 10 t) _ _ _ x _ (by omega)

/-- The running column sums. -/
theorem b16_A (y : S1x3200.Idx) : (outsAt0 m c t.val t.isLt).2.2.2.2.2 y = (0 + GI (iblk m c 4 t) (iblk m c 7 t) (iblk m c 10 t) y : EReal) := by
  rw [outsAt0_A m c t h0 h1]; frame_out
  refine (dgi_step (iblk m c 4 t) (iblk m c 7 t) (iblk m c 10 t) 112 (by decide) _ _ (by omega) _ y).trans ?_
  refine (congrArg (· + _) (dgi_step (iblk m c 4 t) (iblk m c 7 t) (iblk m c 10 t) 96 (by decide) _ _ (by omega) _ y)).trans ?_
  refine (congrArg (· + _ + _) (dgi_step (iblk m c 4 t) (iblk m c 7 t) (iblk m c 10 t) 80 (by decide) _ _ (by omega) _ y)).trans ?_
  refine (congrArg (· + _ + _ + _) (dgi_step (iblk m c 4 t) (iblk m c 7 t) (iblk m c 10 t) 64 (by decide) _ _ (by omega) _ y)).trans ?_
  refine (congrArg (· + _ + _ + _ + _) (dgi_step (iblk m c 4 t) (iblk m c 7 t) (iblk m c 10 t) 48 (by decide) _ _ (by omega) _ y)).trans ?_
  refine (congrArg (· + _ + _ + _ + _ + _) (dgi_step (iblk m c 4 t) (iblk m c 7 t) (iblk m c 10 t) 32 (by decide) _ _ (by omega) _ y)).trans ?_
  refine (congrArg (· + _ + _ + _ + _ + _ + _) (dgi_step (iblk m c 4 t) (iblk m c 7 t) (iblk m c 10 t) 16 (by decide) _ _ (by omega) _ y)).trans ?_
  refine (congrArg (· + _ + _ + _ + _ + _ + _ + _) (dgi_step (iblk m c 4 t) (iblk m c 7 t) (iblk m c 10 t) 0 (by decide) _ _ (by omega) _ y)).trans ?_
  rw [show k0_pay1 (F := Ideal) y = (0 : EReal) by idx_vars y; pointwise [k0_pay1]]
  exact sum_pieces (fun r => (show EReal from iblk m c 10 t (ix2 r (y 1))) * DwSpec.N1 (iblk m c 4 t) (iblk m c 7 t) r (y 1)) _

end Cert.DwKernelIdeal.Val

end
-- ==== Proof.DwBlockB.lean ====
/- The weight-gradient call at a middle grid point: each output block, entry by entry, as a function of the point's input blocks. -/
module

public import proofs.«01_k».proof.Proof.DwFrame
public import proofs.«01_k».proof.Proof.DwLoop

@[expose] public section

set_option maxRecDepth 16384

noncomputable section

namespace Cert.DwKernelIdeal.Val

open Cert.DwKernelIdeal Cert.DwKernelIdeal.Gen
open Idealize.ShloMosaic Idealize.ShloMosaic.TcCoe Idealize.SL.Sem

variable (m : (ℓ : Loc nD τ sig) → Buf (Elt Ideal) ℓ) (c : Dev nD) (t : Fin cfg0.N) (h0 : ¬t.val % 17 = 0) (h1 : t.val < 16)
include h0 h1

/-- The first weight gradient. -/
theorem b11_B (y : S3200x512.Idx) : (outsAt0 m c t.val t.isLt).1 y = G (iblk m c 1 t) (iblk m c 2 t) y := by
  rw [outsAt0_B m c t h0 h1]; frame_out
  exact canon_11 _ _ _ _ _ _ _ _ _ _ _ _ _ _ _ _ _ _ _ _ _ _ _ _ _ _ _ _ _ _ _ _ _ _ _ _ _ _ (iblk m c 1 t) (iblk m c 2 t) (iblk m c 3 t) y

/-- The second weight gradient. -/
theorem b12_B (y : S3200x512.Idx) : (outsAt0 m c t.val t.isLt).2.1 y = G (iblk m c 1 t) (iblk m c 3 t) y := by
  rw [outsAt0_B m c t h0 h1]; frame_out
  exact canon_12 _ _ _ _ _ _ _ _ _ _ _ _ _ _ _ _ _ _ _ _ _ _ _ _ _ _ _ _ _ _ _ _ _ _ _ _ _ _ (iblk m c 1 t) (iblk m c 2 t) (iblk m c 3 t) y

/-- The outputs. -/
theorem b13_B (y : S128x3200.Idx) : (outsAt0 m c t.val t.isLt).2.2.1 y = DwSpec.Y (iblk m c 0 t) (iblk m c 4 t) (iblk m c 8 t) (iblk m c 9 t) (y 0) (y 1) := by
  rw [outsAt0_B m c t h0 h1]; frame_out
  canon_tiles x h
  all_goals exact yc_at (iblk m c 0 t) (iblk m c 4 t) (iblk m c 8 t) (iblk m c 9 t) _ _ _ _ _ x _ _ (by omega) (by omega)

/-- The input gradients. -/
theorem b14_B (y : S128x3200.Idx) : (outsAt0 m c t.val t.isLt).2.2.2.1 y
    = DwSpec.DX (iblk m c 4 t) (iblk m c 5 t) (gam (iblk m c 6 t)) (iblk m c 7 t) (iblk m c 10 t) (y 0) (y 1) := by
  rw [outsAt0_B m c t h0 h1]; frame_out
  canon_tiles x h
  all_goals exact dxc_at (iblk m c 4 t) (iblk m c 5 t) (iblk m c 6 t) (iblk m c 7 t) (iblk m c 10 t) _ _ _ x _ _ (by omega) (by omega)

/-- The row means. -/
theorem b15_B (y : S128x128.Idx) : (outsAt0 m c t.val t.isLt).2.2.2.2.1 y
    = DwSpec.CI (iblk m c 4 t) (gam (iblk m c 6 t)) (iblk m c 7 t) (iblk m c 10 t) (y 0) := by
  rw [outsAt0_B m c t h0 h1]; frame_out
  canon_tiles x h
  all_goals exact cc_at (iblk m c 4 t) (iblk m c 6 t) (iblk m c 7 t) (iblk m c 10 t) _ _ _ x _ (by omega)

/-- The running column sums. -/
theorem b16_B (y : S1x3200.Idx) : (outsAt0 m c t.val t.isLt).2.2.2.2.2 y = ((outsAt0 m c (t.val - 1) (by have := t.isLt; omega)).2.2.2.2.2 y + GI (iblk m c 4 t) (iblk m c 7 t) (iblk m c 10 t) y : EReal) := by
  rw [outsAt0_B m c t h0 h1]; frame_out
  refine (dgi_step (iblk m c 4 t) (iblk m c 7 t) (iblk m c 10 t) 112 (by decide) _ _ (by omega) _ y).trans ?_
  refine (congrArg (· + _) (dgi_step (iblk m c 4 t) (iblk m c 7 t) (iblk m c 10 t) 96 (by decide) _ _ (by omega) _ y)).trans ?_
  refine (congrArg (· + _ + _) (dgi_step (iblk m c 4 t) (iblk m c 7 t) (iblk m c 10 t) 80 (by decide) _ _ (by omega) _ y)).trans ?_
  refine (congrArg (· + _ + _ + _) (dgi_step (iblk m c 4 t) (iblk m c 7 t) (iblk m c 10 t) 64 (by decide) _ _ (by omega) _ y)).trans ?_
  refine (congrArg (· + _ + _ + _ + _) (dgi_step (iblk m c 4 t) (iblk m c 7 t) (iblk m c 10 t) 48 (by decide) _ _ (by omega) _ y)).trans ?_
  refine (congrArg (· + _ + _ + _ + _ + _) (dgi_step (iblk m c 4 t) (iblk m c 7 t) (iblk m c 10 t) 32 (by decide) _ _ (by omega) _ y)).trans ?_
  refine (congrArg (· + _ + _ + _ + _ + _ + _) (dgi_step (iblk m c 4 t) (iblk m c 7 t) (iblk m c 10 t) 16 (by decide) _ _ (by omega) _ y)).trans ?_
  refine (congrArg (· + _ + _ + _ + _ + _ + _ + _) (dgi_step (iblk m c 4 t) (iblk m c 7 t) (iblk m c 10 t) 0 (by decide) _ _ (by omega) _ y)).trans ?_
  exact sum_pieces (fun r => (show EReal from iblk m c 10 t (ix2 r (y 1))) * DwSpec.N1 (iblk m c 4 t) (iblk m c 7 t) r (y 1)) _

end Cert.DwKernelIdeal.Val

end
-- ==== Proof.DwBlockC.lean ====
/- The weight-gradient call at the last grid point: each output block, entry by entry, as a function of the point's input blocks. -/
module

public import proofs.«01_k».proof.Proof.DwFrame
public import proofs.«01_k».proof.Proof.DwLoop

@[expose] public section

set_option maxRecDepth 16384

noncomputable section

namespace Cert.DwKernelIdeal.Val

open Cert.DwKernelIdeal Cert.DwKernelIdeal.Gen
open Idealize.ShloMosaic Idealize.ShloMosaic.TcCoe Idealize.SL.Sem

variable (m : (ℓ : Loc nD τ sig) → Buf (Elt Ideal) ℓ) (c : Dev nD) (t : Fin cfg0.N) (h0 : ¬t.val % 17 = 0) (h1 : ¬t.val < 16)
include h0 h1

/-- The first weight gradient. -/
theorem b11_C (y : S3200x512.Idx) : (outsAt0 m c t.val t.isLt).1 y = G (iblk m c 1 t) (iblk m c 2 t) y := by
  rw [outsAt0_C m c t h0 h1]; frame_out
  exact canon_11 _ _ _ _ _ _ _ _ _ _ _ _ _ _ _ _ _ _ _ _ _ _ _ _ _ _ _ _ _ _ _ _ _ _ _ _ _ _ (iblk m c 1 t) (iblk m c 2 t) (iblk m c 3 t) y

/-- The second weight gradient. -/
theorem b12_C (y : S3200x512.Idx) : (outsAt0 m c t.val t.isLt).2.1 y = G (iblk m c 1 t) (iblk m c 3 t) y := by
  rw [outsAt0_C m c t h0 h1]; frame_out
  exact canon_12 _ _ _ _ _ _ _ _ _ _ _ _ _ _ _ _ _ _ _ _ _ _ _ _ _ _ _ _ _ _ _ _ _ _ _ _ _ _ (iblk m c 1 t) (iblk m c 2 t) (iblk m c 3 t) y

/-- The outputs: what the point before left. -/
theorem b13_C : (outsAt0 m c t.val t.isLt).2.2.1 = (outsAt0 m c (t.val - 1) (by have := t.isLt; omega)).2.2.1 := by
  rw [outsAt0_C m c t h0 h1]; rfl

/-- The input gradients: what the point before left. -/
theorem b14_C : (outsAt0 m c t.val t.isLt).2.2.2.1 = (outsAt0 m c (t.val - 1) (by have := t.isLt; omega)).2.2.2.1 := by
  rw [outsAt0_C m c t h0 h1]; rfl

/-- The row means: what the point before left. -/
theorem b15_C : (outsAt0 m c t.val t.isLt).2.2.2.2.1 = (outsAt0 m c (t.val - 1) (by have := t.isLt; omega)).2.2.2.2.1 := by
  rw [outsAt0_C m c t h0 h1]; rfl

/-- The column sums: what the point before left. -/
theorem b16_C : (outsAt0 m c t.val t.isLt).2.2.2.2.2 = (outsAt0 m c (t.val - 1) (by have := t.isLt; omega)).2.2.2.2.2 := by
  rw [outsAt0_C m c t h0 h1]; rfl

end Cert.DwKernelIdeal.Val

end
-- ==== Proof.DwFinal.lean ====
/- The kernel of the weight-gradient call: each of its six result arrays after the run is the function of DwSpec. -/
module

public import proofs.«01_k».proof.Proof.DwBlockA
public import proofs.«01_k».proof.Proof.DwBlockB
public import proofs.«01_k».proof.Proof.DwBlockC

@[expose] public section

set_option maxRecDepth 16384

noncomputable section

namespace Cert.DwKernelIdeal.Val

open Cert.DwKernelIdeal Cert.DwKernelIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at a grid point: the last two points hold the same rows. -/
theorem idx : ∀ t : Fin cfg0.N, win0_0.index t = ![0, 0] ∧ win0_1.index t = ![0, 0] ∧ win0_2.index t = ![0, t.val]
    ∧ win0_3.index t = ![0, t.val] ∧ win0_4.index t = ![min t.val 15, 0] ∧ win0_5.index t = ![min t.val 15, 0] ∧ win0_6.index t = ![0, 0]
    ∧ win0_7.index t = ![min t.val 15, 0] ∧ win0_8.index t = ![min t.val 15, 0] ∧ win0_9.index t = ![min t.val 15, 0] ∧ win0_10.index t = ![min t.val 15, 0]
    ∧ win0_11.index t = ![0, t.val] ∧ win0_12.index t = ![0, t.val] ∧ win0_13.index t = ![min t.val 15, 0] ∧ win0_14.index t = ![min t.val 15, 0]
    ∧ win0_15.index t = ![min t.val 15, 0] ∧ win0_16.index t = ![0, 0] :=
  (by decide +kernel : ∀ t : Fin grid0.N, _)

/-- The gain the host hands to the call, as a row. -/
theorem V_v0 (c : Dev nD) (k : Fin 3200) : V m c main_v0 (ix2 0 k) = m ((c : Thread nD τ).loc main_arg6) (ix1 k) := by
  unfold V
  entry_read
  pointwise

section
variable (c : Dev nD) (t : Fin cfg0.N)

/-- The gain as a function of the column. -/
def gain (c : Dev nD) (d : Fin 3200) : EReal := m ((c : Thread nD τ).loc main_arg6) (ix1 d)

theorem gam_in : gam (iblk m c 6 t) = gain m c := by
  funext d
  show iblk m c 6 t (ix2 0 d) = m ((c : Thread nD τ).loc main_arg6) (ix1 d)
  exact Eq.trans (b := V m c main_v0 (ix2 0 d)) (by blk_ext [iblk, idx t]) (V_v0 m c d)

variable (r : Fin 128) (d : Fin 3200) (R : Fin 2048) (hR : (R : ℕ) = 128 * min t.val 15 + r)
include hR

theorem x_in : iblk m c 4 t (ix2 r d) = m ((c : Thread nD τ).loc main_arg4) (ix2 R d) := by
  blk_ext [iblk, V, idx t, hR]

theorem dy_in : iblk m c 5 t (ix2 r d) = m ((c : Thread nD τ).loc main_arg5) (ix2 R d) := by
  blk_ext [iblk, V, idx t, hR]

theorem n_in : iblk m c 9 t (ix2 r d) = m ((c : Thread nD τ).loc main_arg9) (ix2 R d) := by
  blk_ext [iblk, V, idx t, hR]

theorem a_in : iblk m c 10 t (ix2 r d) = m ((c : Thread nD τ).loc main_arg10) (ix2 R d) := by
  blk_ext [iblk, V, idx t, hR]

theorem r1_in (l : Fin 128) : iblk m c 7 t (ix2 r l) = m ((c : Thread nD τ).loc main_arg7) (ix2 R l) := by
  blk_ext [iblk, V, idx t, hR]

theorem row_in (l : Fin 128) : iblk m c 8 t (ix2 r l) = m ((c : Thread nD τ).loc main_arg8) (ix2 R l) := by
  blk_ext [iblk, V, idx t, hR]

theorem N1_in : DwSpec.N1 (iblk m c 4 t) (iblk m c 7 t) r d = DwSpec.N1 (m ((c : Thread nD τ).loc main_arg4)) (m ((c : Thread nD τ).loc main_arg7)) R d := by
  unfold DwSpec.N1
  rw [x_in m c t r d R hR, r1_in m c t r R hR 0]

theorem DXH_in : DwSpec.DXH (gam (iblk m c 6 t)) (iblk m c 10 t) r d = DwSpec.DXH (gain m c) (m ((c : Thread nD τ).loc main_arg10)) R d := by
  unfold DwSpec.DXH
  rw [a_in m c t r d R hR, gam_in]

theorem CI_in : DwSpec.CI (iblk m c 4 t) (gam (iblk m c 6 t)) (iblk m c 7 t) (iblk m c 10 t) r = DwSpec.CI (m ((c : Thread nD τ).loc main_arg4)) (gain m c) (m ((c : Thread nD τ).loc main_arg7)) (m ((c : Thread nD τ).loc main_arg10)) R := by
  unfold DwSpec.CI
  rw [Finset.sum_congr rfl fun d _ => by rw [DXH_in m c t r d R hR, N1_in m c t r d R hR]]

theorem DX_in : DwSpec.DX (iblk m c 4 t) (iblk m c 5 t) (gam (iblk m c 6 t)) (iblk m c 7 t) (iblk m c 10 t) r d
    = DwSpec.DX (m ((c : Thread nD τ).loc main_arg4)) (m ((c : Thread nD τ).loc main_arg5)) (gain m c) (m ((c : Thread nD τ).loc main_arg7)) (m ((c : Thread nD τ).loc main_arg10)) R d := by
  unfold DwSpec.DX
  rw [DXH_in m c t r d R hR, N1_in m c t r d R hR, CI_in m c t r R hR, dy_in m c t r d R hR, r1_in m c t r R hR 0]

theorem Y_in : DwSpec.Y (iblk m c 0 t) (iblk m c 4 t) (iblk m c 8 t) (iblk m c 9 t) r d = DwSpec.Y (m ((c : Thread nD τ).loc main_arg0)) (m ((c : Thread nD τ).loc main_arg4)) (m ((c : Thread nD τ).loc main_arg8)) (m ((c : Thread nD τ).loc main_arg9)) R d := by
  unfold DwSpec.Y
  rw [x_in m c t r d R hR, n_in m c t r d R hR, row_in m c t r R hR 2,
    (by blk_ext [iblk, V, idx t] : iblk m c 0 t (ix2 0 0) = m ((c : Thread nD τ).loc main_arg0) (ix2 0 0))]

end

section
variable (c : Dev nD) (t : Fin cfg0.N)

/-- Weight gradient 1, at any grid point. -/
theorem b11 (y : S3200x512.Idx) : (outsAt0 m c t.val t.isLt).1 y = G (iblk m c 1 t) (iblk m c 2 t) y := by
  by_cases h0 : t.val % 17 = 0
  · exact b11_A m c t h0 (by have : t.val < 17 := t.isLt; omega) y
  · by_cases h1 : t.val < 16
    · exact b11_B m c t h0 h1 y
    · exact b11_C m c t h0 h1 y

theorem g11_at (j : DwSpec.SDF.Idx) (a : Fin 3200) (b : Fin 512) (h0 : (j 0 : ℕ) = a) (h1 : (j 1 : ℕ) = 512 * t.val + b) :
    G (iblk m c 1 t) (iblk m c 2 t) (ix2 a b) = DwSpec.dw (m ((c : Thread nD τ).loc main_arg1)) (m ((c : Thread nD τ).loc main_arg2)) j := by
  obtain rfl : a = j 0 := Fin.ext h0.symm
  have hj : (j 1 : ℕ) < 8640 := (j 1).isLt
  refine Finset.sum_congr rfl fun r _ => congrArg₂ (· * ·) ?_ ?_
  · exact (by blk_ext [iblk, V, idx t] : iblk m c 1 t (ix2 (j 0) r) = m ((c : Thread nD τ).loc main_arg1) (ix2 (j 0) r))
  · exact (by blk_ext [iblk, V, idx t, h1] : iblk m c 2 t (ix2 r b) = m ((c : Thread nD τ).loc main_arg2) (ix2 r (⟨j 1, by omega⟩ : Fin 8704)))

/-- Weight gradient 2, at any grid point. -/
theorem b12 (y : S3200x512.Idx) : (outsAt0 m c t.val t.isLt).2.1 y = G (iblk m c 1 t) (iblk m c 3 t) y := by
  by_cases h0 : t.val % 17 = 0
  · exact b12_A m c t h0 (by have : t.val < 17 := t.isLt; omega) y
  · by_cases h1 : t.val < 16
    · exact b12_B m c t h0 h1 y
    · exact b12_C m c t h0 h1 y

theorem g12_at (j : DwSpec.SDF.Idx) (a : Fin 3200) (b : Fin 512) (h0 : (j 0 : ℕ) = a) (h1 : (j 1 : ℕ) = 512 * t.val + b) :
    G (iblk m c 1 t) (iblk m c 3 t) (ix2 a b) = DwSpec.dw (m ((c : Thread nD τ).loc main_arg1)) (m ((c : Thread nD τ).loc main_arg3)) j := by
  obtain rfl : a = j 0 := Fin.ext h0.symm
  have hj : (j 1 : ℕ) < 8640 := (j 1).isLt
  refine Finset.sum_congr rfl fun r _ => congrArg₂ (· * ·) ?_ ?_
  · exact (by blk_ext [iblk, V, idx t] : iblk m c 1 t (ix2 (j 0) r) = m ((c : Thread nD τ).loc main_arg1) (ix2 (j 0) r))
  · exact (by blk_ext [iblk, V, idx t, h1] : iblk m c 3 t (ix2 r b) = m ((c : Thread nD τ).loc main_arg3) (ix2 r (⟨j 1, by omega⟩ : Fin 8704)))

/-- Output 3 before the last grid point: the rows of the point's block. -/
theorem e13 (ht : t.val < 16) (y : S128x3200.Idx) (j : (DwSpec.SR 2048).Idx) (h0 : (j 0 : ℕ) = 128 * min t.val 15 + y 0) (h1 : (j 1 : ℕ) = y 1) :
    (outsAt0 m c t.val t.isLt).2.2.1 y = DwSpec.y (m ((c : Thread nD τ).loc main_arg0)) (m ((c : Thread nD τ).loc main_arg4)) (m ((c : Thread nD τ).loc main_arg8)) (m ((c : Thread nD τ).loc main_arg9)) j := by
  have e : y 1 = j 1 := Fin.ext h1.symm
  by_cases h : t.val % 17 = 0
  · exact (b13_A m c t h ht y).trans ((Y_in m c t (y 0) (y 1) (j 0) h0).trans (by rw [e]; rfl))
  · exact (b13_B m c t h ht y).trans ((Y_in m c t (y 0) (y 1) (j 0) h0).trans (by rw [e]; rfl))

/-- Output 3 at any grid point: the last one keeps what the point before left. -/
theorem f13 (y : S128x3200.Idx) (j : (DwSpec.SR 2048).Idx) (h0 : (j 0 : ℕ) = 128 * min t.val 15 + y 0) (h1 : (j 1 : ℕ) = y 1) :
    (outsAt0 m c t.val t.isLt).2.2.1 y = DwSpec.y (m ((c : Thread nD τ).loc main_arg0)) (m ((c : Thread nD τ).loc main_arg4)) (m ((c : Thread nD τ).loc main_arg8)) (m ((c : Thread nD τ).loc main_arg9)) j := by
  have hN : t.val < 17 := t.isLt
  by_cases ht : t.val < 16
  · exact e13 m c t ht y j h0 h1
  · rw [b13_C m c t (by omega) ht]
    exact e13 m c ⟨t.val - 1, by have := t.isLt; omega⟩ (by show t.val - 1 < 16; omega) y j (by show _ = 128 * min (t.val - 1) 15 + _; omega) h1

/-- Output 4 before the last grid point: the rows of the point's block. -/
theorem e14 (ht : t.val < 16) (y : S128x3200.Idx) (j : (DwSpec.SR 2048).Idx) (h0 : (j 0 : ℕ) = 128 * min t.val 15 + y 0) (h1 : (j 1 : ℕ) = y 1) :
    (outsAt0 m c t.val t.isLt).2.2.2.1 y = DwSpec.dx (m ((c : Thread nD τ).loc main_arg4)) (m ((c : Thread nD τ).loc main_arg5)) (gain m c) (m ((c : Thread nD τ).loc main_arg7)) (m ((c : Thread nD τ).loc main_arg10)) j := by
  have e : y 1 = j 1 := Fin.ext h1.symm
  by_cases h : t.val % 17 = 0
  · exact (b14_A m c t h ht y).trans ((DX_in m c t (y 0) (y 1) (j 0) h0).trans (by rw [e]; rfl))
  · exact (b14_B m c t h ht y).trans ((DX_in m c t (y 0) (y 1) (j 0) h0).trans (by rw [e]; rfl))

/-- Output 4 at any grid point: the last one keeps what the point before left. -/
theorem f14 (y : S128x3200.Idx) (j : (DwSpec.SR 2048).Idx) (h0 : (j 0 : ℕ) = 128 * min t.val 15 + y 0) (h1 : (j 1 : ℕ) = y 1) :
    (outsAt0 m c t.val t.isLt).2.2.2.1 y = DwSpec.dx (m ((c : Thread nD τ).loc main_arg4)) (m ((c : Thread nD τ).loc main_arg5)) (gain m c) (m ((c : Thread nD τ).loc main_arg7)) (m ((c : Thread nD τ).loc main_arg10)) j := by
  have hN : t.val < 17 := t.isLt
  by_cases ht : t.val < 16
  · exact e14 m c t ht y j h0 h1
  · rw [b14_C m c t (by omega) ht]
    exact e14 m c ⟨t.val - 1, by have := t.isLt; omega⟩ (by show t.val - 1 < 16; omega) y j (by show _ = 128 * min (t.val - 1) 15 + _; omega) h1

/-- Output 5 before the last grid point: the rows of the point's block. -/
theorem e15 (ht : t.val < 16) (y : S128x128.Idx) (j : (DwSpec.SL 2048).Idx) (h0 : (j 0 : ℕ) = 128 * min t.val 15 + y 0) :
    (outsAt0 m c t.val t.isLt).2.2.2.2.1 y = DwSpec.ci (m ((c : Thread nD τ).loc main_arg4)) (gain m c) (m ((c : Thread nD τ).loc main_arg7)) (m ((c : Thread nD τ).loc main_arg10)) j := by
  by_cases h : t.val % 17 = 0
  · exact (b15_A m c t h ht y).trans ((CI_in m c t (y 0) (j 0) h0))
  · exact (b15_B m c t h ht y).trans ((CI_in m c t (y 0) (j 0) h0))

/-- Output 5 at any grid point: the last one keeps what the point before left. -/
theorem f15 (y : S128x128.Idx) (j : (DwSpec.SL 2048).Idx) (h0 : (j 0 : ℕ) = 128 * min t.val 15 + y 0) :
    (outsAt0 m c t.val t.isLt).2.2.2.2.1 y = DwSpec.ci (m ((c : Thread nD τ).loc main_arg4)) (gain m c) (m ((c : Thread nD τ).loc main_arg7)) (m ((c : Thread nD τ).loc main_arg10)) j := by
  have hN : t.val < 17 := t.isLt
  by_cases ht : t.val < 16
  · exact e15 m c t ht y j h0
  · rw [b15_C m c t (by omega) ht]
    exact e15 m c ⟨t.val - 1, by have := t.isLt; omega⟩ (by show t.val - 1 < 16; omega) y j (by show _ = 128 * min (t.val - 1) 15 + _; omega)

end

/-- What the grid point at position `n` adds to the column sums. -/
def giT (c : Dev nD) (y : S1x3200.Idx) (n : ℕ) : EReal :=
  if h : n < cfg0.N then GI (iblk m c 4 ⟨n, h⟩) (iblk m c 7 ⟨n, h⟩) (iblk m c 10 ⟨n, h⟩) y else 0

theorem giT_eq (c : Dev nD) (y : S1x3200.Idx) (n : ℕ) (h : n < cfg0.N) :
    giT m c y n = GI (iblk m c 4 ⟨n, h⟩) (iblk m c 7 ⟨n, h⟩) (iblk m c 10 ⟨n, h⟩) y := dif_pos h

/-- The column sums after each of the first 16 points. -/
theorem gi_run (c : Dev nD) (y : S1x3200.Idx) : ∀ (n : ℕ) (hn : n < cfg0.N), n < 16 →
    (outsAt0 m c n hn).2.2.2.2.2 y = (∑ s ∈ Finset.range (n + 1), giT m c y s : EReal)
  | 0, hn, h => by
    refine (b16_A m c ⟨0, hn⟩ (by rfl) h y).trans ?_
    rw [Finset.sum_range_one, zero_add]
    exact (giT_eq m c y 0 hn).symm
  | n + 1, hn, h => by
    refine (b16_B m c ⟨n + 1, hn⟩ (by show ¬ (n + 1) % 17 = 0; omega) h y).trans ?_
    rw [Finset.sum_range_succ]
    exact congrArg₂ (· + ·) (gi_run c y n (by omega) (by omega)) (giT_eq m c y (n + 1) hn).symm

/-- The column sums at the end: the sums over all rows. -/
theorem gi_end (c : Dev nD) (t : Fin cfg0.N) (ht : t.val = 16) (y : S1x3200.Idx) :
    (outsAt0 m c t.val t.isLt).2.2.2.2.2 y = DwSpec.dgi (m ((c : Thread nD τ).loc main_arg4)) (m ((c : Thread nD τ).loc main_arg7)) (m ((c : Thread nD τ).loc main_arg10)) y := by
  rw [b16_C m c t (by omega) (by omega)]
  refine (gi_run m c y (t.val - 1) _ (by omega)).trans ?_
  rw [show t.val - 1 + 1 = 16 by omega, Finset.sum_range]
  refine Eq.trans (Finset.sum_congr rfl fun (s : Fin 16) _ => giT_eq m c y s.val (show s.val < 17 by omega)) ?_
  refine Fin.sum_mul_add_congr (fun s k hl => ?_) rfl
  have hR : ((⟨s.val * 128 + k.val, hl⟩ : Fin 2048) : ℕ) = 128 * min s.val 15 + k.val := by show s.val * 128 + k.val = _; omega
  exact congrArg₂ (· * ·) (a_in m c _ k (y 1) _ hR) (N1_in m c _ k (y 1) _ hR)

theorem final11 (c : Dev nD) : (dats m 0 c).arrAt 11 (cfgs 0).N = DwSpec.dw (m ((c : Thread nD τ).loc main_arg1)) (m ((c : Thread nD τ).loc main_arg2)) := by
  refine (dats m 0 c).arrAt_eq_of_covers 11 _ (by decide +kernel) fun t hf y => ?_
  blk_simp
  rw [after0_11, b11]
  exact g11_at m c t _ _ _ (by blk_simp [idx t]; try rfl) (by blk_simp [idx t]; exact congrArg (· + _) (Nat.mul_comm _ _))

theorem final12 (c : Dev nD) : (dats m 0 c).arrAt 12 (cfgs 0).N = DwSpec.dw (m ((c : Thread nD τ).loc main_arg1)) (m ((c : Thread nD τ).loc main_arg3)) := by
  refine (dats m 0 c).arrAt_eq_of_covers 12 _ (by decide +kernel) fun t hf y => ?_
  blk_simp
  rw [after0_12, b12]
  exact g12_at m c t _ _ _ (by blk_simp [idx t]; try rfl) (by blk_simp [idx t]; exact congrArg (· + _) (Nat.mul_comm _ _))

theorem final13 (c : Dev nD) : (dats m 0 c).arrAt 13 (cfgs 0).N = DwSpec.y (m ((c : Thread nD τ).loc main_arg0)) (m ((c : Thread nD τ).loc main_arg4)) (m ((c : Thread nD τ).loc main_arg8)) (m ((c : Thread nD τ).loc main_arg9)) := by
  refine (dats m 0 c).arrAt_eq_of_covers 13 _ (by decide +kernel) fun t hf y => ?_
  blk_simp
  rw [after0_13]
  exact f13 m c t _ _ (by blk_simp [idx t]; omega) (by blk_simp [idx t]; try rfl)

theorem final14 (c : Dev nD) : (dats m 0 c).arrAt 14 (cfgs 0).N = DwSpec.dx (m ((c : Thread nD τ).loc main_arg4)) (m ((c : Thread nD τ).loc main_arg5)) (gain m c) (m ((c : Thread nD τ).loc main_arg7)) (m ((c : Thread nD τ).loc main_arg10)) := by
  refine (dats m 0 c).arrAt_eq_of_covers 14 _ (by decide +kernel) fun t hf y => ?_
  blk_simp
  rw [after0_14]
  exact f14 m c t _ _ (by blk_simp [idx t]; omega) (by blk_simp [idx t]; try rfl)

theorem final15 (c : Dev nD) : (dats m 0 c).arrAt 15 (cfgs 0).N = DwSpec.ci (m ((c : Thread nD τ).loc main_arg4)) (gain m c) (m ((c : Thread nD τ).loc main_arg7)) (m ((c : Thread nD τ).loc main_arg10)) := by
  refine (dats m 0 c).arrAt_eq_of_covers 15 _ (by decide +kernel) fun t hf y => ?_
  blk_simp
  rw [after0_15]
  exact f15 m c t _ _ (by blk_simp [idx t]; omega)

theorem final16 (c : Dev nD) : (dats m 0 c).arrAt 16 (cfgs 0).N = DwSpec.dgi (m ((c : Thread nD τ).loc main_arg4)) (m ((c : Thread nD τ).loc main_arg7)) (m ((c : Thread nD τ).loc main_arg10)) := by
  refine (dats m 0 c).arrAt_eq_of_covers 16 _ (by decide +kernel) fun t hf y => ?_
  blk_simp
  rw [after0_16]
  generalize hj : (((cfg0.win 16).blk t).view.emb y) = j
  obtain rfl : j = y := by rw [← hj]; blk_ext [idx t]
  exact gi_end m c t ((by decide +kernel : ∀ t : Fin cfg0.N, (cfg0.win 16).flush t = true → t.val = 16) t hf) j

end Cert.DwKernelIdeal.Val

end
-- ==== Proof.DwRef.lean ====
/- The reference of the weight-gradient call: its six results are the functions of DwSpec. -/
module

public import proofs.«01_k».proof.Defs
public import proofs.«01_k».proof.Proof.Gen.DwReferenceIdeal
public import proofs.«01_k».proof.Proof.DwSpec
public import Idealize.ShloMosaic.Lib.Claim
public import Idealize.ShloMosaic.Lib.Quiescent
public import Idealize.ShloMosaic.Lib.Pipeline.ValueKit

@[expose] public section

set_option maxRecDepth 16384

noncomputable section

namespace Cert.DwReferenceIdeal.Val

open Cert.DwReferenceIdeal Cert.DwReferenceIdeal.Gen
open Idealize.ShloMosaic Idealize.ShloMosaic.TcCoe Idealize.SL.Sem

variable (m : (ℓ : Loc nD τ sig) → Buf (Elt Ideal) ℓ) (ρ : Dev nD → PrngReg)

set_option maxHeartbeats 1600000 in
/-- Every execution of the reference ends with the six results and the arguments unchanged. -/
theorem run : θ_run (defs (F := Ideal)) (onTc (τ := τ) (main (F := Ideal))) ⟨m, fun _ => 0, ρ⟩ (fun r => ∀ c : Dev nD,
    r.2.mem ((c.tc : Thread nD τ).loc main_v5) = DwSpec.dw (m ((c : Thread nD τ).loc main_arg1)) (m ((c : Thread nD τ).loc main_arg2))
    ∧ r.2.mem ((c.tc : Thread nD τ).loc main_v8) = DwSpec.dw (m ((c : Thread nD τ).loc main_arg1)) (m ((c : Thread nD τ).loc main_arg3))
    ∧ r.2.mem ((c.tc : Thread nD τ).loc main_v15) = DwSpec.y (m ((c : Thread nD τ).loc main_arg0)) (m ((c : Thread nD τ).loc main_arg4)) (m ((c : Thread nD τ).loc main_arg8)) (m ((c : Thread nD τ).loc main_arg9))
    ∧ r.2.mem ((c.tc : Thread nD τ).loc main_v35) = DwSpec.dx (m ((c : Thread nD τ).loc main_arg4)) (m ((c : Thread nD τ).loc main_arg5)) (fun d => (m ((c : Thread nD τ).loc main_arg6) (ix1 d) : EReal)) (m ((c : Thread nD τ).loc main_arg7)) (m ((c : Thread nD τ).loc main_arg10))
    ∧ r.2.mem ((c.tc : Thread nD τ).loc main_v37) = DwSpec.ci (m ((c : Thread nD τ).loc main_arg4)) (fun d => (m ((c : Thread nD τ).loc main_arg6) (ix1 d) : EReal)) (m ((c : Thread nD τ).loc main_arg7)) (m ((c : Thread nD τ).loc main_arg10))
    ∧ r.2.mem ((c.tc : Thread nD τ).loc main_v38) = DwSpec.dgi (m ((c : Thread nD τ).loc main_arg4)) (m ((c : Thread nD τ).loc main_arg7)) (m ((c : Thread nD τ).loc main_arg10))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) := by
  hlo_run
  · funext j; idx_vars j; pointwise [DwSpec.dw]
  · funext j; idx_vars j; pointwise [DwSpec.dw]
  · funext j; idx_vars j; pointwise [DwSpec.y, DwSpec.Y]
  · funext j; idx_vars j; pointwise [DwSpec.dx, DwSpec.DX, DwSpec.CI, DwSpec.DXH, DwSpec.N1]
  · funext j; idx_vars j; pointwise [DwSpec.ci, DwSpec.CI, DwSpec.DXH, DwSpec.N1]
  · funext j; idx_vars j; pointwise [DwSpec.dgi, DwSpec.N1]

/-- The arguments are unchanged and no semaphore is left held. -/
theorem frame : Cert.quiescent_DwReferenceIdeal (hDwReferenceIdeal := facts) := by
  intro m g _
  hlo_run
  · exact fun _ => ⟨trivial, trivial, trivial, trivial, trivial, trivial, trivial, trivial, trivial, trivial, trivial⟩
  · exact sem_eq_zero_of_no_sems (by decide) _

end Cert.DwReferenceIdeal.Val

end
-- ==== Proof.DxnSpec.lean ====
/- The mathematics of the dxn call, at coordinates: what one entry of each of its three results is, as a function of
   the ten arguments. Both programs are shown to compute these functions. -/
module

public import proofs.«01_k».proof.Proof.ClipInt

@[expose] public section

set_option maxRecDepth 16384

noncomputable section

namespace Cert.DxnSpec

open Idealize.ShloMosaic Idealize.ShloMosaic.TcCoe

/-- The rectified gate value `relu(ig · sx · gam_g)`. -/
def rg (gg sx : EReal) (ig : BitVec 16) : EReal := max ((ig.toInt : ℝ) * sx * gg) 0

/-- The up value `iu · sx · gam_u`. -/
def up (gu sx : EReal) (iu : BitVec 16) : EReal := (iu.toInt : ℝ) * sx * gu

/-- The gradient at the hidden activation before its norm: `r2 · (dan · gamma - n2 · c_sub)` with `n2 = rg² · u · r2`. -/
def da (gg gu sx r2 cs gam dan : EReal) (ig iu : BitVec 16) : EReal :=
  r2 * (dan * gam - rg gg sx ig * rg gg sx ig * up gu sx iu * r2 * cs)

/-- The gradient at the up projection: `da · rg²`. -/
def du (gg gu sx r2 cs gam dan : EReal) (ig iu : BitVec 16) : EReal :=
  da gg gu sx r2 cs gam dan ig iu * (rg gg sx ig * rg gg sx ig)

/-- The gradient at the gate projection: `da · 2 · rg · u`. -/
def dg (gg gu sx r2 cs gam dan : EReal) (ig iu : BitVec 16) : EReal :=
  da gg gu sx r2 cs gam dan ig iu * Ideal.ofBits .f32 0x40000000#32 * rg gg sx ig * up gu sx iu

/-- Where the gate's integer product is zero, both gradients vanish. -/
theorem rg_zero (gg sx : EReal) : rg gg sx 0#16 = 0 := by simp [rg]

theorem du_zero (gg gu sx r2 cs gam dan : EReal) (iu : BitVec 16) : du gg gu sx r2 cs gam dan 0#16 iu = 0 := by
  simp [du, rg_zero]

theorem dg_zero (gg gu sx r2 cs gam dan : EReal) (iu : BitVec 16) : dg gg gu sx r2 cs gam dan 0#16 iu = 0 := by
  simp [dg, rg_zero]

abbrev S1 : Shape := ⟨2, ![1, 1]⟩
abbrev STD : Shape := ⟨2, ![2048, 3200]⟩
abbrev SDF : Shape := ⟨2, ![3200, 8640]⟩
abbrev STF : Shape := ⟨2, ![2048, 8640]⟩
abbrev STP : Shape := ⟨2, ![2048, 8704]⟩
abbrev STL : Shape := ⟨2, ![2048, 128]⟩
abbrev ST : Shape := ⟨1, ![2048]⟩
abbrev SF : Shape := ⟨1, ![8640]⟩

section
variable (gg gu : Vec Ideal S1 .f32) (dan : Vec Ideal STF .f32) (ig iu : Vec Ideal STF .i16) (cg cu : Vec Ideal SDF .i8)
  (row : Vec Ideal STL .f32) (cs : Vec Ideal ST .f32) (gs : Vec Ideal SF .f32)

/-- The gradient at the up projection, at row `r`, column `f`. -/
def DU (r : Fin 2048) (f : Fin 8640) : EReal :=
  du (gg (ix2 0 0)) (gu (ix2 0 0)) (row (ix2 r 0)) (row (ix2 r 1)) (cs (ix1 r)) (gs (ix1 f)) (dan (ix2 r f)) (ig (ix2 r f)) (iu (ix2 r f))

/-- The gradient at the gate projection, at row `r`, column `f`. -/
def DG (r : Fin 2048) (f : Fin 8640) : EReal :=
  dg (gg (ix2 0 0)) (gu (ix2 0 0)) (row (ix2 r 0)) (row (ix2 r 1)) (cs (ix1 r)) (gs (ix1 f)) (dan (ix2 r f)) (ig (ix2 r f)) (iu (ix2 r f))

/-- Result 1: the gradient at the norm's output, `gam_g · (DG · cgᵀ) + gam_u · (DU · cuᵀ)`. -/
def dxn : Vec Ideal STD .f32 := fun j =>
  ((gg (ix2 0 0) : EReal) * (∑ f : Fin 8640, DG gg gu dan ig iu row cs gs (j 0) f * (((cg (ix2 (j 1) f) : BitVec 8).toInt : ℝ) : EReal))
    + (gu (ix2 0 0) : EReal) * (∑ f : Fin 8640, DU gg gu dan ig iu row cs gs (j 0) f * (((cu (ix2 (j 1) f) : BitVec 8).toInt : ℝ) : EReal)) : EReal)

/-- Result 2: the gradient at the gate projection, zero in the padding columns. -/
def dgp : Vec Ideal STP .bf16 := fun j => if h : (j 1 : ℕ) < 8640 then DG gg gu dan ig iu row cs gs (j 0) ⟨j 1, h⟩ else (0 : EReal)

/-- Result 3: the gradient at the up projection, zero in the padding columns. -/
def dup : Vec Ideal STP .bf16 := fun j => if h : (j 1 : ℕ) < 8640 then DU gg gu dan ig iu row cs gs (j 0) ⟨j 1, h⟩ else (0 : EReal)

end

end Cert.DxnSpec

end
-- ==== Proof.DxnRef.lean ====
/- The reference of the dxn call: each of its three result arrays after the run is the function of DxnSpec. -/
module

public import proofs.«01_k».proof.Proof.DxnSpec
public import proofs.«01_k».proof.Proof.Gen.DxnReferenceIdeal.Frame
public import Idealize.ShloMosaic.Lib.Pipeline.ValueKit
public import Idealize.ShloMosaic.Lib.Pipeline.ReadBack

@[expose] public section

set_option maxRecDepth 16384

noncomputable section

namespace Cert.DxnReferenceIdeal.Val

open Cert.DxnReferenceIdeal Cert.DxnReferenceIdeal.Gen
open Idealize.ShloMosaic Idealize.ShloMosaic.TcCoe Idealize.SL.Sem
open Idealize.ShloMosaic.Pipeline (Dat)

variable (m : (ℓ : Loc nD τ sig) → Buf (Elt Ideal) ℓ)

/-- Every block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

theorem final10 (c : Dev nD) : (dats m 0 c).arrAt 10 (cfgs 0).N
    = DxnSpec.dxn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  rw [after0_10]; unfold Gen.outsAt0; frame_out
  simp only [read_unread_whole]
  generalize hj : (((cfg0.win 10).blk t).view.emb y) = j
  obtain rfl : j = y := by rw [← hj]; blk_ext [idx t]
  clear hj
  idx_vars j
  pointwise [k0_pay1, k0_pay2, k0_pay6, k0_pay7, k0_pay8, k0_pay9, k0_pay10, k0_pay11, DxnSpec.dxn, DxnSpec.DG, DxnSpec.DU, DxnSpec.dg, DxnSpec.du, DxnSpec.da, DxnSpec.rg, DxnSpec.up, ClipInt.sitofp_eq]
  blk_point [iblk, V, idx t]

theorem final11 (c : Dev nD) : (dats m 0 c).arrAt 11 (cfgs 0).N
    = DxnSpec.dgp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := by
  refine (dats m 0 c).arrAt_eq_of_covers 11 _ (by decide +kernel) fun t hf y => ?_
  blk_simp
  rw [after0_11]; unfold Gen.outsAt0; frame_out
  simp only [read_unread_whole]
  generalize hj : (((cfg0.win 11).blk t).view.emb y) = j
  obtain rfl : j = y := by rw [← hj]; blk_ext [idx t]
  clear hj
  idx_vars j
  pointwise [k0_pay1, k0_pay3, k0_pay4, k0_pay6, k0_pay7, k0_pay8, k0_pay9, k0_pay11, DxnSpec.dgp, DxnSpec.DG, DxnSpec.dg, DxnSpec.da, DxnSpec.rg, DxnSpec.up, ClipInt.sitofp_eq]
  blk_point [iblk, V, idx t]

theorem final12 (c : Dev nD) : (dats m 0 c).arrAt 12 (cfgs 0).N
    = DxnSpec.dup (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := by
  refine (dats m 0 c).arrAt_eq_of_covers 12 _ (by decide +kernel) fun t hf y => ?_
  blk_simp
  rw [after0_12]; unfold Gen.outsAt0; frame_out
  simp only [read_unread_whole]
  generalize hj : (((cfg0.win 12).blk t).view.emb y) = j
  obtain rfl : j = y := by rw [← hj]; blk_ext [idx t]
  clear hj
  idx_vars j
  pointwise [k0_pay3, k0_pay5, k0_pay6, k0_pay7, k0_pay8, k0_pay9, k0_pay10, DxnSpec.dup, DxnSpec.DU, DxnSpec.du, DxnSpec.da, DxnSpec.rg, DxnSpec.up, ClipInt.sitofp_eq]
  blk_point [iblk, V, idx t]

end Cert.DxnReferenceIdeal.Val

end
-- ==== Proof.DxnScales.lean ====
/- What the precondition of the dxn call says of its two scales: both are nonnegative and the second is below infinity. -/
module

public import proofs.«01_k».proof.Pre_proper_scales
public import proofs.«01_k».proof.Proof.ClipInt
public import Idealize.ShloMosaic.Lib.Pipeline.ValueKit

@[expose] public section

set_option maxRecDepth 16384

noncomputable section

namespace Cert.DxnScales

open Cert.Pre_proper_scales
open Idealize.ShloMosaic Idealize.ShloMosaic.TcCoe

instance facts : Facts where
  bcast_S_S1x1 := by decide

/-- A bit that is the conjunction of three tests is one only if all three hold. -/
theorem and3 (a b c : Bool) (h : IntOp.andi (IntOp.andi (BitVec.ofBool a) (BitVec.ofBool b)) (BitVec.ofBool c) = 1#1) :
    a = true ∧ b = true ∧ c = true := by
  revert h; cases a <;> cases b <;> cases c <;> decide

theorem of_pre (x0 x1 : Vec Ideal S1x1 .f32) (x2 : Vec Ideal S2048x8640 .f32) (x3 x4 : Vec Ideal S2048x8640 .i16) (x5 x6 : Vec Ideal S3200x8640 .i8)
    (x7 : Vec Ideal S2048x128 .f32) (x8 : Vec Ideal S2048 .f32) (x9 : Vec Ideal S8640 .f32)
    (h : fn (F := Ideal) x0 x1 x2 x3 x4 x5 x6 x7 x8 x9 = fun _ => 1#1) :
    (0 : EReal) ≤ x0 (ix2 0 0) ∧ (0 : EReal) ≤ x1 (ix2 0 0) ∧ (x1 (ix2 0 0) : EReal) ≠ ⊤ := by
  have e := congrFun h (ix2 0 0)
  pointwise [fn] at e
  obtain ⟨a, c, d⟩ := and3 _ _ _ e
  exact ⟨of_decide_eq_true a, of_decide_eq_true c, ne_top_of_lt (of_decide_eq_true d)⟩

end Cert.DxnScales

end
-- ==== Proof.DxnChunk.lean ====
/- One chunk of 256 rows of the dxn call's body, at one grid point: what the body computes there for each value, entry by entry, as a
   function of the point's input blocks `X0 … X9`. -/
module

public import proofs.«01_k».proof.Proof.DxnSpec
public import proofs.«01_k».proof.Proof.Rows
public import proofs.«01_k».proof.Proof.Gen.DxnKernelIdeal.Frame
public import Idealize.ShloMosaic.Lib.Pipeline.ValueKit
public import Idealize.ShloMosaic.Lib.Pipeline.ReadBack

@[expose] public section

set_option maxRecDepth 16384

noncomputable section

namespace Cert.DxnKernelIdeal.Val

open Cert.DxnKernelIdeal Cert.DxnKernelIdeal.Gen
open Idealize.ShloMosaic Idealize.ShloMosaic.TcCoe Idealize.SL.Sem

section
variable (X0 X1 : Vec Ideal S1x1 .f32) (X2 : Vec Ideal S2048x256 .f32) (X3 X4 : Vec Ideal S2048x256 .i16)
  (X7 X8 : Vec Ideal S2048x128 .f32) (X9 : Vec Ideal S1x256 .f32)

/-- The gradient at the up projection at row `r` and column `j` of the block; lane `j % 128` of the row's mean is read. -/
def DUb (r : Fin 2048) (j : Fin 256) : EReal :=
  DxnSpec.du (X0 (ix2 0 0)) (X1 (ix2 0 0)) (X7 (ix2 r 0)) (X7 (ix2 r 1)) (X8 (ix2 r ⟨j % 128, Nat.mod_lt _ (by decide)⟩)) (X9 (ix2 0 j))
    (X2 (ix2 r j)) (X3 (ix2 r j)) (X4 (ix2 r j))

/-- The gradient at the gate projection at row `r` and column `j` of the block. -/
def DGb (r : Fin 2048) (j : Fin 256) : EReal :=
  DxnSpec.dg (X0 (ix2 0 0)) (X1 (ix2 0 0)) (X7 (ix2 r 0)) (X7 (ix2 r 1)) (X8 (ix2 r ⟨j % 128, Nat.mod_lt _ (by decide)⟩)) (X9 (ix2 0 j))
    (X2 (ix2 r j)) (X3 (ix2 r j)) (X4 (ix2 r j))

/-- What one grid point adds to the products: `gam_g` times the gate block's product plus `gam_u` times the up block's product. -/
def accb (X5 X6 : Vec Ideal S3200x256 .i8) (y : S2048x3200.Idx) : EReal :=
  (X0 (ix2 0 0) : EReal) * (∑ j : Fin 256, DGb X0 X1 X2 X3 X4 X7 X8 X9 (y 0) j * (((X5 (ix2 (y 1) j) : BitVec 8).toInt : ℝ) : EReal))
    + (X1 (ix2 0 0) : EReal) * (∑ j : Fin 256, DUb X0 X1 X2 X3 X4 X7 X8 X9 (y 0) j * (((X6 (ix2 (y 1) j) : BitVec 8).toInt : ℝ) : EReal))

variable (o l : ℕ) (s0 : ∀ a : Fin 2, (![0, 0] : Fin 2 → ℕ) a + (![1, 1] : Fin 2 → ℕ) a ≤ S1x1.size a)
  (c0 : ∀ a : Fin 2, (![o, 0] : Fin 2 → ℕ) a + (![256, 1] : Fin 2 → ℕ) a ≤ S2048x128.size a)
  (c1 : ∀ a : Fin 2, (![o, 1] : Fin 2 → ℕ) a + (![256, 1] : Fin 2 → ℕ) a ≤ S2048x128.size a)
  (e0 : ∀ a : Fin 2, (![o, 0] : Fin 2 → ℕ) a + (![256, 128] : Fin 2 → ℕ) a ≤ S2048x128.size a)
  (i0 : ∀ a : Fin 2, (![o, l] : Fin 2 → ℕ) a + (![256, 128] : Fin 2 → ℕ) a ≤ S2048x256.size a)
  (g0 : ∀ a : Fin 2, (![0, l] : Fin 2 → ℕ) a + (![1, 128] : Fin 2 → ℕ) a ≤ S1x256.size a)
  (z : 0 < (Rect.unit (s := S1x1) ![0, 0] ![1, 1] s0).shape.numel)

/-- A chunk's gradients at the up projection. -/
def duc : FVec Ideal S256x128 .bf16 :=
  k0_pay13 (View.ld X1 (Rect.unit ![0, 0] ![1, 1] s0) (Shape.Idx.first z)) (k0_pay5 (View.ld X7 (Rect.unit ![o, 0] ![256, 1] c0)))
    (k0_pay6 (View.ld X7 (Rect.unit ![o, 1] ![256, 1] c1))) (k0_pay7 (View.ld X8 (Rect.unit ![o, 0] ![256, 128] e0)))
    (k0_pay8 (View.ld X0 (Rect.unit ![0, 0] ![1, 1] s0) (Shape.Idx.first z)) (View.ld X7 (Rect.unit ![o, 0] ![256, 1] c0)) (View.ld X3 (Rect.unit ![o, l] ![256, 128] i0)))
    (View.ld X4 (Rect.unit ![o, l] ![256, 128] i0)) (View.ld X2 (Rect.unit ![o, l] ![256, 128] i0)) (View.ld X9 (Rect.unit ![0, l] ![1, 128] g0))

/-- A chunk's gradients at the gate projection. -/
def dgc : FVec Ideal S256x128 .bf16 :=
  k0_pay14 (View.ld X1 (Rect.unit ![0, 0] ![1, 1] s0) (Shape.Idx.first z)) (k0_pay5 (View.ld X7 (Rect.unit ![o, 0] ![256, 1] c0)))
    (k0_pay6 (View.ld X7 (Rect.unit ![o, 1] ![256, 1] c1))) (k0_pay7 (View.ld X8 (Rect.unit ![o, 0] ![256, 128] e0)))
    (k0_pay8 (View.ld X0 (Rect.unit ![0, 0] ![1, 1] s0) (Shape.Idx.first z)) (View.ld X7 (Rect.unit ![o, 0] ![256, 1] c0)) (View.ld X3 (Rect.unit ![o, l] ![256, 128] i0)))
    (View.ld X4 (Rect.unit ![o, l] ![256, 128] i0)) (View.ld X2 (Rect.unit ![o, l] ![256, 128] i0)) (View.ld X9 (Rect.unit ![0, l] ![1, 128] g0))

theorem duc_at (hl : l = 0 ∨ l = 128) (x : S256x128.Idx) (r : Fin 2048) (j : Fin 256) (hr : (r : ℕ) = o + x 0) (hj : (j : ℕ) = l + x 1) :
    duc X0 X1 X2 X3 X4 X7 X8 X9 o l s0 c0 c1 e0 i0 g0 z x = DUb X0 X1 X2 X3 X4 X7 X8 X9 r j := by
  have hm : (j : ℕ) % 128 = x 1 := by have h : (x 1 : ℕ) < 128 := (x 1).isLt; omega
  idx_vars x
  pointwise [duc, k0_pay13, k0_pay12, k0_pay11, k0_pay10, k0_pay9, k0_pay8, k0_pay7, k0_pay6, k0_pay5, DUb, DxnSpec.du, DxnSpec.da, DxnSpec.rg, DxnSpec.up, ClipInt.sitofp_eq, mul_assoc]
  blk_point [hr, hj, hm]

theorem dgc_at (hl : l = 0 ∨ l = 128) (x : S256x128.Idx) (r : Fin 2048) (j : Fin 256) (hr : (r : ℕ) = o + x 0) (hj : (j : ℕ) = l + x 1) :
    dgc X0 X1 X2 X3 X4 X7 X8 X9 o l s0 c0 c1 e0 i0 g0 z x = DGb X0 X1 X2 X3 X4 X7 X8 X9 r j := by
  have hm : (j : ℕ) % 128 = x 1 := by have h : (x 1 : ℕ) < 128 := (x 1).isLt; omega
  idx_vars x
  pointwise [dgc, k0_pay14, k0_pay12, k0_pay11, k0_pay10, k0_pay9, k0_pay8, k0_pay7, k0_pay6, k0_pay5, DGb, DxnSpec.dg, DxnSpec.da, DxnSpec.rg, DxnSpec.up, ClipInt.sitofp_eq, mul_assoc]
  blk_point [hr, hj, hm]

end

/-- One chunk of the two products of gradients and weights, added to what was there. -/
theorem accc_at (s t : EReal) (A : Vec Ideal S256x3200 .f32) (B C : Vec Ideal S256x256 .bf16) (P Q : Vec Ideal S3200x256 .bf16) (x : S256x3200.Idx) :
    k0_pay21 (F := Ideal) s t B P C Q A x
      = (A x + (s * (∑ j : Fin 256, B (ix2 (x 0) j) * P (ix2 (x 1) j)) + t * (∑ j : Fin 256, C (ix2 (x 0) j) * Q (ix2 (x 1) j))) : EReal) := by
  idx_vars x
  pointwise [k0_pay21]

/-- A scalar operand, read. -/
theorem sc_at (X : Vec Ideal S1x1 .f32) (s0 : ∀ a : Fin 2, (![0, 0] : Fin 2 → ℕ) a + (![1, 1] : Fin 2 → ℕ) a ≤ S1x1.size a)
    (z : 0 < (Rect.unit (s := S1x1) ![0, 0] ![1, 1] s0).shape.numel) :
    View.ld X (Rect.unit (s := S1x1) ![0, 0] ![1, 1] s0) (Shape.Idx.first z) = X (ix2 0 0) := by
  refine congrArg X (funext fun k => ?_)
  fin_cases k <;> exact Subsingleton.elim (α := Fin 1) _ _

/-- The two weight blocks, cast. -/
theorem pay3_at (X : Vec Ideal S3200x256 .i8) (y : S3200x256.Idx) : k0_pay3 (F := Ideal) X y = (((X y : BitVec 8).toInt : ℝ) : EReal) := by
  idx_vars y; pointwise [k0_pay3, ClipInt.sitofp_eq]

theorem pay4_at (X : Vec Ideal S3200x256 .i8) (y : S3200x256.Idx) : k0_pay4 (F := Ideal) X y = (((X y : BitVec 8).toInt : ℝ) : EReal) := by
  idx_vars y; pointwise [k0_pay4, ClipInt.sitofp_eq]

end Cert.DxnKernelIdeal.Val

end
-- ==== Proof.DxnBlockA.lean ====
/- The dxn call at a first grid point of a run: each output block, entry by entry, as a function of the point's input blocks. -/
module

public import proofs.«01_k».proof.Proof.DxnChunk

@[expose] public section

set_option maxRecDepth 16384

noncomputable section

namespace Cert.DxnKernelIdeal.Val

open Cert.DxnKernelIdeal Cert.DxnKernelIdeal.Gen
open Idealize.ShloMosaic Idealize.ShloMosaic.TcCoe Idealize.SL.Sem
open Cert.Rows (readCov_chunk ld2 canon_rows readCov_rows)

theorem pay2_zero (i : S2048x3200.Idx) : k0_pay2 (F := Ideal) i = (0 : EReal) := by idx_vars i; pointwise [k0_pay2]

variable (m : (ℓ : Loc nD τ sig) → Buf (Elt Ideal) ℓ) (c : Dev nD) (t : Fin cfg0.N) (h0 : t.val % 34 = 0)
include h0

/-- The gradients at the gate projection. -/
theorem b11_A (y : S2048x256.Idx) : (outsAt0 m c t.val t.isLt).2.1 y = DGb (iblk m c 0 t) (iblk m c 1 t) (iblk m c 2 t) (iblk m c 3 t) (iblk m c 4 t) (iblk m c 7 t) (iblk m c 8 t) (iblk m c 9 t) (y 0) (y 1) := by
  rw [outsAt0_A m c t h0]; frame_out
  canon_tiles x h
  all_goals exact dgc_at (iblk m c 0 t) (iblk m c 1 t) (iblk m c 2 t) (iblk m c 3 t) (iblk m c 4 t) (iblk m c 7 t) (iblk m c 8 t) (iblk m c 9 t) _ _ _ _ _ _ _ _ _ (by decide) x _ _ (by omega) (by omega)

/-- The gradients at the up projection. -/
theorem b12_A (y : S2048x256.Idx) : (outsAt0 m c t.val t.isLt).2.2 y = DUb (iblk m c 0 t) (iblk m c 1 t) (iblk m c 2 t) (iblk m c 3 t) (iblk m c 4 t) (iblk m c 7 t) (iblk m c 8 t) (iblk m c 9 t) (y 0) (y 1) := by
  rw [outsAt0_A m c t h0]; frame_out
  canon_tiles x h
  all_goals exact duc_at (iblk m c 0 t) (iblk m c 1 t) (iblk m c 2 t) (iblk m c 3 t) (iblk m c 4 t) (iblk m c 7 t) (iblk m c 8 t) (iblk m c 9 t) _ _ _ _ _ _ _ _ _ (by decide) x _ _ (by omega) (by omega)

/-- The running sum of the products. -/
theorem b10_A (y : S2048x3200.Idx) :
    (outsAt0 m c t.val t.isLt).1 y = (0 + accb (iblk m c 0 t) (iblk m c 1 t) (iblk m c 2 t) (iblk m c 3 t) (iblk m c 4 t) (iblk m c 7 t) (iblk m c 8 t) (iblk m c 9 t) (iblk m c 5 t) (iblk m c 6 t) y : EReal) := by
  rw [outsAt0_A m c t h0]; frame_out
  refine canon_rows (n := 3200) (e := .f32) (fun y : S2048x3200.Idx => (0 + accb (iblk m c 0 t) (iblk m c 1 t) (iblk m c 2 t) (iblk m c 3 t) (iblk m c 4 t) (iblk m c 7 t) (iblk m c 8 t) (iblk m c 9 t) (iblk m c 5 t) (iblk m c 6 t) y : EReal)) _ _ _ _ _ _ _ _ _ _ _ _ _ _ _ _ _ y ?_ ?_ ?_ ?_ ?_ ?_ ?_ ?_
  all_goals
    intro x y h0 h1
    refine (accc_at _ _ _ _ _ _ _ x).trans (congrArg₂ (· + ·) ?_ (congrArg₂ (· + ·) (congrArg₂ (· * ·) ?_ (Finset.sum_congr rfl fun j _ => congrArg₂ (· * ·) ?_ ?_)) (congrArg₂ (· * ·) ?_ (Finset.sum_congr rfl fun j _ => congrArg₂ (· * ·) ?_ ?_))))
    · repeat rw [View.readCov_skip _ _ _ _ _ (by decide)]
      exact readCov_rows (n := 3200) _ _ _ _ _ pay2_zero x
    · exact sc_at _ _ _
    · exact readCov_chunk _ _ _ _ _ _ _ _ (DGb (iblk m c 0 t) (iblk m c 1 t) (iblk m c 2 t) (iblk m c 3 t) (iblk m c 4 t) (iblk m c 7 t) (iblk m c 8 t) (iblk m c 9 t))
        (fun x r j hr hj => dgc_at (iblk m c 0 t) (iblk m c 1 t) (iblk m c 2 t) (iblk m c 3 t) (iblk m c 4 t) (iblk m c 7 t) (iblk m c 8 t) (iblk m c 9 t) _ _ _ _ _ _ _ _ _ (by decide) x r j hr hj)
        (fun x r j hr hj => dgc_at (iblk m c 0 t) (iblk m c 1 t) (iblk m c 2 t) (iblk m c 3 t) (iblk m c 4 t) (iblk m c 7 t) (iblk m c 8 t) (iblk m c 9 t) _ _ _ _ _ _ _ _ _ (by decide) x r j hr hj) _ j (y 0) (by omega)
    · exact (pay3_at _ _).trans (congrArg (fun i : Fin 3200 => (((iblk m c 5 t (ix2 i j) : BitVec 8).toInt : ℝ) : EReal)) (Fin.ext (by omega)))
    · exact sc_at _ _ _
    · exact readCov_chunk _ _ _ _ _ _ _ _ (DUb (iblk m c 0 t) (iblk m c 1 t) (iblk m c 2 t) (iblk m c 3 t) (iblk m c 4 t) (iblk m c 7 t) (iblk m c 8 t) (iblk m c 9 t))
        (fun x r j hr hj => duc_at (iblk m c 0 t) (iblk m c 1 t) (iblk m c 2 t) (iblk m c 3 t) (iblk m c 4 t) (iblk m c 7 t) (iblk m c 8 t) (iblk m c 9 t) _ _ _ _ _ _ _ _ _ (by decide) x r j hr hj)
        (fun x r j hr hj => duc_at (iblk m c 0 t) (iblk m c 1 t) (iblk m c 2 t) (iblk m c 3 t) (iblk m c 4 t) (iblk m c 7 t) (iblk m c 8 t) (iblk m c 9 t) _ _ _ _ _ _ _ _ _ (by decide) x r j hr hj) _ j (y 0) (by omega)
    · exact (pay4_at _ _).trans (congrArg (fun i : Fin 3200 => (((iblk m c 6 t (ix2 i j) : BitVec 8).toInt : ℝ) : EReal)) (Fin.ext (by omega)))

end Cert.DxnKernelIdeal.Val

end
-- ==== Proof.DxnBlockB.lean ====
/- The dxn call at a grid point that is not the first: each output block, entry by entry, as a function of the point's input blocks. -/
module

public import proofs.«01_k».proof.Proof.DxnChunk

@[expose] public section

set_option maxRecDepth 16384

noncomputable section

namespace Cert.DxnKernelIdeal.Val

open Cert.DxnKernelIdeal Cert.DxnKernelIdeal.Gen
open Idealize.ShloMosaic Idealize.ShloMosaic.TcCoe Idealize.SL.Sem
open Cert.Rows (readCov_chunk ld2 canon_rows readCov_rows)

variable (m : (ℓ : Loc nD τ sig) → Buf (Elt Ideal) ℓ) (c : Dev nD) (t : Fin cfg0.N) (h0 : ¬t.val % 34 = 0)
include h0

/-- The gradients at the gate projection. -/
theorem b11_B (y : S2048x256.Idx) : (outsAt0 m c t.val t.isLt).2.1 y = DGb (iblk m c 0 t) (iblk m c 1 t) (iblk m c 2 t) (iblk m c 3 t) (iblk m c 4 t) (iblk m c 7 t) (iblk m c 8 t) (iblk m c 9 t) (y 0) (y 1) := by
  rw [outsAt0_B m c t h0]; frame_out
  canon_tiles x h
  all_goals exact dgc_at (iblk m c 0 t) (iblk m c 1 t) (iblk m c 2 t) (iblk m c 3 t) (iblk m c 4 t) (iblk m c 7 t) (iblk m c 8 t) (iblk m c 9 t) _ _ _ _ _ _ _ _ _ (by decide) x _ _ (by omega) (by omega)

/-- The gradients at the up projection. -/
theorem b12_B (y : S2048x256.Idx) : (outsAt0 m c t.val t.isLt).2.2 y = DUb (iblk m c 0 t) (iblk m c 1 t) (iblk m c 2 t) (iblk m c 3 t) (iblk m c 4 t) (iblk m c 7 t) (iblk m c 8 t) (iblk m c 9 t) (y 0) (y 1) := by
  rw [outsAt0_B m c t h0]; frame_out
  canon_tiles x h
  all_goals exact duc_at (iblk m c 0 t) (iblk m c 1 t) (iblk m c 2 t) (iblk m c 3 t) (iblk m c 4 t) (iblk m c 7 t) (iblk m c 8 t) (iblk m c 9 t) _ _ _ _ _ _ _ _ _ (by decide) x _ _ (by omega) (by omega)

/-- The running sum of the products. -/
theorem b10_B (y : S2048x3200.Idx) :
    (outsAt0 m c t.val t.isLt).1 y = ((outsAt0 m c (t.val - 1) (by have := t.isLt; omega)).1 y + accb (iblk m c 0 t) (iblk m c 1 t) (iblk m c 2 t) (iblk m c 3 t) (iblk m c 4 t) (iblk m c 7 t) (iblk m c 8 t) (iblk m c 9 t) (iblk m c 5 t) (iblk m c 6 t) y : EReal) := by
  rw [outsAt0_B m c t h0]; frame_out
  canon_tiles x h
  all_goals
    refine (accc_at _ _ _ _ _ _ _ x).trans (congrArg₂ (· + ·) ?_ (congrArg₂ (· + ·) (congrArg₂ (· * ·) ?_ (Finset.sum_congr rfl fun j _ => congrArg₂ (· * ·) ?_ ?_)) (congrArg₂ (· * ·) ?_ (Finset.sum_congr rfl fun j _ => congrArg₂ (· * ·) ?_ ?_))))
    · exact ld2 _ _ x y (by omega) (by omega)
    · exact sc_at _ _ _
    · exact readCov_chunk _ _ _ _ _ _ _ _ (DGb (iblk m c 0 t) (iblk m c 1 t) (iblk m c 2 t) (iblk m c 3 t) (iblk m c 4 t) (iblk m c 7 t) (iblk m c 8 t) (iblk m c 9 t))
        (fun x r j hr hj => dgc_at (iblk m c 0 t) (iblk m c 1 t) (iblk m c 2 t) (iblk m c 3 t) (iblk m c 4 t) (iblk m c 7 t) (iblk m c 8 t) (iblk m c 9 t) _ _ _ _ _ _ _ _ _ (by decide) x r j hr hj)
        (fun x r j hr hj => dgc_at (iblk m c 0 t) (iblk m c 1 t) (iblk m c 2 t) (iblk m c 3 t) (iblk m c 4 t) (iblk m c 7 t) (iblk m c 8 t) (iblk m c 9 t) _ _ _ _ _ _ _ _ _ (by decide) x r j hr hj) _ j (y 0) (by omega)
    · exact (pay3_at _ _).trans (congrArg (fun i : Fin 3200 => (((iblk m c 5 t (ix2 i j) : BitVec 8).toInt : ℝ) : EReal)) (Fin.ext (by omega)))
    · exact sc_at _ _ _
    · exact readCov_chunk _ _ _ _ _ _ _ _ (DUb (iblk m c 0 t) (iblk m c 1 t) (iblk m c 2 t) (iblk m c 3 t) (iblk m c 4 t) (iblk m c 7 t) (iblk m c 8 t) (iblk m c 9 t))
        (fun x r j hr hj => duc_at (iblk m c 0 t) (iblk m c 1 t) (iblk m c 2 t) (iblk m c 3 t) (iblk m c 4 t) (iblk m c 7 t) (iblk m c 8 t) (iblk m c 9 t) _ _ _ _ _ _ _ _ _ (by decide) x r j hr hj)
        (fun x r j hr hj => duc_at (iblk m c 0 t) (iblk m c 1 t) (iblk m c 2 t) (iblk m c 3 t) (iblk m c 4 t) (iblk m c 7 t) (iblk m c 8 t) (iblk m c 9 t) _ _ _ _ _ _ _ _ _ (by decide) x r j hr hj) _ j (y 0) (by omega)
    · exact (pay4_at _ _).trans (congrArg (fun i : Fin 3200 => (((iblk m c 6 t (ix2 i j) : BitVec 8).toInt : ℝ) : EReal)) (Fin.ext (by omega)))

end Cert.DxnKernelIdeal.Val

end
-- ==== Proof.DxnFinal.lean ====
/- The kernel of the dxn call: each of its three result arrays after the run is the function of DxnSpec. -/
module

public import proofs.«01_k».proof.Proof.DxnBlockA
public import proofs.«01_k».proof.Proof.DxnBlockB

@[expose] public section

set_option maxRecDepth 16384

noncomputable section

namespace Cert.DxnKernelIdeal.Val

open Cert.DxnKernelIdeal Cert.DxnKernelIdeal.Gen
open Idealize.ShloMosaic Idealize.ShloMosaic.TcCoe Idealize.SL.Sem
open Cert.Rows (sum_cols)
open Idealize.ShloMosaic.Pipeline (Dat)

variable (m : (ℓ : Loc nD τ sig) → Buf (Elt Ideal) ℓ)

/-- Which block each window holds at a grid point. -/
theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val] ∧ win0_6.index t = ![0, t.val]
    ∧ win0_7.index t = ![0, 0] ∧ win0_8.index t = ![0, 0] ∧ win0_9.index t = ![0, t.val] ∧ win0_10.index t = ![0, 0]
    ∧ win0_11.index t = ![0, t.val] ∧ win0_12.index t = ![0, t.val] :=
  (by decide +kernel : ∀ t : Fin grid0.N, _)

/-- A padded array, read inside and outside of the argument. -/
theorem pad_tf {e : EltTy} (x : Vec Ideal S2048x8640 e) (z : Vec Ideal S_ e) (r : Fin 2048) (k : Fin 8704) :
    pad S2048x8704 ![0, 0] ![0, 64] ![0, 0] x z pads_S2048x8640_S2048x8704_000_0640 h_S_ (ix2 r k)
      = if h : (k : ℕ) < 8640 then x (ix2 r ⟨k, h⟩) else z (Shape.Idx.first h_S_) := by
  by_cases h : (k : ℕ) < 8640 <;> pointwise [h]

theorem pad_df (x : Vec Ideal S3200x8640 .i8) (z : Vec Ideal S_ .i8) (r : Fin 3200) (k : Fin 8704) (h : (k : ℕ) < 8640) :
    pad S3200x8704 ![0, 0] ![0, 64] ![0, 0] x z pads_S3200x8640_S3200x8704_000_0640 h_S_ (ix2 r k) = x (ix2 r ⟨k, h⟩) := by
  pointwise [h]

theorem pad_gs (x : Vec Ideal S8640 .f32) (z : Vec Ideal S_ .f32) (k : Fin 8704) (h : (k : ℕ) < 8640) :
    shapeCast S1x8704 (pad S8704 ![0] ![64] ![0] x z pads_S8640_S8704_0640 h_S_) shapeCasts_S8704_S1x8704 (ix2 0 k) = x (ix1 ⟨k, h⟩) := by
  pointwise [h]

theorem rows_cs (x : Vec Ideal S2048 .f32) (r : Fin 2048) (l : Fin 128) :
    broadcastInDim S2048x128 ![0, 1] bcast_S2048x1_S2048x128_0_1 (broadcastInDim S2048x1 ![0] bcast_S2048_S2048x1_0 x) (ix2 r l) = x (ix1 r) := by
  pointwise []

/-- The arrays the host hands to the call: padded, or broadcast over the lanes. -/
theorem V_v1 (c : Dev nD) (k : Fin 8704) (h : (k : ℕ) < 8640) :
    V m c main_v1 (ix2 0 k) = m ((c : Thread nD τ).loc main_arg9) (ix1 ⟨k, h⟩) := by
  unfold V
  simp only [List.flatten_cons, List.flatten_nil, List.append_nil, List.cons_append, List.nil_append]
  entry_read
  exact pad_gs _ (sitofp (F := Ideal) .f32 (constantI S_ 32 0#32)) k h

theorem V_v3 (c : Dev nD) (r : Fin 2048) (l : Fin 128) :
    V m c main_v3 (ix2 r l) = m ((c : Thread nD τ).loc main_arg8) (ix1 r) := by
  unfold V
  simp only [List.flatten_cons, List.flatten_nil, List.append_nil, List.cons_append, List.nil_append]
  entry_read
  exact rows_cs _ r l

theorem V_v4 (c : Dev nD) (r : Fin 2048) (k : Fin 8704) (h : (k : ℕ) < 8640) :
    V m c main_v4 (ix2 r k) = m ((c : Thread nD τ).loc main_arg2) (ix2 r ⟨k, h⟩) := by
  unfold V
  simp only [List.flatten_cons, List.flatten_nil, List.append_nil, List.cons_append, List.nil_append]
  entry_read
  exact (pad_tf (e := .f32) _ (sitofp (F := Ideal) .f32 (constantI S_ 32 0#32)) r k).trans (dif_pos h)

theorem V_v5 (c : Dev nD) (r : Fin 2048) (k : Fin 8704) :
    V m c main_v5 (ix2 r k) = if h : (k : ℕ) < 8640 then (m ((c : Thread nD τ).loc main_arg3) (ix2 r ⟨k, h⟩) : BitVec 16) else 0#16 := by
  unfold V
  simp only [List.flatten_cons, List.flatten_nil, List.append_nil, List.cons_append, List.nil_append]
  entry_read
  exact pad_tf _ _ r k

theorem V_v6 (c : Dev nD) (r : Fin 2048) (k : Fin 8704) (h : (k : ℕ) < 8640) :
    V m c main_v6 (ix2 r k) = m ((c : Thread nD τ).loc main_arg4) (ix2 r ⟨k, h⟩) := by
  unfold V
  simp only [List.flatten_cons, List.flatten_nil, List.append_nil, List.cons_append, List.nil_append]
  entry_read
  exact (pad_tf _ _ r k).trans (dif_pos h)

theorem V_v7 (c : Dev nD) (r : Fin 3200) (k : Fin 8704) (h : (k : ℕ) < 8640) :
    V m c main_v7 (ix2 r k) = m ((c : Thread nD τ).loc main_arg5) (ix2 r ⟨k, h⟩) := by
  unfold V
  simp only [List.flatten_cons, List.flatten_nil, List.append_nil, List.cons_append, List.nil_append]
  entry_read
  exact pad_df _ _ r k h

theorem V_v8 (c : Dev nD) (r : Fin 3200) (k : Fin 8704) (h : (k : ℕ) < 8640) :
    V m c main_v8 (ix2 r k) = m ((c : Thread nD τ).loc main_arg6) (ix2 r ⟨k, h⟩) := by
  unfold V
  simp only [List.flatten_cons, List.flatten_nil, List.append_nil, List.cons_append, List.nil_append]
  entry_read
  exact pad_df _ _ r k h

section
variable (c : Dev nD) (t : Fin cfg0.N) (r : Fin 2048) (j : Fin 256)

theorem col_lt : 256 * t.val + j < 8704 := by
  have h : t.val < 34 := t.isLt
  omega

theorem dan_in (f : Fin 8640) (hf : (f : ℕ) = 256 * t.val + j) :
    iblk m c 2 t (ix2 r j) = m ((c : Thread nD τ).loc main_arg2) (ix2 r f) := by
  refine Eq.trans (b := V m c main_v4 (ix2 r ⟨256 * t.val + j, col_lt t j⟩)) (by blk_ext [iblk, idx t]) ?_
  rw [V_v4 m c r _ (by show 256 * t.val + (j : ℕ) < 8640; omega)]
  exact congrArg (fun f => m ((c : Thread nD τ).loc main_arg2) (ix2 r f)) (Fin.ext hf.symm)

theorem ig_in (f : Fin 8640) (hf : (f : ℕ) = 256 * t.val + j) :
    iblk m c 3 t (ix2 r j) = m ((c : Thread nD τ).loc main_arg3) (ix2 r f) := by
  refine Eq.trans (b := V m c main_v5 (ix2 r ⟨256 * t.val + j, col_lt t j⟩)) (by blk_ext [iblk, idx t]) ?_
  rw [V_v5, dif_pos (by show 256 * t.val + (j : ℕ) < 8640; omega)]
  exact congrArg (fun f => m ((c : Thread nD τ).loc main_arg3) (ix2 r f)) (Fin.ext hf.symm)

theorem iu_in (f : Fin 8640) (hf : (f : ℕ) = 256 * t.val + j) :
    iblk m c 4 t (ix2 r j) = m ((c : Thread nD τ).loc main_arg4) (ix2 r f) := by
  refine Eq.trans (b := V m c main_v6 (ix2 r ⟨256 * t.val + j, col_lt t j⟩)) (by blk_ext [iblk, idx t]) ?_
  rw [V_v6 m c r _ (by show 256 * t.val + (j : ℕ) < 8640; omega)]
  exact congrArg (fun f => m ((c : Thread nD τ).loc main_arg4) (ix2 r f)) (Fin.ext hf.symm)

theorem cg_in (k : Fin 3200) (f : Fin 8640) (hf : (f : ℕ) = 256 * t.val + j) :
    iblk m c 5 t (ix2 k j) = m ((c : Thread nD τ).loc main_arg5) (ix2 k f) := by
  refine Eq.trans (b := V m c main_v7 (ix2 k ⟨256 * t.val + j, col_lt t j⟩)) (by blk_ext [iblk, idx t]) ?_
  rw [V_v7 m c k _ (by show 256 * t.val + (j : ℕ) < 8640; omega)]
  exact congrArg (fun f => m ((c : Thread nD τ).loc main_arg5) (ix2 k f)) (Fin.ext hf.symm)

theorem cu_in (k : Fin 3200) (f : Fin 8640) (hf : (f : ℕ) = 256 * t.val + j) :
    iblk m c 6 t (ix2 k j) = m ((c : Thread nD τ).loc main_arg6) (ix2 k f) := by
  refine Eq.trans (b := V m c main_v8 (ix2 k ⟨256 * t.val + j, col_lt t j⟩)) (by blk_ext [iblk, idx t]) ?_
  rw [V_v8 m c k _ (by show 256 * t.val + (j : ℕ) < 8640; omega)]
  exact congrArg (fun f => m ((c : Thread nD τ).loc main_arg6) (ix2 k f)) (Fin.ext hf.symm)

theorem gs_in (f : Fin 8640) (hf : (f : ℕ) = 256 * t.val + j) :
    iblk m c 9 t (ix2 0 j) = m ((c : Thread nD τ).loc main_arg9) (ix1 f) := by
  refine Eq.trans (b := V m c main_v1 (ix2 0 ⟨256 * t.val + j, col_lt t j⟩)) (by blk_ext [iblk, idx t]) ?_
  rw [V_v1 m c _ (by show 256 * t.val + (j : ℕ) < 8640; omega)]
  exact congrArg (fun f => m ((c : Thread nD τ).loc main_arg9) (ix1 f)) (Fin.ext hf.symm)

theorem cs_in (l : Fin 128) : iblk m c 8 t (ix2 r l) = m ((c : Thread nD τ).loc main_arg8) (ix1 r) :=
  Eq.trans (b := V m c main_v3 (ix2 r l)) (by blk_ext [iblk, idx t]) (V_v3 m c r l)

theorem gg_in : iblk m c 0 t (ix2 0 0) = m ((c : Thread nD τ).loc main_arg0) (ix2 0 0) := by blk_ext [iblk, V, idx t]

theorem gu_in : iblk m c 1 t (ix2 0 0) = m ((c : Thread nD τ).loc main_arg1) (ix2 0 0) := by blk_ext [iblk, V, idx t]

theorem row_in (l : Fin 128) : iblk m c 7 t (ix2 r l) = m ((c : Thread nD τ).loc main_arg7) (ix2 r l) := by blk_ext [iblk, V, idx t]

/-- The gate's integer product in the padding columns is zero. -/
theorem ig_out (h : 8640 ≤ 256 * t.val + j) : iblk m c 3 t (ix2 r j) = (0#16 : BitVec 16) := by
  refine Eq.trans (b := V m c main_v5 (ix2 r ⟨256 * t.val + j, col_lt t j⟩)) (by blk_ext [iblk, idx t]) ?_
  rw [V_v5, dif_neg (by show ¬ 256 * t.val + (j : ℕ) < 8640; omega)]

theorem DUb_in (f : Fin 8640) (hf : (f : ℕ) = 256 * t.val + j) :
    DUb (iblk m c 0 t) (iblk m c 1 t) (iblk m c 2 t) (iblk m c 3 t) (iblk m c 4 t) (iblk m c 7 t) (iblk m c 8 t) (iblk m c 9 t) r j = DxnSpec.DU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) r f := by
  unfold DUb DxnSpec.DU
  rw [gg_in m c t, gu_in m c t, row_in m c t r 0, row_in m c t r 1, cs_in m c t r, gs_in m c t j f hf, dan_in m c t r j f hf, ig_in m c t r j f hf, iu_in m c t r j f hf]

theorem DUb_out (h : 8640 ≤ 256 * t.val + j) : DUb (iblk m c 0 t) (iblk m c 1 t) (iblk m c 2 t) (iblk m c 3 t) (iblk m c 4 t) (iblk m c 7 t) (iblk m c 8 t) (iblk m c 9 t) r j = 0 := by
  unfold DUb
  rw [ig_out m c t r j h]
  exact DxnSpec.du_zero _ _ _ _ _ _ _ _

theorem DGb_in (f : Fin 8640) (hf : (f : ℕ) = 256 * t.val + j) :
    DGb (iblk m c 0 t) (iblk m c 1 t) (iblk m c 2 t) (iblk m c 3 t) (iblk m c 4 t) (iblk m c 7 t) (iblk m c 8 t) (iblk m c 9 t) r j = DxnSpec.DG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) r f := by
  unfold DGb DxnSpec.DG
  rw [gg_in m c t, gu_in m c t, row_in m c t r 0, row_in m c t r 1, cs_in m c t r, gs_in m c t j f hf, dan_in m c t r j f hf, ig_in m c t r j f hf, iu_in m c t r j f hf]

theorem DGb_out (h : 8640 ≤ 256 * t.val + j) : DGb (iblk m c 0 t) (iblk m c 1 t) (iblk m c 2 t) (iblk m c 3 t) (iblk m c 4 t) (iblk m c 7 t) (iblk m c 8 t) (iblk m c 9 t) r j = 0 := by
  unfold DGb
  rw [ig_out m c t r j h]
  exact DxnSpec.dg_zero _ _ _ _ _ _ _ _

theorem dgp_at (j : DxnSpec.STP.Idx) (r : Fin 2048) (l : Fin 256) (h0 : (j 0 : ℕ) = r) (h1 : (j 1 : ℕ) = 256 * t.val + l) :
    DGb (iblk m c 0 t) (iblk m c 1 t) (iblk m c 2 t) (iblk m c 3 t) (iblk m c 4 t) (iblk m c 7 t) (iblk m c 8 t) (iblk m c 9 t) r l = DxnSpec.dgp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) j := by
  obtain rfl : r = j 0 := Fin.ext h0.symm
  unfold DxnSpec.dgp
  by_cases h : (j 1 : ℕ) < 8640
  · rw [dif_pos h]; exact DGb_in m c t _ l ⟨j 1, h⟩ h1
  · rw [dif_neg h]; exact DGb_out m c t _ l (by omega)

theorem b11 (y : S2048x256.Idx) : (outsAt0 m c t.val t.isLt).2.1 y = DGb (iblk m c 0 t) (iblk m c 1 t) (iblk m c 2 t) (iblk m c 3 t) (iblk m c 4 t) (iblk m c 7 t) (iblk m c 8 t) (iblk m c 9 t) (y 0) (y 1) := by
  by_cases h0 : t.val % 34 = 0
  · exact b11_A m c t h0 y
  · exact b11_B m c t h0 y

theorem dup_at (j : DxnSpec.STP.Idx) (r : Fin 2048) (l : Fin 256) (h0 : (j 0 : ℕ) = r) (h1 : (j 1 : ℕ) = 256 * t.val + l) :
    DUb (iblk m c 0 t) (iblk m c 1 t) (iblk m c 2 t) (iblk m c 3 t) (iblk m c 4 t) (iblk m c 7 t) (iblk m c 8 t) (iblk m c 9 t) r l = DxnSpec.dup (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) j := by
  obtain rfl : r = j 0 := Fin.ext h0.symm
  unfold DxnSpec.dup
  by_cases h : (j 1 : ℕ) < 8640
  · rw [dif_pos h]; exact DUb_in m c t _ l ⟨j 1, h⟩ h1
  · rw [dif_neg h]; exact DUb_out m c t _ l (by omega)

theorem b12 (y : S2048x256.Idx) : (outsAt0 m c t.val t.isLt).2.2 y = DUb (iblk m c 0 t) (iblk m c 1 t) (iblk m c 2 t) (iblk m c 3 t) (iblk m c 4 t) (iblk m c 7 t) (iblk m c 8 t) (iblk m c 9 t) (y 0) (y 1) := by
  by_cases h0 : t.val % 34 = 0
  · exact b12_A m c t h0 y
  · exact b12_B m c t h0 y

end

theorem final11 (c : Dev nD) : (dats m 0 c).arrAt 11 (cfgs 0).N = DxnSpec.dgp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := by
  refine (dats m 0 c).arrAt_eq_of_covers 11 _ (by decide +kernel) fun t hf y => ?_
  blk_simp
  rw [after0_11, b11]
  exact dgp_at m c t _ _ _ (by blk_simp [idx t]) (by blk_simp [idx t]; omega)

theorem final12 (c : Dev nD) : (dats m 0 c).arrAt 12 (cfgs 0).N = DxnSpec.dup (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := by
  refine (dats m 0 c).arrAt_eq_of_covers 12 _ (by decide +kernel) fun t hf y => ?_
  blk_simp
  rw [after0_12, b12]
  exact dup_at m c t _ _ _ (by blk_simp [idx t]) (by blk_simp [idx t]; omega)

end Cert.DxnKernelIdeal.Val

end
-- ==== Proof.DxnSums.lean ====
/- The running sum of the dxn call: after the last grid point it is the function of DxnSpec, both scales being nonnegative and the second
   finite. -/
module

public import proofs.«01_k».proof.Proof.DxnFinal

@[expose] public section

set_option maxRecDepth 16384

noncomputable section

namespace Cert.DxnKernelIdeal.Val

open Cert.DxnKernelIdeal Cert.DxnKernelIdeal.Gen
open Idealize.ShloMosaic Idealize.ShloMosaic.TcCoe Idealize.SL.Sem
open Cert.Rows (sum_cols)
open Idealize.ShloMosaic.Pipeline (Dat)

variable (m : (ℓ : Loc nD τ sig) → Buf (Elt Ideal) ℓ)

/-- A nonnegative finite factor goes into a sum of extended reals. -/
theorem mul_sum_of {ι : Type} (s : Finset ι) (f : ι → EReal) (g : EReal) (h0 : 0 ≤ g) (h1 : g ≠ ⊤) : g * ∑ i ∈ s, f i = ∑ i ∈ s, g * f i :=
  map_sum (⟨⟨fun x => g * x, mul_zero g⟩, fun x y => EReal.left_distrib_of_nonneg_of_ne_top h0 h1 x y⟩ : EReal →+ EReal) f s

/-- Infinity times `x` is `x` for 0 and the two infinities; these three are closed under sums. -/
theorem top_add (x y : EReal) (hx : ⊤ * x = x) (hy : ⊤ * y = y) : ⊤ * (x + y) = x + y := by
  induction x using EReal.rec with
  | bot => simp
  | top =>
    induction y using EReal.rec with
    | bot => simp
    | top => simp
    | coe y => simp
  | coe x =>
    rcases lt_trichotomy x 0 with h | h | h
    · rw [EReal.top_mul_coe_of_neg h] at hx; exact absurd hx (by simp)
    · subst h; simpa using hy
    · rw [EReal.top_mul_coe_of_pos h] at hx; exact absurd hx (by simp)

theorem top_sum {ι : Type} (s : Finset ι) (f : ι → EReal) (hf : ∀ i ∈ s, ⊤ * f i = f i) : ⊤ * ∑ i ∈ s, f i = ∑ i ∈ s, f i :=
  Finset.sum_induction f (fun x => ⊤ * x = x) top_add (mul_zero _) hf

theorem top_rg (sx : EReal) (ig : BitVec 16) : ⊤ * DxnSpec.rg ⊤ sx ig = DxnSpec.rg ⊤ sx ig := by
  unfold DxnSpec.rg
  rcases max_choice (((ig.toInt : ℝ) : EReal) * sx * ⊤) 0 with h | h <;> rw [h]
  · rw [mul_left_comm]; simp
  · exact mul_zero _

/-- With an infinite first scale every gradient at the gate projection is 0 or infinite. -/
theorem top_dg (gu sx r2 cs gam dan : EReal) (ig iu : BitVec 16) : ⊤ * DxnSpec.dg ⊤ gu sx r2 cs gam dan ig iu = DxnSpec.dg ⊤ gu sx r2 cs gam dan ig iu := by
  unfold DxnSpec.dg
  rw [← mul_assoc, mul_left_comm, top_rg]

/-- The two scales. -/
def sg (c : Dev nD) : EReal := m ((c : Thread nD τ).loc main_arg0) (ix2 0 0)

def su (c : Dev nD) : EReal := m ((c : Thread nD τ).loc main_arg1) (ix2 0 0)

/-- What one grid point adds to the products. -/
def accT (c : Dev nD) (t : Fin cfg0.N) (y : S2048x3200.Idx) : EReal := accb (iblk m c 0 t) (iblk m c 1 t) (iblk m c 2 t) (iblk m c 3 t) (iblk m c 4 t) (iblk m c 7 t) (iblk m c 8 t) (iblk m c 9 t) (iblk m c 5 t) (iblk m c 6 t) y

/-- The gate's and the up projection's term of one block and one column. -/
def gT (c : Dev nD) (y : S2048x3200.Idx) (t : Fin cfg0.N) (j : Fin 256) : EReal :=
  DGb (iblk m c 0 t) (iblk m c 1 t) (iblk m c 2 t) (iblk m c 3 t) (iblk m c 4 t) (iblk m c 7 t) (iblk m c 8 t) (iblk m c 9 t) (y 0) j * (((iblk m c 5 t (ix2 (y 1) j) : BitVec 8).toInt : ℝ) : EReal)

def uT (c : Dev nD) (y : S2048x3200.Idx) (t : Fin cfg0.N) (j : Fin 256) : EReal :=
  DUb (iblk m c 0 t) (iblk m c 1 t) (iblk m c 2 t) (iblk m c 3 t) (iblk m c 4 t) (iblk m c 7 t) (iblk m c 8 t) (iblk m c 9 t) (y 0) j * (((iblk m c 6 t (ix2 (y 1) j) : BitVec 8).toInt : ℝ) : EReal)

theorem accT_eq (c : Dev nD) (t : Fin cfg0.N) (y : S2048x3200.Idx) :
    accT m c t y = sg m c * (∑ j : Fin 256, gT m c y t j)
      + su m c * (∑ j : Fin 256, uT m c y t j) := by
  unfold accT accb
  rw [gg_in m c t, gu_in m c t]
  rfl

theorem top_gT (c : Dev nD) (h : sg m c = ⊤) (y : S2048x3200.Idx) (t : Fin cfg0.N) (j : Fin 256) : ⊤ * gT m c y t j = gT m c y t j := by
  unfold gT DGb
  rw [(gg_in m c t).trans h, ← mul_assoc, top_dg]

/-- The first scale goes into the sum over the blocks also when it is infinite. -/
theorem mul_sum_gate (c : Dev nD) (hg0 : 0 ≤ sg m c) (y : S2048x3200.Idx) (p : Fin 34 → Fin cfg0.N) :
    sg m c * ∑ s : Fin 34, ∑ j : Fin 256, gT m c y (p s) j = ∑ s : Fin 34, sg m c * ∑ j : Fin 256, gT m c y (p s) j := by
  by_cases h : sg m c = ⊤
  · have e : ∀ s : Fin 34, ⊤ * ∑ j : Fin 256, gT m c y (p s) j = ∑ j : Fin 256, gT m c y (p s) j :=
      fun s => top_sum _ _ fun j _ => top_gT m c h y (p s) j
    rw [h, top_sum _ _ fun s _ => e s]
    exact Finset.sum_congr rfl fun s _ => (e s).symm
  · exact mul_sum_of _ _ _ hg0 h

theorem acc_sum (c : Dev nD) (hg0 : 0 ≤ sg m c)
    (hu0 : 0 ≤ su m c) (hu1 : su m c ≠ ⊤)
    (t : Fin cfg0.N) (hr : t.val % 34 = 34 - 1) (y : S2048x3200.Idx) :
    (outsAt0 m c t.val t.isLt).1 y = (DxnSpec.dxn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) y : EReal) := by
  refine (Pipeline.eq_sum_fin_of_reset_step_apply_of_flush (fun n h (y : S2048x3200.Idx) => ((outsAt0 m c n h).1 y : EReal)) 34
    (fun _ => 0) (accT m c) (fun t h y => b10_A m c t h y) (fun t h y => b10_B m c t h y) t hr y).trans ?_
  have ht : t.val < 34 := t.isLt
  rw [zero_add, Finset.sum_congr rfl fun s _ => accT_eq m c _ y, Finset.sum_add_distrib, ← mul_sum_gate m c hg0 y, ← mul_sum_of _ _ _ hu0 hu1]
  refine congrArg₂ (· + ·) (congrArg₂ (· * ·) rfl ?_) (congrArg₂ (· * ·) rfl ?_)
  · refine sum_cols _ _ (fun s j f hf => congrArg₂ (· * ·) (DGb_in m c _ _ j f ?_) ?_) fun s j h => ?_
    · show (f : ℕ) = 256 * (34 * (t.val / 34) + s.val) + j; omega
    · rw [cg_in m c _ j (y 1) f (by show (f : ℕ) = 256 * (34 * (t.val / 34) + s.val) + j; omega)]
    · exact (congrArg₂ (· * ·) (DGb_out m c _ _ j (by show 8640 ≤ 256 * (34 * (t.val / 34) + s.val) + j; omega)) rfl).trans (zero_mul _)
  · refine sum_cols _ _ (fun s j f hf => congrArg₂ (· * ·) (DUb_in m c _ _ j f ?_) ?_) fun s j h => ?_
    · show (f : ℕ) = 256 * (34 * (t.val / 34) + s.val) + j; omega
    · rw [cu_in m c _ j (y 1) f (by show (f : ℕ) = 256 * (34 * (t.val / 34) + s.val) + j; omega)]
    · exact (congrArg₂ (· * ·) (DUb_out m c _ _ j (by show 8640 ≤ 256 * (34 * (t.val / 34) + s.val) + j; omega)) rfl).trans (zero_mul _)

theorem final10 (c : Dev nD) (hg0 : 0 ≤ sg m c)
    (hu0 : 0 ≤ su m c) (hu1 : su m c ≠ ⊤) :
    (dats m 0 c).arrAt 10 (cfgs 0).N = DxnSpec.dxn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  rw [after0_10]
  generalize hj : (((cfg0.win 10).blk t).view.emb y) = j
  obtain rfl : j = y := by rw [← hj]; blk_ext [idx t]
  exact acc_sum m c hg0 hu0 hu1 t ((flush0_10 t).mp hf) j

end Cert.DxnKernelIdeal.Val

end
-- ==== Proof.lean ====
/- The claims: for the down call, for the weight-gradient call and for the dxn call, the frames of the call, of its ideal program and of the reference, and
   that the ideal program and the reference compute the same arrays. -/
module

public import proofs.«01_k».proof.Defs
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.DownKernelIdeal.Value
public import proofs.«01_k».proof.Proof.Gen.DownReferenceIdeal.Value
public import proofs.«01_k».proof.Proof.DownRef
public import proofs.«01_k».proof.Proof.DownSums
public import proofs.«01_k».proof.Proof.Gen.DwKernel
public import proofs.«01_k».proof.Proof.Gen.DwKernelIdeal
public import proofs.«01_k».proof.Proof.Gen.DwKernelIdeal.Skeleton
public import proofs.«01_k».proof.Proof.Gen.DwKernelIdeal.Launch
public import proofs.«01_k».proof.Proof.Gen.DwKernelIdeal.Points
public import proofs.«01_k».proof.Proof.Gen.DwKernelIdeal.Frame
public import proofs.«01_k».proof.Proof.Gen.DwReferenceIdeal
public import proofs.«01_k».proof.Proof.Gen.DwKernelIdeal.Loops
public import proofs.«01_k».proof.Proof.DwBits
public import proofs.«01_k».proof.Proof.DwRunBlocks
public import proofs.«01_k».proof.Proof.DwFinal
public import proofs.«01_k».proof.Proof.DwRef
public import proofs.«01_k».proof.Proof.Gen.DxnKernel
public import proofs.«01_k».proof.Proof.Gen.DxnKernel.Skeleton
public import proofs.«01_k».proof.Proof.Gen.DxnKernel.Launch
public import proofs.«01_k».proof.Proof.Gen.DxnKernel.Points
public import proofs.«01_k».proof.Proof.Gen.DxnKernel.Frame
public import proofs.«01_k».proof.Proof.Gen.DxnKernelIdeal
public import proofs.«01_k».proof.Proof.Gen.DxnKernelIdeal.Skeleton
public import proofs.«01_k».proof.Proof.Gen.DxnKernelIdeal.Launch
public import proofs.«01_k».proof.Proof.Gen.DxnKernelIdeal.Points
public import proofs.«01_k».proof.Proof.Gen.DxnKernelIdeal.Frame
public import proofs.«01_k».proof.Proof.Gen.DxnReferenceIdeal
public import proofs.«01_k».proof.Proof.Gen.DxnReferenceIdeal.Skeleton
public import proofs.«01_k».proof.Proof.Gen.DxnReferenceIdeal.Launch
public import proofs.«01_k».proof.Proof.Gen.DxnReferenceIdeal.Points
public import proofs.«01_k».proof.Proof.Gen.DxnReferenceIdeal.Frame
public import proofs.«01_k».proof.Proof.Gen.DxnKernelIdeal.Value
public import proofs.«01_k».proof.Proof.Gen.DxnReferenceIdeal.Value
public import proofs.«01_k».proof.Proof.DxnRef
public import proofs.«01_k».proof.Proof.DxnScales
public import proofs.«01_k».proof.Proof.DxnSums
public import Idealize.ShloMosaic.Adequacy
public import Idealize.ShloMosaic.Init

@[expose] public section

noncomputable section

namespace Cert.Proof

open Idealize.ShloMosaic Idealize.SL.Sem Cert.DownKernel

/-- The down call and its plain reference compute the same six arrays over the extended reals. -/
theorem down_algebraic : Cert.algebraic_DownKernelIdeal_DownReferenceIdeal (hDownKernelIdeal := Cert.DownKernelIdeal.Gen.facts)
    (hDownReferenceIdeal := Cert.DownReferenceIdeal.Gen.facts) := by
  intro m g m' g' _ hagree
  refine ⟨_, _, _, _, _, _, Cert.DownKernelIdeal.Value.run_blocks m g, ?_⟩
  refine (θ_run _ _ _).mono (fun r h c => ?_) (Cert.DownReferenceIdeal.Value.run_blocks m' g')
  obtain ⟨h0, h1, h2, h3, h4, h5, h6, h7, h8⟩ := hagree c
  obtain ⟨r0, r1, r2, r3, r4, r5, k⟩ := h c
  refine ⟨r0.trans ?_, r1.trans ?_, r2.trans ?_, r3.trans ?_, r4.trans ?_, r5.trans ?_, k⟩
  · rw [Cert.DownReferenceIdeal.Val.final9 m' c, h2, h3, h4]; exact (Cert.DownKernelIdeal.Val.final9 m c).symm
  · rw [Cert.DownReferenceIdeal.Val.final10 m' c, h0, h1, h5, h6, h7, h8]; exact (Cert.DownKernelIdeal.Val.final10 m c).symm
  · rw [Cert.DownReferenceIdeal.Val.final11 m' c, h0, h1, h3, h5, h6, h7, h8]; exact (Cert.DownKernelIdeal.Val.final11 m c).symm
  · rw [Cert.DownReferenceIdeal.Val.final12 m' c, h0, h1, h2, h3, h4, h5, h6, h7]; exact (Cert.DownKernelIdeal.Val.final12 m c).symm
  · rw [Cert.DownReferenceIdeal.Val.final13 m' c, h0, h1, h4, h5, h6, h7, h8]; exact (Cert.DownKernelIdeal.Val.final13 m c).symm
  · rw [Cert.DownReferenceIdeal.Val.final14 m' c, h0, h1, h2, h3, h4, h5, h6, h7, h8]; exact (Cert.DownKernelIdeal.Val.final14 m c).symm

/-- The weight-gradient call and its plain reference compute the same six arrays over the extended reals. -/
theorem dw_algebraic : Cert.algebraic_DwKernelIdeal_DwReferenceIdeal (hDwKernelIdeal := Cert.DwKernelIdeal.Gen.facts)
    (hDwReferenceIdeal := Cert.DwReferenceIdeal.Gen.facts) := by
  intro m g m' g' _ hagree
  refine ⟨_, _, _, _, _, _, Cert.DwKernelIdeal.Value.run_blocks m g, ?_⟩
  refine (θ_run _ _ _).mono (fun r h c => ?_) (Cert.DwReferenceIdeal.Val.run m' g')
  obtain ⟨h0, h1, h2, h3, h4, h5, h6, h7, h8, h9, h10⟩ := hagree c
  obtain ⟨r0, r1, r2, r3, r4, r5, k⟩ := h c
  refine ⟨r0.trans ?_, r1.trans ?_, r2.trans ?_, r3.trans ?_, r4.trans ?_, r5.trans ?_, k⟩
  · rw [h1, h2]; exact (Cert.DwKernelIdeal.Val.final11 m c).symm
  · rw [h1, h3]; exact (Cert.DwKernelIdeal.Val.final12 m c).symm
  · rw [h0, h4, h8, h9]; exact (Cert.DwKernelIdeal.Val.final13 m c).symm
  · rw [h4, h5, h6, h7, h10]; exact (Cert.DwKernelIdeal.Val.final14 m c).symm
  · rw [h4, h6, h7, h10]; exact (Cert.DwKernelIdeal.Val.final15 m c).symm
  · rw [h4, h7, h10]; exact (Cert.DwKernelIdeal.Val.final16 m c).symm

/-- The dxn call and its plain reference compute the same three arrays over the extended reals, where both scales are nonnegative and the second is finite. -/
theorem dxn_algebraic : Cert.algebraic_DxnKernelIdeal_DxnReferenceIdeal_pre_proper_scales (hDxnKernelIdeal := Cert.DxnKernelIdeal.Gen.facts)
    (hDxnReferenceIdeal := Cert.DxnReferenceIdeal.Gen.facts) (hPre_proper_scales := Cert.DxnScales.facts) := by
  intro m g m' g' hpre hagree
  refine ⟨_, _, _, Cert.DxnKernelIdeal.Value.run_blocks m g, ?_⟩
  refine (θ_run _ _ _).mono (fun r h c => ?_) (Cert.DxnReferenceIdeal.Value.run_blocks m' g')
  obtain ⟨h0, h1, h2, h3, h4, h5, h6, h7, h8, h9⟩ := hagree c
  obtain ⟨r0, r1, r2, k⟩ := h c
  obtain ⟨a0, b0, b1⟩ := Cert.DxnScales.of_pre _ _ _ _ _ _ _ _ _ _ (hpre c)
  refine ⟨r0.trans ?_, r1.trans ?_, r2.trans ?_, k⟩
  · rw [Cert.DxnReferenceIdeal.Val.final10 m' c, h0, h1, h2, h3, h4, h5, h6, h7, h8, h9]; exact (Cert.DxnKernelIdeal.Val.final10 m c a0 b0 b1).symm
  · rw [Cert.DxnReferenceIdeal.Val.final11 m' c, h0, h1, h2, h3, h4, h7, h8, h9]; exact (Cert.DxnKernelIdeal.Val.final11 m c).symm
  · rw [Cert.DxnReferenceIdeal.Val.final12 m' c, h0, h1, h2, h3, h4, h7, h8, h9]; exact (Cert.DxnKernelIdeal.Val.final12 m c).symm

theorem claim : Cert.Claim := ⟨Cert.DownKernel.Gen.facts, Cert.DownKernelIdeal.Gen.facts, Cert.DownReferenceIdeal.Gen.facts,
  Cert.DwKernel.Gen.facts, Cert.DwKernelIdeal.Gen.facts, Cert.DwReferenceIdeal.Gen.facts,
  Cert.DxnKernel.Gen.facts, Cert.DxnKernelIdeal.Gen.facts, Cert.DxnReferenceIdeal.Gen.facts, Cert.DxnScales.facts,
  fun m ρ _ => Cert.DownKernel.Gen.frame m ρ, fun m ρ _ => Cert.DownKernelIdeal.Gen.frame m ρ,
  fun m ρ _ => Cert.DownReferenceIdeal.Gen.frame m ρ, dw_quiescent, fun m ρ _ => Cert.DwKernelIdeal.Gen.frame m ρ,
  Cert.DwReferenceIdeal.Val.frame, fun m ρ _ => Cert.DxnKernel.Gen.frame m ρ, fun m ρ _ => Cert.DxnKernelIdeal.Gen.frame m ρ,
  fun m ρ _ => Cert.DxnKernelIdeal.Gen.frame m ρ, fun m ρ _ => Cert.DxnReferenceIdeal.Gen.frame m ρ,
  fun m ρ _ => Cert.DxnReferenceIdeal.Gen.frame m ρ, trivial, down_algebraic, trivial, dw_algebraic, trivial, dxn_algebraic⟩

end Cert.Proof

end
